-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8x1024x256 : Shape := ⟨4, ![2, 8, 1024, 256]⟩
abbrev S2x8x1024x512 : Shape := ⟨4, ![2, 8, 1024, 512]⟩
abbrev S2x8x16 : Shape := ⟨3, ![2, 8, 16]⟩
abbrev S2x8x1024 : Shape := ⟨3, ![2, 8, 1024]⟩
abbrev S_ : Shape := ⟨0, ![]⟩

class Facts : Prop where
  bcast_S_S2x8x1024x256 : S_.BroadcastsInDim S2x8x1024x256 (![] : Fin 0 → Fin S2x8x1024x256.rank)
  reducesTo_S2x8x1024x256_S_d0_1_2_3 : S2x8x1024x256.ReducesTo [0, 1, 2, 3] S_
  h_S_ : 0 < S_.numel
  bcast_S_S2x8x1024x512 : S_.BroadcastsInDim S2x8x1024x512 (![] : Fin 0 → Fin S2x8x1024x512.rank)
  reducesTo_S2x8x1024x512_S_d0_1_2_3 : S2x8x1024x512.ReducesTo [0, 1, 2, 3] S_
  bcast_S_S2x8x16 : S_.BroadcastsInDim S2x8x16 (![] : Fin 0 → Fin S2x8x16.rank)
  reducesTo_S2x8x16_S_d0_1_2 : S2x8x16.ReducesTo [0, 1, 2] S_
  bcast_S_S2x8x1024 : S_.BroadcastsInDim S2x8x1024 (![] : Fin 0 → Fin S2x8x1024.rank)
  reducesTo_S2x8x1024_S_d0_1_2 : S2x8x1024.ReducesTo [0, 1, 2] S_

variable [Facts]

def fn_part1 {F : FTy → Type} [FloatOps F] (main_arg4 : FVec F S2x8x16 .f32) (main_arg5 : FVec F S2x8x16 .f32) (main_arg6 : FVec F S2x8x1024 .f32) (main_arg7 : FVec F S2x8x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 :=
  let main_v16 : FVec F S2x8x16 .f32 := subf main_arg4 main_arg4
  let main_cst_6 : FVec F S_ .f32 := constant S_ .f32 0x00000000#32
  let main_v17 : FVec F S2x8x16 .f32 := broadcastInDim S2x8x16 ![] bcast_S_S2x8x16 main_cst_6
  let main_v18 : IVec S2x8x16 1 := cmpf .oeq main_v16 main_v17
  let main_c_7 : IVec S_ 1 := constantI S_ 1 1#1
  let main_v19 : IVec S_ 1 := (fun x v => Host.reduce IntOp.andi x v reducesTo_S2x8x16_S_d0_1_2 h_S_) main_v18 main_c_7
  let main_v20 : FVec F S2x8x16 .f32 := subf main_arg5 main_arg5
  let main_cst_8 : FVec F S_ .f32 := constant S_ .f32 0x00000000#32
  let main_v21 : FVec F S2x8x16 .f32 := broadcastInDim S2x8x16 ![] bcast_S_S2x8x16 main_cst_8
  let main_v22 : IVec S2x8x16 1 := cmpf .oeq main_v20 main_v21
  let main_c_9 : IVec S_ 1 := constantI S_ 1 1#1
  let main_v23 : IVec S_ 1 := (fun x v => Host.reduce IntOp.andi x v reducesTo_S2x8x16_S_d0_1_2 h_S_) main_v22 main_c_9
  let main_v24 : FVec F S2x8x1024 .f32 := subf main_arg6 main_arg6
  let main_cst_10 : FVec F S_ .f32 := constant S_ .f32 0x00000000#32
  let main_v25 : FVec F S2x8x1024 .f32 := broadcastInDim S2x8x1024 ![] bcast_S_S2x8x1024 main_cst_10
  let main_v26 : IVec S2x8x1024 1 := cmpf .oeq main_v24 main_v25
  let main_c_11 : IVec S_ 1 := constantI S_ 1 1#1
  let main_v27 : IVec S_ 1 := (fun x v => Host.reduce IntOp.andi x v reducesTo_S2x8x1024_S_d0_1_2 h_S_) main_v26 main_c_11
  let main_v28 : FVec F S2x8x1024 .f32 := subf main_arg7 main_arg7
  let main_cst_12 : FVec F S_ .f32 := constant S_ .f32 0x00000000#32
  let main_v29 : FVec F S2x8x1024 .f32 := broadcastInDim S2x8x1024 ![] bcast_S_S2x8x1024 main_cst_12
  let main_v30 : IVec S2x8x1024 1 := cmpf .oeq main_v28 main_v29
  let main_c_13 : IVec S_ 1 := constantI S_ 1 1#1
  let main_v31 : IVec S_ 1 := (fun x v => Host.reduce IntOp.andi x v reducesTo_S2x8x1024_S_d0_1_2 h_S_) main_v30 main_c_13
  (main_v3, main_v7, main_v11, main_v15, main_v19, main_v23, main_v27, main_v31)

def fn {F : FTy → Type} [FloatOps F] (main_arg0 : FVec F S2x8x1024x256 .f32) (main_arg1 : FVec F S2x8x1024x256 .f32) (main_arg2 : FVec F S2x8x1024x512 .f32) (main_arg3 : FVec F S2x8x16 .f32) (main_arg4 : FVec F S2x8x16 .f32) (main_arg5 : FVec F S2x8x16 .f32) (main_arg6 : FVec F S2x8x1024 .f32) (main_arg7 : FVec F S2x8x1024 .f32) : IVec S_ 1 × IVec S_ 1 × IVec S_ 1 × IVec S_ 1 × IVec S_ 1 × IVec S_ 1 × IVec S_ 1 × IVec S_ 1 :=
  let main_v0 : FVec F S2x8x1024x256 .f32 := subf main_arg0 main_arg0
  let main_cst : FVec F S_ .f32 := constant S_ .f32 0x00000000#32
  let main_v1 : FVec F S2x8x1024x256 .f32 := broadcastInDim S2x8x1024x256 ![] bcast_S_S2x8x1024x256 main_cst
  let main_v2 : IVec S2x8x1024x256 1 := cmpf .oeq main_v0 main_v1
  let main_c : IVec S_ 1 := constantI S_ 1 1#1
  let main_v3 : IVec S_ 1 := (fun x v => Host.reduce IntOp.andi x v reducesTo_S2x8x1024x256_S_d0_1_2_3 h_S_) main_v2 main_c
  let main_v4 : FVec F S2x8x1024x256 .f32 := subf main_arg1 main_arg1
  let main_cst_0 : FVec F S_ .f32 := constant S_ .f32 0x00000000#32
  let main_v5 : FVec F S2x8x1024x256 .f32 := broadcastInDim S2x8x1024x256 ![] bcast_S_S2x8x1024x256 main_cst_0
  let main_v6 : IVec S2x8x1024x256 1 := cmpf .oeq main_v4 main_v5
  let main_c_1 : IVec S_ 1 := constantI S_ 1 1#1
  let main_v7 : IVec S_ 1 := (fun x v => Host.reduce IntOp.andi x v reducesTo_S2x8x1024x256_S_d0_1_2_3 h_S_) main_v6 main_c_1
  let main_v8 : FVec F S2x8x1024x512 .f32 := subf main_arg2 main_arg2
  let main_cst_2 : FVec F S_ .f32 := constant S_ .f32 0x00000000#32
  let main_v9 : FVec F S2x8x1024x512 .f32 := broadcastInDim S2x8x1024x512 ![] bcast_S_S2x8x1024x512 main_cst_2
  let main_v10 : IVec S2x8x1024x512 1 := cmpf .oeq main_v8 main_v9
  let main_c_3 : IVec S_ 1 := constantI S_ 1 1#1
  let main_v11 : IVec S_ 1 := (fun x v => Host.reduce IntOp.andi x v reducesTo_S2x8x1024x512_S_d0_1_2_3 h_S_) main_v10 main_c_3
  let main_v12 : FVec F S2x8x16 .f32 := subf main_arg3 main_arg3
  let main_cst_4 : FVec F S_ .f32 := constant S_ .f32 0x00000000#32
  let main_v13 : FVec F S2x8x16 .f32 := broadcastInDim S2x8x16 ![] bcast_S_S2x8x16 main_cst_4
  let main_v14 : IVec S2x8x16 1 := cmpf .oeq main_v12 main_v13
  let main_c_5 : IVec S_ 1 := constantI S_ 1 1#1
  let main_v15 : IVec S_ 1 := (fun x v => Host.reduce IntOp.andi x v reducesTo_S2x8x16_S_d0_1_2 h_S_) main_v14 main_c_5
  fn_part1 (F := F) main_arg4 main_arg5 main_arg6 main_arg7 main_v3 main_v7 main_v11 main_v15
-- ==== Kernel.lean ====
abbrev S2x8x1024x256 : Shape := ⟨4, ![2, 8, 1024, 256]⟩
abbrev S2x8x1024x512 : Shape := ⟨4, ![2, 8, 1024, 512]⟩
abbrev S2x8x16 : Shape := ⟨3, ![2, 8, 16]⟩
abbrev S2x8x1024 : Shape := ⟨3, ![2, 8, 1024]⟩
abbrev S16x1024x256 : Shape := ⟨3, ![16, 1024, 256]⟩
abbrev S16x1024x512 : Shape := ⟨3, ![16, 1024, 512]⟩
abbrev S16x1024 : Shape := ⟨2, ![16, 1024]⟩
abbrev S16x16 : Shape := ⟨2, ![16, 16]⟩
abbrev S16x256x512 : Shape := ⟨3, ![16, 256, 512]⟩
abbrev S16x256 : Shape := ⟨2, ![16, 256]⟩
abbrev S2x8 : Shape := ⟨2, ![2, 8]⟩
abbrev S1x1024x256 : Shape := ⟨3, ![1, 1024, 256]⟩
abbrev S1x1024x512 : Shape := ⟨3, ![1, 1024, 512]⟩
abbrev S1x256x512 : Shape := ⟨3, ![1, 256, 512]⟩
abbrev S132x16x128 : Shape := ⟨3, ![132, 16, 128]⟩
abbrev S16x128 : Shape := ⟨2, ![16, 128]⟩
abbrev S256x512 : Shape := ⟨2, ![256, 512]⟩
abbrev S128x128 : Shape := ⟨2, ![128, 128]⟩
abbrev S128 : Shape := ⟨1, ![128]⟩
abbrev S128x1 : Shape := ⟨2, ![128, 1]⟩
abbrev S16x1 : Shape := ⟨2, ![16, 1]⟩
abbrev S1x16x128 : Shape := ⟨3, ![1, 16, 128]⟩
abbrev S128x16 : Shape := ⟨2, ![128, 16]⟩
abbrev S1x16 : Shape := ⟨2, ![1, 16]⟩
abbrev S1x8 : Shape := ⟨2, ![1, 8]⟩
abbrev S64x128 : Shape := ⟨2, ![64, 128]⟩
abbrev S256x128 : Shape := ⟨2, ![256, 128]⟩
abbrev S1x256 : Shape := ⟨2, ![1, 256]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S128x256 : Shape := ⟨2, ![128, 256]⟩
abbrev S1x1x128 : Shape := ⟨3, ![1, 1, 128]⟩
abbrev S1x128 : Shape := ⟨2, ![1, 128]⟩
abbrev S256x256 : Shape := ⟨2, ![256, 256]⟩
abbrev S4x256 : Shape := ⟨2, ![4, 256]⟩
abbrev S256 : Shape := ⟨1, ![256]⟩
abbrev S64 : Shape := ⟨1, ![64]⟩
abbrev S64x1 : Shape := ⟨2, ![64, 1]⟩
abbrev S128x512 : Shape := ⟨2, ![128, 512]⟩
abbrev S1x128x512 : Shape := ⟨3, ![1, 128, 512]⟩
abbrev S1x512 : Shape := ⟨2, ![1, 512]⟩

abbrev nBuf : Space → Nat
  | .hbm => 23
  | .vmem => 20
  | .smem => 0
  | _ => 0

abbrev bufTy : (tb : Table) → Fin (tcTables nBuf tb) → BufTy
  | .hbm, ⟨0, _⟩ => ⟨S2x8x1024x256, .f32⟩
  | .hbm, ⟨1, _⟩ => ⟨S2x8x1024x256, .f32⟩
  | .hbm, ⟨2, _⟩ => ⟨S2x8x1024x512, .f32⟩
  | .hbm, ⟨3, _⟩ => ⟨S2x8x16, .f32⟩
  | .hbm, ⟨4, _⟩ => ⟨S2x8x16, .f32⟩
  | .hbm, ⟨5, _⟩ => ⟨S2x8x16, .f32⟩
  | .hbm, ⟨6, _⟩ => ⟨S2x8x1024, .f32⟩
  | .hbm, ⟨7, _⟩ => ⟨S2x8x1024, .f32⟩
  | .hbm, ⟨8, _⟩ => ⟨S2x8x1024x256, .fp8e4m3⟩
  | .hbm, ⟨9, _⟩ => ⟨S2x8x1024x256, .fp8e4m3⟩
  | .hbm, ⟨10, _⟩ => ⟨S2x8x1024x512, .fp8e4m3⟩
  | .hbm, ⟨11, _⟩ => ⟨S16x1024x256, .fp8e4m3⟩
  | .hbm, ⟨12, _⟩ => ⟨S16x1024x256, .fp8e4m3⟩
  | .hbm, ⟨13, _⟩ => ⟨S16x1024x512, .fp8e4m3⟩
  | .hbm, ⟨14, _⟩ => ⟨S16x1024, .f32⟩
  | .hbm, ⟨15, _⟩ => ⟨S16x1024, .f32⟩
  | .hbm, ⟨16, _⟩ => ⟨S16x16, .f32⟩
  | .hbm, ⟨17, _⟩ => ⟨S16x16, .f32⟩
  | .hbm, ⟨18, _⟩ => ⟨S16x16, .f32⟩
  | .hbm, ⟨19, _⟩ => ⟨S16x1024x512, .bf16⟩
  | .hbm, ⟨20, _⟩ => ⟨S16x256x512, .f32⟩
  | .hbm, ⟨21, _⟩ => ⟨S16x256, .f32⟩
  | .hbm, ⟨22, _⟩ => ⟨S2x8, .f32⟩
  | .local _ .vmem, ⟨0, _⟩ => ⟨S1x1024x256, .fp8e4m3⟩
  | .local _ .vmem, ⟨1, _⟩ => ⟨S1x1024x256, .fp8e4m3⟩
  | .local _ .vmem, ⟨2, _⟩ => ⟨S1x1024x256, .fp8e4m3⟩
  | .local _ .vmem, ⟨3, _⟩ => ⟨S1x1024x256, .fp8e4m3⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S16x1024, .f32⟩
  | .local _ .vmem, ⟨7, _⟩ => ⟨S16x1024, .f32⟩
  | .local _ .vmem, ⟨8, _⟩ => ⟨S16x16, .f32⟩
  | .local _ .vmem, ⟨9, _⟩ => ⟨S16x16, .f32⟩
  | .local _ .vmem, ⟨10, _⟩ => ⟨S16x16, .f32⟩
  | .local _ .vmem, ⟨11, _⟩ => ⟨S1x1024x512, .bf16⟩
  | .local _ .vmem, ⟨12, _⟩ => ⟨S1x1024x512, .bf16⟩
  | .local _ .vmem, ⟨13, _⟩ => ⟨S1x256x512, .f32⟩
  | .local _ .vmem, ⟨14, _⟩ => ⟨S1x256x512, .f32⟩
  | .local _ .vmem, ⟨15, _⟩ => ⟨S16x256, .f32⟩
  | .local _ .vmem, ⟨16, _⟩ => ⟨S2x8, .f32⟩
  | .local _ .vmem, ⟨17, _⟩ => ⟨S132x16x128, .f32⟩
  | .local _ .vmem, ⟨18, _⟩ => ⟨S16x128, .f32⟩
  | .local _ .vmem, ⟨19, _⟩ => ⟨S256x512, .f32⟩
  | _, _ => ⟨S2x8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c8 : Index := 8#32
  let arg0 : BitVec 32 := BitVec.ofNat 32 (i 0).val
  let v127 : Index := Scalar.indexCast arg0
  let c0_55 : Index := 0#32
  ![8, v127.toNat, 0]
def k0_off2 (i : grid0.Coords) : Fin 3 → Nat :=
  let c9 : Index := 9#32
  let arg0 : BitVec 32 := BitVec.ofNat 32 (i 0).val
  let v132 : Index := Scalar.indexCast arg0
  let c0_56 : Index := 0#32
  ![9, v132.toNat, 0]
def k0_off3 (i : grid0.Coords) : Fin 3 → Nat :=
  let c6 : Index := 6#32
  let arg0 : BitVec 32 := BitVec.ofNat 32 (i 0).val
  let v139 : Index := Scalar.indexCast arg0
  let c0_57 : Index := 0#32
  ![6, v139.toNat, 0]
def k0_off4 (i : grid0.Coords) : Fin 3 → Nat :=
  let c4 : Index := 4#32
  let arg0 : BitVec 32 := BitVec.ofNat 32 (i 0).val
  let v144 : Index := Scalar.indexCast arg0
  let c0_58 : Index := 0#32
  ![4, v144.toNat, 0]
def k0_off5 (i : grid0.Coords) : Fin 3 → Nat :=
  let c7 : Index := 7#32
  let arg0 : BitVec 32 := BitVec.ofNat 32 (i 0).val
  let v154 : Index := Scalar.indexCast arg0
  let c0_60 : Index := 0#32
  ![7, v154.toNat, 0]
def k0_off6 (i : grid0.Coords) : Fin 3 → Nat :=
  let c5 : Index := 5#32
  let arg0 : BitVec 32 := BitVec.ofNat 32 (i 0).val
  let v159 : Index := Scalar.indexCast arg0
  let c0_61 : Index := 0#32
  ![5, v159.toNat, 0]
def k0_off7 (i : grid0.Coords) : Fin 3 → Nat :=
  let c0_63 : Index := 0#32
  let arg0 : BitVec 32 := BitVec.ofNat 32 (i 0).val
  let v175 : Index := Scalar.indexCast arg0
  let c0_64 : Index := 0#32
  ![0, v175.toNat, 0]
def k0_off8 (i : grid0.Coords) : Fin 3 → Nat :=
  let c1 : Index := 1#32
  let arg0 : BitVec 32 := BitVec.ofNat 32 (i 0).val
  let v183 : Index := Scalar.indexCast arg0
  let c0_65 : Index := 0#32
  ![1, v183.toNat, 0]
def k0_off9 (i : grid0.Coords) : Fin 3 → Nat :=
  let c3 : Index := 3#32
  let arg0 : BitVec 32 := BitVec.ofNat 32 (i 0).val
  let v190 : Index := Scalar.indexCast arg0
  let c0_66 : Index := 0#32
  ![3, v190.toNat, 0]
def k0_off10 (i : grid0.Coords) : Fin 3 → Nat :=
  let c2 : Index := 2#32
  let arg0 : BitVec 32 := BitVec.ofNat 32 (i 0).val
  let v214 : Index := Scalar.indexCast arg0
  let c0_70 : Index := 0#32
  ![2, v214.toNat, 0]
def k0_off11 (i : grid0.Coords) : Fin 3 → Nat :=
  let c25 : Index := 25#32
  let arg0 : BitVec 32 := BitVec.ofNat 32 (i 0).val
  let v254 : Index := Scalar.indexCast arg0
  let c0_77 : Index := 0#32
  ![25, v254.toNat, 0]
def k0_off12 (i : grid0.Coords) : Fin 3 → Nat :=
  let c29 : Index := 29#32
  let arg0 : BitVec 32 := BitVec.ofNat 32 (i 0).val
  let v259 : Index := Scalar.indexCast arg0
  let c0_78 : Index := 0#32
  ![29, v259.toNat, 0]
def k0_off13 (i : grid0.Coords) : Fin 3 → Nat :=
  let c26 : Index := 26#32
  let arg0 : BitVec 32 := BitVec.ofNat 32 (i 0).val
  let v266 : Index := Scalar.indexCast arg0
  let c0_79 : Index := 0#32
  ![26, v266.toNat, 0]
def k0_off14 (i : grid0.Coords) : Fin 3 → Nat :=
  let c30 : Index := 30#32
  let arg0 : BitVec 32 := BitVec.ofNat 32 (i 0).val
  let v271 : Index := Scalar.indexCast arg0
  let c0_80 : Index := 0#32
  ![30, v271.toNat, 0]
def k0_off15 (i : grid0.Coords) : Fin 3 → Nat :=
  let c27 : Index := 27#32
  let arg0 : BitVec 32 := BitVec.ofNat 32 (i 0).val
  let v278 : Index := Scalar.indexCast arg0
  let c0_81 : Index := 0#32
  ![27, v278.toNat, 0]
def k0_off16 (i : grid0.Coords) : Fin 3 → Nat :=
  let c31 : Index := 31#32
  let arg0 : BitVec 32 := BitVec.ofNat 32 (i 0).val
  let v283 : Index := Scalar.indexCast arg0
  let c0_82 : Index := 0#32
  ![31, v283.toNat, 0]
def k0_off17 (i : grid0.Coords) : Fin 3 → Nat :=
  let c28 : Index := 28#32
  let arg0 : BitVec 32 := BitVec.ofNat 32 (i 0).val
  let v290 : Index := Scalar.indexCast arg0
  let c0_83 : Index := 0#32
  ![28, v290.toNat, 0]
def k0_off18 (i : grid0.Coords) : Fin 3 → Nat :=
  let c32 : Index := 32#32
  let arg0 : BitVec 32 := BitVec.ofNat 32 (i 0).val
  let v295 : Index := Scalar.indexCast arg0
  let c0_84 : Index := 0#32
  ![32, v295.toNat, 0]
def k0_off19 (i : grid0.Coords) : Fin 3 → Nat :=
  let c10 : Index := 10#32
  let arg0 : BitVec 32 := BitVec.ofNat 32 (i 0).val
  let v322 : Index := Scalar.indexCast arg0
  let c0_89 : Index := 0#32
  ![10, v322.toNat, 0]
def k0_off20 (i : grid0.Coords) : Fin 3 → Nat :=
  let c11 : Index := 11#32
  let arg0 : BitVec 32 := BitVec.ofNat 32 (i 0).val
  let v332 : Index := Scalar.indexCast arg0
  let c0_91 : Index := 0#32
  ![11, v332.toNat, 0]
def k0_off21 (i : grid0.Coords) : Fin 3 → Nat :=
  let c16 : Index := 16#32
  let arg0 : BitVec 32 := BitVec.ofNat 32 (i 0).val
  let v344 : Index := Scalar.indexCast arg0
  let c0_94 : Index := 0#32
  ![16, v344.toNat, 0]
def k0_off22 (i : grid0.Coords) : Fin 3 → Nat :=
  let c17 : Index := 17#32
  let arg0 : BitVec 32 := BitVec.ofNat 32 (i 0).val
  let v349 : Index := Scalar.indexCast arg0
  let c0_95 : Index := 0#32
  ![17, v349.toNat, 0]
def k0_off23 (i : grid0.Coords) : Fin 3 → Nat :=
  let c24 : Index := 24#32
  let arg0 : BitVec 32 := BitVec.ofNat 32 (i 0).val
  let v372 : Index := Scalar.indexCast arg0
  let c0_97 : Index := 0#32
  ![24, v372.toNat, 0]
def k0_off24 (i : grid0.Coords) : Fin 3 → Nat :=
  let c14 : Index := 14#32
  let arg0 : BitVec 32 := BitVec.ofNat 32 (i 0).val
  let v413 : Index := Scalar.indexCast arg0
  let c0_109 : Index := 0#32
  ![14, v413.toNat, 0]
def k0_off25 (i : grid0.Coords) : Fin 3 → Nat :=
  let c20 : Index := 20#32
  let arg0 : BitVec 32 := BitVec.ofNat 32 (i 0).val
  let v423 : Index := Scalar.indexCast arg0
  let c0_111 : Index := 0#32
  ![20, v423.toNat, 0]
def k0_off26 (i : grid0.Coords) : Fin 3 → Nat :=
  let c21 : Index := 21#32
  let arg0 : BitVec 32 := BitVec.ofNat 32 (i 0).val
  let v428 : Index := Scalar.indexCast arg0
  let c0_112 : Index := 0#32
  ![21, v428.toNat, 0]
def k0_off27 (i : grid0.Coords) : Fin 3 → Nat :=
  let c15 : Index := 15#32
  let arg0 : BitVec 32 := BitVec.ofNat 32 (i 0).val
  let v449 : Index := Scalar.indexCast arg0
  let c0_120 : Index := 0#32
  ![15, v449.toNat, 0]
def k0_off28 (i : grid0.Coords) : Fin 3 → Nat :=
  let c22 : Index := 22#32
  let arg0 : BitVec 32 := BitVec.ofNat 32 (i 0).val
  let v459 : Index := Scalar.indexCast arg0
  let c0_122 : Index := 0#32
  ![22, v459.toNat, 0]
def k0_off29 (i : grid0.Coords) : Fin 3 → Nat :=
  let c23 : Index := 23#32
  let arg0 : BitVec 32 := BitVec.ofNat 32 (i 0).val
  let v464 : Index := Scalar.indexCast arg0
  let c0_123 : Index := 0#32
  ![23, v464.toNat, 0]
def k0_off30 (i : grid0.Coords) : Fin 3 → Nat :=
  let c13 : Index := 13#32
  let arg0 : BitVec 32 := BitVec.ofNat 32 (i 0).val
  let v489 : Index := Scalar.indexCast arg0
  let c0_131 : Index := 0#32
  ![13, v489.toNat, 0]
def k0_off31 (i : grid0.Coords) : Fin 3 → Nat :=
  let c19 : Index := 19#32
  let arg0 : BitVec 32 := BitVec.ofNat 32 (i 0).val
  let v499 : Index := Scalar.indexCast arg0
  let c0_132 : Index := 0#32
  ![19, v499.toNat, 0]
def k0_off32 (i : grid0.Coords) : Fin 3 → Nat :=
  let c41 : Index := 41#32
  let arg0 : BitVec 32 := BitVec.ofNat 32 (i 0).val
  let v557 : Index := Scalar.indexCast arg0
  let c0_172 : Index := 0#32
  ![41, v557.toNat, 0]
def k0_off33 (i : grid0.Coords) : Fin 3 → Nat :=
  let c42 : Index := 42#32
  let arg0 : BitVec 32 := BitVec.ofNat 32 (i 0).val
  let v562 : Index := Scalar.indexCast arg0
  let c0_173 : Index := 0#32
  ![42, v562.toNat, 0]
def k0_off34 (i : grid0.Coords) : Fin 3 → Nat :=
  let c39 : Index := 39#32
  let arg0 : BitVec 32 := BitVec.ofNat 32 (i 0).val
  let v569 : Index := Scalar.indexCast arg0
  let c0_174 : Index := 0#32
  ![39, v569.toNat, 0]
def k0_off35 (i : grid0.Coords) : Fin 3 → Nat :=
  let c37 : Index := 37#32
  let arg0 : BitVec 32 := BitVec.ofNat 32 (i 0).val
  let v574 : Index := Scalar.indexCast arg0
  let c0_175 : Index := 0#32
  ![37, v574.toNat, 0]
def k0_off36 (i : grid0.Coords) : Fin 3 → Nat :=
  let c40 : Index := 40#32
  let arg0 : BitVec 32 := BitVec.ofNat 32 (i 0).val
  let v584 : Index := Scalar.indexCast arg0
  let c0_177 : Index := 0#32
  ![40, v584.toNat, 0]
def k0_off37 (i : grid0.Coords) : Fin 3 → Nat :=
  let c38 : Index := 38#32
  let arg0 : BitVec 32 := BitVec.ofNat 32 (i 0).val
  let v589 : Index := Scalar.indexCast arg0
  let c0_178 : Index := 0#32
  ![38, v589.toNat, 0]
def k0_off38 (i : grid0.Coords) : Fin 3 → Nat :=
  let c33 : Index := 33#32
  let arg0 : BitVec 32 := BitVec.ofNat 32 (i 0).val
  let v605 : Index := Scalar.indexCast arg0
  let c0_180 : Index := 0#32
  ![33, v605.toNat, 0]
def k0_off39 (i : grid0.Coords) : Fin 3 → Nat :=
  let c34 : Index := 34#32
  let arg0 : BitVec 32 := BitVec.ofNat 32 (i 0).val
  let v613 : Index := Scalar.indexCast arg0
  let c0_181 : Index := 0#32
  ![34, v613.toNat, 0]
def k0_off40 (i : grid0.Coords) : Fin 3 → Nat :=
  let c36 : Index := 36#32
  let arg0 : BitVec 32 := BitVec.ofNat 32 (i 0).val
  let v620 : Index := Scalar.indexCast arg0
  let c0_182 : Index := 0#32
  ![36, v620.toNat, 0]
def k0_off41 (i : grid0.Coords) : Fin 3 → Nat :=
  let c35 : Index := 35#32
  let arg0 : BitVec 32 := BitVec.ofNat 32 (i 0).val
  let v644 : Index := Scalar.indexCast arg0
  let c0_186 : Index := 0#32
  ![35, v644.toNat, 0]
def k0_off42 (i : grid0.Coords) : Fin 3 → Nat :=
  let c58 : Index := 58#32
  let arg0 : BitVec 32 := BitVec.ofNat 32 (i 0).val
  let v684 : Index := Scalar.indexCast arg0
  let c0_193 : Index := 0#32
  ![58, v684.toNat, 0]
def k0_off43 (i : grid0.Coords) : Fin 3 → Nat :=
  let c62 : Index := 62#32
  let arg0 : BitVec 32 := BitVec.ofNat 32 (i 0).val
  let v689 : Index := Scalar.indexCast arg0
  let c0_194 : Index := 0#32
  ![62, v689.toNat, 0]
def k0_off44 (i : grid0.Coords) : Fin 3 → Nat :=
  let c59 : Index := 59#32
  let arg0 : BitVec 32 := BitVec.ofNat 32 (i 0).val
  let v696 : Index := Scalar.indexCast arg0
  let c0_195 : Index := 0#32
  ![59, v696.toNat, 0]
def k0_off45 (i : grid0.Coords) : Fin 3 → Nat :=
  let c63 : Index := 63#32
  let arg0 : BitVec 32 := BitVec.ofNat 32 (i 0).val
  let v701 : Index := Scalar.indexCast arg0
  let c0_196 : Index := 0#32
  ![63, v701.toNat, 0]
def k0_off46 (i : grid0.Coords) : Fin 3 → Nat :=
  let c60 : Index := 60#32
  let arg0 : BitVec 32 := BitVec.ofNat 32 (i 0).val
  let v708 : Index := Scalar.indexCast arg0
  let c0_197 : Index := 0#32
  ![60, v708.toNat, 0]
def k0_off47 (i : grid0.Coords) : Fin 3 → Nat :=
  let c64_198 : Index := 64#32
  let arg0 : BitVec 32 := BitVec.ofNat 32 (i 0).val
  let v713 : Index := Scalar.indexCast arg0
  let c0_199 : Index := 0#32
  ![64, v713.toNat, 0]
def k0_off48 (i : grid0.Coords) : Fin 3 → Nat :=
  let c61 : Index := 61#32
  let arg0 : BitVec 32 := BitVec.ofNat 32 (i 0).val
  let v720 : Index := Scalar.indexCast arg0
  let c0_200 : Index := 0#32
  ![61, v720.toNat, 0]
def k0_off49 (i : grid0.Coords) : Fin 3 → Nat :=
  let c65 : Index := 65#32
  let arg0 : BitVec 32 := BitVec.ofNat 32 (i 0).val
  let v725 : Index := Scalar.indexCast arg0
  let c0_201 : Index := 0#32
  ![65, v725.toNat, 0]
def k0_off50 (i : grid0.Coords) : Fin 3 → Nat :=
  let c43 : Index := 43#32
  let arg0 : BitVec 32 := BitVec.ofNat 32 (i 0).val
  let v752 : Index := Scalar.indexCast arg0
  let c0_206 : Index := 0#32
  ![43, v752.toNat, 0]
def k0_off51 (i : grid0.Coords) : Fin 3 → Nat :=
  let c44 : Index := 44#32
  let arg0 : BitVec 32 := BitVec.ofNat 32 (i 0).val
  let v762 : Index := Scalar.indexCast arg0
  let c0_208 : Index := 0#32
  ![44, v762.toNat, 0]
def k0_off52 (i : grid0.Coords) : Fin 3 → Nat :=
  let c49 : Index := 49#32
  let arg0 : BitVec 32 := BitVec.ofNat 32 (i 0).val
  let v774 : Index := Scalar.indexCast arg0
  let c0_211 : Index := 0#32
  ![49, v774.toNat, 0]
def k0_off53 (i : grid0.Coords) : Fin 3 → Nat :=
  let c50 : Index := 50#32
  let arg0 : BitVec 32 := BitVec.ofNat 32 (i 0).val
  let v779 : Index := Scalar.indexCast arg0
  let c0_212 : Index := 0#32
  ![50, v779.toNat, 0]
def k0_off54 (i : grid0.Coords) : Fin 3 → Nat :=
  let c57 : Index := 57#32
  let arg0 : BitVec 32 := BitVec.ofNat 32 (i 0).val
  let v802 : Index := Scalar.indexCast arg0
  let c0_214 : Index := 0#32
  ![57, v802.toNat, 0]
def k0_off55 (i : grid0.Coords) : Fin 3 → Nat :=
  let c47 : Index := 47#32
  let arg0 : BitVec 32 := BitVec.ofNat 32 (i 0).val
  let v843 : Index := Scalar.indexCast arg0
  let c0_226 : Index := 0#32
  ![47, v843.toNat, 0]
def k0_off56 (i : grid0.Coords) : Fin 3 → Nat :=
  let c53 : Index := 53#32
  let arg0 : BitVec 32 := BitVec.ofNat 32 (i 0).val
  let v853 : Index := Scalar.indexCast arg0
  let c0_228 : Index := 0#32
  ![53, v853.toNat, 0]
def k0_off57 (i : grid0.Coords) : Fin 3 → Nat :=
  let c54 : Index := 54#32
  let arg0 : BitVec 32 := BitVec.ofNat 32 (i 0).val
  let v858 : Index := Scalar.indexCast arg0
  let c0_229 : Index := 0#32
  ![54, v858.toNat, 0]
def k0_off58 (i : grid0.Coords) : Fin 3 → Nat :=
  let c45 : Index := 45#32
  let arg0 : BitVec 32 := BitVec.ofNat 32 (i 0).val
  let v883 : Index := Scalar.indexCast arg0
  let c0_237 : Index := 0#32
  ![45, v883.toNat, 0]
def k0_off59 (i : grid0.Coords) : Fin 3 → Nat :=
  let c51 : Index := 51#32
  let arg0 : BitVec 32 := BitVec.ofNat 32 (i 0).val
  let v893 : Index := Scalar.indexCast arg0
  let c0_238 : Index := 0#32
  ![51, v893.toNat, 0]
def k0_off60 (i : grid0.Coords) : Fin 3 → Nat :=
  let c48 : Index := 48#32
  let arg0 : BitVec 32 := BitVec.ofNat 32 (i 0).val
  let v910 : Index := Scalar.indexCast arg0
  let c0_244 : Index := 0#32
  ![48, v910.toNat, 0]
def k0_off61 (i : grid0.Coords) : Fin 3 → Nat :=
  let c55 : Index := 55#32
  let arg0 : BitVec 32 := BitVec.ofNat 32 (i 0).val
  let v920 : Index := Scalar.indexCast arg0
  let c0_246 : Index := 0#32
  ![55, v920.toNat, 0]
def k0_off62 (i : grid0.Coords) : Fin 3 → Nat :=
  let c56 : Index := 56#32
  let arg0 : BitVec 32 := BitVec.ofNat 32 (i 0).val
  let v925 : Index := Scalar.indexCast arg0
  let c0_247 : Index := 0#32
  ![56, v925.toNat, 0]
def k0_off63 (i : grid0.Coords) : Fin 3 → Nat :=
  let c46 : Index := 46#32
  let arg0 : BitVec 32 := BitVec.ofNat 32 (i 0).val
  let v950 : Index := Scalar.indexCast arg0
  let c0_255 : Index := 0#32
  ![46, v950.toNat, 0]
def k0_off64 (i : grid0.Coords) : Fin 3 → Nat :=
  let c52 : Index := 52#32
  let arg0 : BitVec 32 := BitVec.ofNat 32 (i 0).val
  let v960 : Index := Scalar.indexCast arg0
  let c0_256 : Index := 0#32
  ![52, v960.toNat, 0]
def k0_off65 (i : grid0.Coords) : Fin 3 → Nat :=
  let c74 : Index := 74#32
  let arg0 : BitVec 32 := BitVec.ofNat 32 (i 0).val
  let v1018 : Index := Scalar.indexCast arg0
  let c0_296 : Index := 0#32
  ![74, v1018.toNat, 0]
def k0_off66 (i : grid0.Coords) : Fin 3 → Nat :=
  let c75 : Index := 75#32
  let arg0 : BitVec 32 := BitVec.ofNat 32 (i 0).val
  let v1023 : Index := Scalar.indexCast arg0
  let c0_297 : Index := 0#32
  ![75, v1023.toNat, 0]
def k0_off67 (i : grid0.Coords) : Fin 3 → Nat :=
  let c72 : Index := 72#32
  let arg0 : BitVec 32 := BitVec.ofNat 32 (i 0).val
  let v1030 : Index := Scalar.indexCast arg0
  let c0_298 : Index := 0#32
  ![72, v1030.toNat, 0]
def k0_off68 (i : grid0.Coords) : Fin 3 → Nat :=
  let c70 : Index := 70#32
  let arg0 : BitVec 32 := BitVec.ofNat 32 (i 0).val
  let v1035 : Index := Scalar.indexCast arg0
  let c0_299 : Index := 0#32
  ![70, v1035.toNat, 0]
def k0_off69 (i : grid0.Coords) : Fin 3 → Nat :=
  let c73 : Index := 73#32
  let arg0 : BitVec 32 := BitVec.ofNat 32 (i 0).val
  let v1045 : Index := Scalar.indexCast arg0
  let c0_301 : Index := 0#32
  ![73, v1045.toNat, 0]
def k0_off70 (i : grid0.Coords) : Fin 3 → Nat :=
  let c71 : Index := 71#32
  let arg0 : BitVec 32 := BitVec.ofNat 32 (i 0).val
  let v1050 : Index := Scalar.indexCast arg0
  let c0_302 : Index := 0#32
  ![71, v1050.toNat, 0]
def k0_off71 (i : grid0.Coords) : Fin 3 → Nat :=
  let c66 : Index := 66#32
  let arg0 : BitVec 32 := BitVec.ofNat 32 (i 0).val
  let v1066 : Index := Scalar.indexCast arg0
  let c0_304 : Index := 0#32
  ![66, v1066.toNat, 0]
def k0_off72 (i : grid0.Coords) : Fin 3 → Nat :=
  let c67 : Index := 67#32
  let arg0 : BitVec 32 := BitVec.ofNat 32 (i 0).val
  let v1074 : Index := Scalar.indexCast arg0
  let c0_305 : Index := 0#32
  ![67, v1074.toNat, 0]
def k0_off73 (i : grid0.Coords) : Fin 3 → Nat :=
  let c69 : Index := 69#32
  let arg0 : BitVec 32 := BitVec.ofNat 32 (i 0).val
  let v1081 : Index := Scalar.indexCast arg0
  let c0_306 : Index := 0#32
  ![69, v1081.toNat, 0]
def k0_off74 (i : grid0.Coords) : Fin 3 → Nat :=
  let c68 : Index := 68#32
  let arg0 : BitVec 32 := BitVec.ofNat 32 (i 0).val
  let v1105 : Index := Scalar.indexCast arg0
  let c0_310 : Index := 0#32
  ![68, v1105.toNat, 0]
def k0_off75 (i : grid0.Coords) : Fin 3 → Nat :=
  let c91 : Index := 91#32
  let arg0 : BitVec 32 := BitVec.ofNat 32 (i 0).val
  let v1145 : Index := Scalar.indexCast arg0
  let c0_317 : Index := 0#32
  ![91, v1145.toNat, 0]
def k0_off76 (i : grid0.Coords) : Fin 3 → Nat :=
  let c95 : Index := 95#32
  let arg0 : BitVec 32 := BitVec.ofNat 32 (i 0).val
  let v1150 : Index := Scalar.indexCast arg0
  let c0_318 : Index := 0#32
  ![95, v1150.toNat, 0]
def k0_off77 (i : grid0.Coords) : Fin 3 → Nat :=
  let c92 : Index := 92#32
  let arg0 : BitVec 32 := BitVec.ofNat 32 (i 0).val
  let v1157 : Index := Scalar.indexCast arg0
  let c0_319 : Index := 0#32
  ![92, v1157.toNat, 0]
def k0_off78 (i : grid0.Coords) : Fin 3 → Nat :=
  let c96 : Index := 96#32
  let arg0 : BitVec 32 := BitVec.ofNat 32 (i 0).val
  let v1162 : Index := Scalar.indexCast arg0
  let c0_320 : Index := 0#32
  ![96, v1162.toNat, 0]
def k0_off79 (i : grid0.Coords) : Fin 3 → Nat :=
  let c93 : Index := 93#32
  let arg0 : BitVec 32 := BitVec.ofNat 32 (i 0).val
  let v1169 : Index := Scalar.indexCast arg0
  let c0_321 : Index := 0#32
  ![93, v1169.toNat, 0]
def k0_off80 (i : grid0.Coords) : Fin 3 → Nat :=
  let c97 : Index := 97#32
  let arg0 : BitVec 32 := BitVec.ofNat 32 (i 0).val
  let v1174 : Index := Scalar.indexCast arg0
  let c0_322 : Index := 0#32
  ![97, v1174.toNat, 0]
def k0_off81 (i : grid0.Coords) : Fin 3 → Nat :=
  let c94 : Index := 94#32
  let arg0 : BitVec 32 := BitVec.ofNat 32 (i 0).val
  let v1181 : Index := Scalar.indexCast arg0
  let c0_323 : Index := 0#32
  ![94, v1181.toNat, 0]
def k0_off82 (i : grid0.Coords) : Fin 3 → Nat :=
  let c98 : Index := 98#32
  let arg0 : BitVec 32 := BitVec.ofNat 32 (i 0).val
  let v1186 : Index := Scalar.indexCast arg0
  let c0_324 : Index := 0#32
  ![98, v1186.toNat, 0]
def k0_off83 (i : grid0.Coords) : Fin 3 → Nat :=
  let c76 : Index := 76#32
  let arg0 : BitVec 32 := BitVec.ofNat 32 (i 0).val
  let v1213 : Index := Scalar.indexCast arg0
  let c0_329 : Index := 0#32
  ![76, v1213.toNat, 0]
def k0_off84 (i : grid0.Coords) : Fin 3 → Nat :=
  let c77 : Index := 77#32
  let arg0 : BitVec 32 := BitVec.ofNat 32 (i 0).val
  let v1223 : Index := Scalar.indexCast arg0
  let c0_331 : Index := 0#32
  ![77, v1223.toNat, 0]
def k0_off85 (i : grid0.Coords) : Fin 3 → Nat :=
  let c82 : Index := 82#32
  let arg0 : BitVec 32 := BitVec.ofNat 32 (i 0).val
  let v1235 : Index := Scalar.indexCast arg0
  let c0_334 : Index := 0#32
  ![82, v1235.toNat, 0]
def k0_off86 (i : grid0.Coords) : Fin 3 → Nat :=
  let c83 : Index := 83#32
  let arg0 : BitVec 32 := BitVec.ofNat 32 (i 0).val
  let v1240 : Index := Scalar.indexCast arg0
  let c0_335 : Index := 0#32
  ![83, v1240.toNat, 0]
def k0_off87 (i : grid0.Coords) : Fin 3 → Nat :=
  let c90 : Index := 90#32
  let arg0 : BitVec 32 := BitVec.ofNat 32 (i 0).val
  let v1263 : Index := Scalar.indexCast arg0
  let c0_337 : Index := 0#32
  ![90, v1263.toNat, 0]
def k0_off88 (i : grid0.Coords) : Fin 3 → Nat :=
  let c80 : Index := 80#32
  let arg0 : BitVec 32 := BitVec.ofNat 32 (i 0).val
  let v1304 : Index := Scalar.indexCast arg0
  let c0_349 : Index := 0#32
  ![80, v1304.toNat, 0]
def k0_off89 (i : grid0.Coords) : Fin 3 → Nat :=
  let c86 : Index := 86#32
  let arg0 : BitVec 32 := BitVec.ofNat 32 (i 0).val
  let v1314 : Index := Scalar.indexCast arg0
  let c0_351 : Index := 0#32
  ![86, v1314.toNat, 0]
def k0_off90 (i : grid0.Coords) : Fin 3 → Nat :=
  let c87 : Index := 87#32
  let arg0 : BitVec 32 := BitVec.ofNat 32 (i 0).val
  let v1319 : Index := Scalar.indexCast arg0
  let c0_352 : Index := 0#32
  ![87, v1319.toNat, 0]
def k0_off91 (i : grid0.Coords) : Fin 3 → Nat :=
  let c78 : Index := 78#32
  let arg0 : BitVec 32 := BitVec.ofNat 32 (i 0).val
  let v1344 : Index := Scalar.indexCast arg0
  let c0_360 : Index := 0#32
  ![78, v1344.toNat, 0]
def k0_off92 (i : grid0.Coords) : Fin 3 → Nat :=
  let c84 : Index := 84#32
  let arg0 : BitVec 32 := BitVec.ofNat 32 (i 0).val
  let v1354 : Index := Scalar.indexCast arg0
  let c0_361 : Index := 0#32
  ![84, v1354.toNat, 0]
def k0_off93 (i : grid0.Coords) : Fin 3 → Nat :=
  let c81 : Index := 81#32
  let arg0 : BitVec 32 := BitVec.ofNat 32 (i 0).val
  let v1371 : Index := Scalar.indexCast arg0
  let c0_367 : Index := 0#32
  ![81, v1371.toNat, 0]
def k0_off94 (i : grid0.Coords) : Fin 3 → Nat :=
  let c88 : Index := 88#32
  let arg0 : BitVec 32 := BitVec.ofNat 32 (i 0).val
  let v1381 : Index := Scalar.indexCast arg0
  let c0_369 : Index := 0#32
  ![88, v1381.toNat, 0]
def k0_off95 (i : grid0.Coords) : Fin 3 → Nat :=
  let c89 : Index := 89#32
  let arg0 : BitVec 32 := BitVec.ofNat 32 (i 0).val
  let v1386 : Index := Scalar.indexCast arg0
  let c0_370 : Index := 0#32
  ![89, v1386.toNat, 0]
def k0_off96 (i : grid0.Coords) : Fin 3 → Nat :=
  let c79 : Index := 79#32
  let arg0 : BitVec 32 := BitVec.ofNat 32 (i 0).val
  let v1411 : Index := Scalar.indexCast arg0
  let c0_378 : Index := 0#32
  ![79, v1411.toNat, 0]
def k0_off97 (i : grid0.Coords) : Fin 3 → Nat :=
  let c85 : Index := 85#32
  let arg0 : BitVec 32 := BitVec.ofNat 32 (i 0).val
  let v1421 : Index := Scalar.indexCast arg0
  let c0_379 : Index := 0#32
  ![85, v1421.toNat, 0]
def k0_off98 (i : grid0.Coords) : Fin 3 → Nat :=
  let c107 : Index := 107#32
  let arg0 : BitVec 32 := BitVec.ofNat 32 (i 0).val
  let v1479 : Index := Scalar.indexCast arg0
  let c0_419 : Index := 0#32
  ![107, v1479.toNat, 0]
def k0_off99 (i : grid0.Coords) : Fin 3 → Nat :=
  let c108 : Index := 108#32
  let arg0 : BitVec 32 := BitVec.ofNat 32 (i 0).val
  let v1484 : Index := Scalar.indexCast arg0
  let c0_420 : Index := 0#32
  ![108, v1484.toNat, 0]
def k0_off100 (i : grid0.Coords) : Fin 3 → Nat :=
  let c105 : Index := 105#32
  let arg0 : BitVec 32 := BitVec.ofNat 32 (i 0).val
  let v1491 : Index := Scalar.indexCast arg0
  let c0_421 : Index := 0#32
  ![105, v1491.toNat, 0]
def k0_off101 (i : grid0.Coords) : Fin 3 → Nat :=
  let c103 : Index := 103#32
  let arg0 : BitVec 32 := BitVec.ofNat 32 (i 0).val
  let v1496 : Index := Scalar.indexCast arg0
  let c0_422 : Index := 0#32
  ![103, v1496.toNat, 0]
def k0_off102 (i : grid0.Coords) : Fin 3 → Nat :=
  let c106 : Index := 106#32
  let arg0 : BitVec 32 := BitVec.ofNat 32 (i 0).val
  let v1506 : Index := Scalar.indexCast arg0
  let c0_424 : Index := 0#32
  ![106, v1506.toNat, 0]
def k0_off103 (i : grid0.Coords) : Fin 3 → Nat :=
  let c104 : Index := 104#32
  let arg0 : BitVec 32 := BitVec.ofNat 32 (i 0).val
  let v1511 : Index := Scalar.indexCast arg0
  let c0_425 : Index := 0#32
  ![104, v1511.toNat, 0]
def k0_off104 (i : grid0.Coords) : Fin 3 → Nat :=
  let c99 : Index := 99#32
  let arg0 : BitVec 32 := BitVec.ofNat 32 (i 0).val
  let v1527 : Index := Scalar.indexCast arg0
  let c0_427 : Index := 0#32
  ![99, v1527.toNat, 0]
def k0_off105 (i : grid0.Coords) : Fin 3 → Nat :=
  let c100 : Index := 100#32
  let arg0 : BitVec 32 := BitVec.ofNat 32 (i 0).val
  let v1535 : Index := Scalar.indexCast arg0
  let c0_428 : Index := 0#32
  ![100, v1535.toNat, 0]
def k0_off106 (i : grid0.Coords) : Fin 3 → Nat :=
  let c102 : Index := 102#32
  let arg0 : BitVec 32 := BitVec.ofNat 32 (i 0).val
  let v1542 : Index := Scalar.indexCast arg0
  let c0_429 : Index := 0#32
  ![102, v1542.toNat, 0]
def k0_off107 (i : grid0.Coords) : Fin 3 → Nat :=
  let c101 : Index := 101#32
  let arg0 : BitVec 32 := BitVec.ofNat 32 (i 0).val
  let v1566 : Index := Scalar.indexCast arg0
  let c0_433 : Index := 0#32
  ![101, v1566.toNat, 0]
def k0_off108 (i : grid0.Coords) : Fin 3 → Nat :=
  let c124 : Index := 124#32
  let arg0 : BitVec 32 := BitVec.ofNat 32 (i 0).val
  let v1606 : Index := Scalar.indexCast arg0
  let c0_440 : Index := 0#32
  ![124, v1606.toNat, 0]
def k0_off109 (i : grid0.Coords) : Fin 3 → Nat :=
  let c128_441 : Index := 128#32
  let arg0 : BitVec 32 := BitVec.ofNat 32 (i 0).val
  let v1611 : Index := Scalar.indexCast arg0
  let c0_442 : Index := 0#32
  ![128, v1611.toNat, 0]
def k0_off110 (i : grid0.Coords) : Fin 3 → Nat :=
  let c125 : Index := 125#32
  let arg0 : BitVec 32 := BitVec.ofNat 32 (i 0).val
  let v1618 : Index := Scalar.indexCast arg0
  let c0_443 : Index := 0#32
  ![125, v1618.toNat, 0]
def k0_off111 (i : grid0.Coords) : Fin 3 → Nat :=
  let c129 : Index := 129#32
  let arg0 : BitVec 32 := BitVec.ofNat 32 (i 0).val
  let v1623 : Index := Scalar.indexCast arg0
  let c0_444 : Index := 0#32
  ![129, v1623.toNat, 0]
def k0_off112 (i : grid0.Coords) : Fin 3 → Nat :=
  let c126 : Index := 126#32
  let arg0 : BitVec 32 := BitVec.ofNat 32 (i 0).val
  let v1630 : Index := Scalar.indexCast arg0
  let c0_445 : Index := 0#32
  ![126, v1630.toNat, 0]
def k0_off113 (i : grid0.Coords) : Fin 3 → Nat :=
  let c130 : Index := 130#32
  let arg0 : BitVec 32 := BitVec.ofNat 32 (i 0).val
  let v1635 : Index := Scalar.indexCast arg0
  let c0_446 : Index := 0#32
  ![130, v1635.toNat, 0]
def k0_off114 (i : grid0.Coords) : Fin 3 → Nat :=
  let c127 : Index := 127#32
  let arg0 : BitVec 32 := BitVec.ofNat 32 (i 0).val
  let v1642 : Index := Scalar.indexCast arg0
  let c0_447 : Index := 0#32
  ![127, v1642.toNat, 0]
def k0_off115 (i : grid0.Coords) : Fin 3 → Nat :=
  let c131 : Index := 131#32
  let arg0 : BitVec 32 := BitVec.ofNat 32 (i 0).val
  let v1647 : Index := Scalar.indexCast arg0
  let c0_448 : Index := 0#32
  ![131, v1647.toNat, 0]
def k0_off116 (i : grid0.Coords) : Fin 3 → Nat :=
  let c109 : Index := 109#32
  let arg0 : BitVec 32 := BitVec.ofNat 32 (i 0).val
  let v1674 : Index := Scalar.indexCast arg0
  let c0_453 : Index := 0#32
  ![109, v1674.toNat, 0]
def k0_off117 (i : grid0.Coords) : Fin 3 → Nat :=
  let c110 : Index := 110#32
  let arg0 : BitVec 32 := BitVec.ofNat 32 (i 0).val
  let v1684 : Index := Scalar.indexCast arg0
  let c0_455 : Index := 0#32
  ![110, v1684.toNat, 0]
def k0_off118 (i : grid0.Coords) : Fin 3 → Nat :=
  let c115 : Index := 115#32
  let arg0 : BitVec 32 := BitVec.ofNat 32 (i 0).val
  let v1696 : Index := Scalar.indexCast arg0
  let c0_458 : Index := 0#32
  ![115, v1696.toNat, 0]
def k0_off119 (i : grid0.Coords) : Fin 3 → Nat :=
  let c116 : Index := 116#32
  let arg0 : BitVec 32 := BitVec.ofNat 32 (i 0).val
  let v1701 : Index := Scalar.indexCast arg0
  let c0_459 : Index := 0#32
  ![116, v1701.toNat, 0]
def k0_off120 (i : grid0.Coords) : Fin 3 → Nat :=
  let c123 : Index := 123#32
  let arg0 : BitVec 32 := BitVec.ofNat 32 (i 0).val
  let v1724 : Index := Scalar.indexCast arg0
  let c0_461 : Index := 0#32
  ![123, v1724.toNat, 0]
def k0_off121 (i : grid0.Coords) : Fin 3 → Nat :=
  let c113 : Index := 113#32
  let arg0 : BitVec 32 := BitVec.ofNat 32 (i 0).val
  let v1765 : Index := Scalar.indexCast arg0
  let c0_473 : Index := 0#32
  ![113, v1765.toNat, 0]
def k0_off122 (i : grid0.Coords) : Fin 3 → Nat :=
  let c119 : Index := 119#32
  let arg0 : BitVec 32 := BitVec.ofNat 32 (i 0).val
  let v1775 : Index := Scalar.indexCast arg0
  let c0_475 : Index := 0#32
  ![119, v1775.toNat, 0]
def k0_off123 (i : grid0.Coords) : Fin 3 → Nat :=
  let c120 : Index := 120#32
  let arg0 : BitVec 32 := BitVec.ofNat 32 (i 0).val
  let v1780 : Index := Scalar.indexCast arg0
  let c0_476 : Index := 0#32
  ![120, v1780.toNat, 0]
def k0_off124 (i : grid0.Coords) : Fin 3 → Nat :=
  let c111 : Index := 111#32
  let arg0 : BitVec 32 := BitVec.ofNat 32 (i 0).val
  let v1805 : Index := Scalar.indexCast arg0
  let c0_484 : Index := 0#32
  ![111, v1805.toNat, 0]
def k0_off125 (i : grid0.Coords) : Fin 3 → Nat :=
  let c117 : Index := 117#32
  let arg0 : BitVec 32 := BitVec.ofNat 32 (i 0).val
  let v1815 : Index := Scalar.indexCast arg0
  let c0_485 : Index := 0#32
  ![117, v1815.toNat, 0]
def k0_off126 (i : grid0.Coords) : Fin 3 → Nat :=
  let c114 : Index := 114#32
  let arg0 : BitVec 32 := BitVec.ofNat 32 (i 0).val
  let v1832 : Index := Scalar.indexCast arg0
  let c0_491 : Index := 0#32
  ![114, v1832.toNat, 0]
def k0_off127 (i : grid0.Coords) : Fin 3 → Nat :=
  let c121 : Index := 121#32
  let arg0 : BitVec 32 := BitVec.ofNat 32 (i 0).val
  let v1842 : Index := Scalar.indexCast arg0
  let c0_493 : Index := 0#32
  ![121, v1842.toNat, 0]
def k0_off128 (i : grid0.Coords) : Fin 3 → Nat :=
  let c122 : Index := 122#32
  let arg0 : BitVec 32 := BitVec.ofNat 32 (i 0).val
  let v1847 : Index := Scalar.indexCast arg0
  let c0_494 : Index := 0#32
  ![122, v1847.toNat, 0]
def k0_off129 (i : grid0.Coords) : Fin 3 → Nat :=
  let c112 : Index := 112#32
  let arg0 : BitVec 32 := BitVec.ofNat 32 (i 0).val
  let v1872 : Index := Scalar.indexCast arg0
  let c0_502 : Index := 0#32
  ![112, v1872.toNat, 0]
def k0_off130 (i : grid0.Coords) : Fin 3 → Nat :=
  let c118 : Index := 118#32
  let arg0 : BitVec 32 := BitVec.ofNat 32 (i 0).val
  let v1882 : Index := Scalar.indexCast arg0
  let c0_503 : Index := 0#32
  ![118, v1882.toNat, 0]
def k0_off131 (i : grid0.Coords) : Fin 2 → Nat :=
  let arg0 : BitVec 32 := BitVec.ofNat 32 (i 0).val
  let v1893 : Index := Scalar.indexCast arg0
  let c0_507 : Index := 0#32
  ![v1893.toNat, 0]
def k0_off132 (i : grid0.Coords) : Fin 2 → Nat :=
  let arg0 : BitVec 32 := BitVec.ofNat 32 (i 0).val
  let v1901 : Index := Scalar.indexCast arg0
  let c0_511 : Index := 0#32
  ![v1901.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x8x1024x256 : Shape := ⟨4, ![2, 8, 1024, 256]⟩
abbrev S2x8x1024x512 : Shape := ⟨4, ![2, 8, 1024, 512]⟩
abbrev S2x8x16 : Shape := ⟨3, ![2, 8, 16]⟩
abbrev S2x8x1024 : Shape := ⟨3, ![2, 8, 1024]⟩
abbrev S16x1024x256 : Shape := ⟨3, ![16, 1024, 256]⟩
abbrev S16x1024x512 : Shape := ⟨3, ![16, 1024, 512]⟩
abbrev S16x16 : Shape := ⟨2, ![16, 16]⟩
abbrev S16x1024 : Shape := ⟨2, ![16, 1024]⟩
abbrev S16x256x512 : Shape := ⟨3, ![16, 256, 512]⟩
abbrev S16x64x64 : Shape := ⟨3, ![16, 64, 64]⟩
abbrev S16x1x256 : Shape := ⟨3, ![16, 1, 256]⟩
abbrev S16x1x1 : Shape := ⟨3, ![16, 1, 1]⟩
abbrev S16x64x256 : Shape := ⟨3, ![16, 64, 256]⟩
abbrev S16x64x512 : Shape := ⟨3, ![16, 64, 512]⟩
abbrev S16x1 : Shape := ⟨2, ![16, 1]⟩
abbrev S16x64 : Shape := ⟨2, ![16, 64]⟩
abbrev S16x1x64 : Shape := ⟨3, ![16, 1, 64]⟩
abbrev S16 : Shape := ⟨1, ![16]⟩
abbrev S16x64x1 : Shape := ⟨3, ![16, 64, 1]⟩
abbrev S16x256 : Shape := ⟨2, ![16, 256]⟩

abbrev nBuf : Space → Nat
  | .hbm => 21
  | .vmem => 10
  | .smem => 0
  | _ => 0

abbrev bufTy : (tb : Table) → Fin (tcTables nBuf tb) → BufTy
  | .hbm, ⟨0, _⟩ => ⟨S2x8x1024x256, .f32⟩
  | .hbm, ⟨1, _⟩ => ⟨S2x8x1024x256, .f32⟩
  | .hbm, ⟨2, _⟩ => ⟨S2x8x1024x512, .f32⟩
  | .hbm, ⟨3, _⟩ => ⟨S2x8x16, .f32⟩
  | .hbm, ⟨4, _⟩ => ⟨S2x8x16, .f32⟩
  | .hbm, ⟨5, _⟩ => ⟨S2x8x16, .f32⟩
  | .hbm, ⟨6, _⟩ => ⟨S2x8x1024, .f32⟩
  | .hbm, ⟨7, _⟩ => ⟨S2x8x1024, .f32⟩
  | .hbm, ⟨8, _⟩ => ⟨S2x8x1024x256, .fp8e4m3⟩
  | .hbm, ⟨9, _⟩ => ⟨S2x8x1024x256, .fp8e4m3⟩
  | .hbm, ⟨10, _⟩ => ⟨S2x8x1024x512, .fp8e4m3⟩
  | .hbm, ⟨11, _⟩ => ⟨S16x1024x256, .fp8e4m3⟩
  | .hbm, ⟨12, _⟩ => ⟨S16x1024x256, .fp8e4m3⟩
  | .hbm, ⟨13, _⟩ => ⟨S16x1024x512, .fp8e4m3⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S16x1024, .f32⟩
  | .hbm, ⟨18, _⟩ => ⟨S16x1024, .f32⟩
  | .hbm, ⟨19, _⟩ => ⟨S16x1024x512, .bf16⟩
  | .hbm, ⟨20, _⟩ => ⟨S16x256x512, .f32⟩
  | .local _ .vmem, ⟨0, _⟩ => ⟨S16x1024x256, .fp8e4m3⟩
  | .local _ .vmem, ⟨1, _⟩ => ⟨S16x1024x256, .fp8e4m3⟩
  | .local _ .vmem, ⟨2, _⟩ => ⟨S16x1024x512, .fp8e4m3⟩
  | .local _ .vmem, ⟨3, _⟩ => ⟨S16x16, .f32⟩
  | .local _ .vmem, ⟨4, _⟩ => ⟨S16x16, .f32⟩
  | .local _ .vmem, ⟨5, _⟩ => ⟨S16x16, .f32⟩
  | .local _ .vmem, ⟨6, _⟩ => ⟨S16x1024, .f32⟩
  | .local _ .vmem, ⟨7, _⟩ => ⟨S16x1024, .f32⟩
  | .local _ .vmem, ⟨8, _⟩ => ⟨S16x1024x512, .bf16⟩
  | .local _ .vmem, ⟨9, _⟩ => ⟨S16x256x512, .f32⟩
  | _, _ => ⟨S2x8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16x1024x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KB.Runs.lean ====
/- What the runs of the body share: the frame kit, the blocks, the conditions in closed form, the staging memrefs.
   The text follows the frame that the proof generator writes for a kernel of class R, with the outputs that the
   claim does not read forgotten. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1024x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x8 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S132x16x128 .f32 := Memref.whole cc0_scratch0
abbrev scM0_1 : Memref sig .tc .vmem S16x128 .f32 := Memref.whole cc0_scratch1
abbrev scM0_2 : Memref sig .tc .vmem S256x512 .f32 := Memref.whole cc0_scratch2
/-- The scratch `arg13` the kernel carries between points, as a view: what it holds is stated through it. -/
abbrev VS0_0 : View sig .tc .vmem S132x16x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KB.RunA.lean ====
/- The whole-body run at the first grid point (the gate rows are prepared there).
   The text follows the frame that the proof generator writes for a kernel of class R, with the outputs that the
   claim does not read forgotten. -/
module

public import proofs.«01_k».proof.Proof.KB.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4236000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11) at anything, handed back at some contents nothing names. -/
noncomputable def kernelRun0_A (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) :
    { LS0 : List (View.Piece (Elt F) S132x16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0) ∗ (∃ d, owns (c : Thread nD τ) arg14 fullShare d) ∗ (∃ d, owns (c : Thread nD τ) arg15 fullShare d)) -∗ K ⟨⟩))
          ⊢ wp frame (wpE (defs₀ (F := F)) Variants.none c none) E (cc0_mlstm i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_mlstm_eq_skeleton]; unfold cc0_mlstm_skel
    simp only [k0_part47_eq_skeleton, k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]; · iexists _; iexact HS0
    isplitl [HS1]
    · iexists _, _; isplitr; swap; · iexact HS1
      ipureintro; rfl
    iexists _, _; isplitr; swap; · iexact HS2
    ipureintro; rfl

end Cert.Kernel.Gen

end
-- ==== Proof.KB.RunB.lean ====
/- The whole-body run at the other grid points (the gate rows are carried).
   The text follows the frame that the proof generator writes for a kernel of class R, with the outputs that the
   claim does not read forgotten. -/
module

public import proofs.«01_k».proof.Proof.KB.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1968000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11) at anything, handed back at some contents nothing names. -/
noncomputable def kernelRun0_B (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) :
    { LS0 : List (View.Piece (Elt F) S132x16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d)) -∗ K ⟨⟩))
          ⊢ wp frame (wpE (defs₀ (F := F)) Variants.none c none) E (cc0_mlstm i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], fun E K => ?run⟩
  case run =>
    simp only [cc0_mlstm_eq_skeleton]; unfold cc0_mlstm_skel
    simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg13.read_unread _
      iexact HS0
    isplitl [HS1]
    · iexists _, _; isplitr; swap; · iexact HS1
      ipureintro; rfl
    iexists _, _; isplitr; swap; · iexact HS2
    ipureintro; rfl

end Cert.Kernel.Gen

end
-- ==== Proof.KB.Frame.lean ====
/- The launch: what the scratch and the named outputs hold point by point, the proof data, the body obligation, the run of @main, and the frame. An output that no result carries is forgotten.
   The text follows the frame that the proof generator writes for a kernel of class R, with the outputs that the
   claim does not read forgotten. -/
module

public import proofs.«01_k».proof.Proof.KB.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: 132 pieces of `S1x16x128` tiling it (Lib/Ring.lean `Piece.tiledL`). -/
theorem scover0_A_0 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (y : S132x16x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S1x16x128.size (by sl_kernel_rfl) y

/-- What case A leaves in scratch `arg13`: its pieces read back over junk. -/
def sout0_A_0 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) : Vec F S132x16x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

/-- Case B stores nothing into scratch `arg13`: it holds what the point before left. -/
def sout0_B_0 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) : Vec F S132x16x128 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S132x16x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 16 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- `outsAt0` at a point of case A: that case's contents. -/
theorem outsAt0_A (c : Dev nD) (t : Fin cfg0.N) (h0 : t.val % 16 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The output windows this certificate FORGETS (8, 9, 10, 11): nothing reads what the kernel leaves in them, so nothing
    of it is named (Lib/Pipeline/Dat.lean `Dat.toRForget`). -/
def forgets0 : Fin 12 → Bool := fun w => w.val == 8 || w.val == 9 || w.val == 10 || w.val == 11

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · rw [PhiS_castSucc m c t, PhiS_zero m c _ _ hz, PhiA0_eq]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, H9, H10, H11, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · exfalso; have hN : t.val < 16 := lt_of_lt_of_eq t.isLt (show cfg0.N = 16 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold sout0_B_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, H9, H10, H11, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.KI.Runs.lean ====
/- What the runs of the body share: the frame kit, the blocks, the conditions in closed form, the staging memrefs.
   The text follows the frame that the proof generator writes for a kernel of class R, with the outputs that the
   claim does not read forgotten. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-! ## The kernel body on any staging memrefs: a subtype the run finds -/

/-- One staging buffer of output window 8, through which its contents are stated (`View.read_writes_of_cover`: the
    choice does not matter). -/
abbrev VO0_8 : View sig .tc .vmem S1x1024x512 .bf16 := (Memref.whole cc0_stg8_0 : Memref sig .tc .vmem S1x1024x512 .bf16).view
/-- One staging buffer of output window 9, through which its contents are stated (`View.read_writes_of_cover`: the
    choice does not matter). -/
abbrev VO0_9 : View sig .tc .vmem S1x256x512 .f32 := (Memref.whole cc0_stg9_0 : Memref sig .tc .vmem S1x256x512 .f32).view
/-- Each window's current staging memref at point `t`, spelled as the pipeline passes it (`bodyAt0`), and its wholeness. -/
abbrev ms0_0 (t : Fin cfg0.N) : Memref sig .tc .vmem S1x1024x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x8 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S132x16x128 .f32 := Memref.whole cc0_scratch0
abbrev scM0_1 : Memref sig .tc .vmem S16x128 .f32 := Memref.whole cc0_scratch1
abbrev scM0_2 : Memref sig .tc .vmem S256x512 .f32 := Memref.whole cc0_scratch2
/-- The scratch `arg13` the kernel carries between points, as a view: what it holds is stated through it. -/
abbrev VS0_0 : View sig .tc .vmem S132x16x128 .f32 := scM0_0.view
/-- The scratch `arg14` the kernel carries between points, as a view: what it holds is stated through it. -/
abbrev VS0_1 : View sig .tc .vmem S16x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KI.RunA.lean ====
/- The whole-body run at the first grid point (the gate rows are prepared there).
   The text follows the frame that the proof generator writes for a kernel of class R, with the outputs that the
   claim does not read forgotten. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4236000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11) at anything, handed back at some contents nothing names. -/
noncomputable def kernelRun0_A (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) :
    Σ' (L8 : List (View.Piece (Elt F) S1x1024x512 .bf16)), Σ' (L9 : List (View.Piece (Elt F) S1x256x512 .f32)), Σ' (LS0 : List (View.Piece (Elt F) S132x16x128 .f32)), Σ' (LS1 : List (View.Piece (Elt F) S16x128 .f32)), { LT2 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LT2)) -∗ K ⟨⟩))
          ⊢ wp frame (wpE (defs₀ (F := F)) Variants.none c none) E (cc0_mlstm i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_mlstm_eq_skeleton]; unfold cc0_mlstm_skel
    simp only [k0_part47_eq_skeleton, k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [HS0]; · iexists _; iexact HS0
    isplitl [HS1]; · iexists _; iexact HS1
    iexists _; iexact HS2

end Cert.KernelIdeal.Gen

end
-- ==== Proof.KI.RunB.lean ====
/- The whole-body run at the other grid points (the gate rows are carried).
   The text follows the frame that the proof generator writes for a kernel of class R, with the outputs that the
   claim does not read forgotten. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1968000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11) at anything, handed back at some contents nothing names. -/
noncomputable def kernelRun0_B (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) (xs1 : Vec F S16x128 .f32) :
    Σ' (L8 : List (View.Piece (Elt F) S1x1024x512 .bf16)), Σ' (L9 : List (View.Piece (Elt F) S1x256x512 .f32)), Σ' (LS0 : List (View.Piece (Elt F) S132x16x128 .f32)), Σ' (LS1 : List (View.Piece (Elt F) S16x128 .f32)), { LT2 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ (∃ f, arg15.view.loc (c : Thread nD τ) ↦[arg15.view.set]{fullShare} arg15.view.writes (Elt F) f LT2)) -∗ K ⟨⟩))
          ⊢ wp frame (wpE (defs₀ (F := F)) Variants.none c none) E (cc0_mlstm i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], [], ?_, fun E K => ?run⟩
  case run =>
    simp only [cc0_mlstm_eq_skeleton]; unfold cc0_mlstm_skel
    simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0; obtain rfl := harg14.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg13.read_unread _
      iexact HS0
    isplitl [HS1]
    · iexists _; isplitr; · ipureintro; exact harg14.read_unread _
      iexact HS1
    iexists _; iexact HS2

end Cert.KernelIdeal.Gen

end
-- ==== Proof.KI.Frame.lean ====
/- The launch: what the scratch and the named outputs hold point by point, the proof data, the body obligation, the run of @main, and the frame. An output that no result carries is forgotten.
   The text follows the frame that the proof generator writes for a kernel of class R, with the outputs that the
   claim does not read forgotten. -/
module

public import proofs.«01_k».proof.Proof.KI.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (8 stores of `S1x128x512`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (y : S1x1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S1x128x512.size (by sl_kernel_rfl) y

/-- What case A leaves in output 8's staging buffer: its pieces read back over junk. -/
def out0_A_8 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) : Vec F S1x1024x512 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

/-- Case A's pieces for output 9 tile its block (1 store of `S1x256x512`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (y : S1x256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 S1x256x512.size (by sl_kernel_rfl) y

/-- What case A leaves in output 9's staging buffer: its pieces read back over junk. -/
def out0_A_9 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) : Vec F S1x256x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

/-- Case A's pieces for scratch `arg13`, which the kernel carries between points, cover it: 132 pieces of `S1x16x128` tiling it (Lib/Ring.lean `Piece.tiledL`). -/
theorem scover0_A_0 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (y : S132x16x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 S1x16x128.size (by sl_kernel_rfl) y

/-- What case A leaves in scratch `arg13`: its pieces read back over junk. -/
def sout0_A_0 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) : Vec F S132x16x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

/-- Case A's pieces for scratch `arg14`, which the kernel carries between points, cover it: 1 piece of `S16x128` tiling it (Lib/Ring.lean `Piece.tiledL`). -/
theorem scover0_A_1 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (y : S16x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 S16x128.size (by sl_kernel_rfl) y

/-- What case A leaves in scratch `arg14`: its pieces read back over junk. -/
def sout0_A_1 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) : Vec F S16x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

/-- Case B's pieces for output 8 tile its block (8 stores of `S1x128x512`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) (xs1 : Vec F S16x128 .f32) (y : S1x1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1 S1x128x512.size (by sl_kernel_rfl) y

/-- What case B leaves in output 8's staging buffer: its pieces read back over junk. -/
def out0_B_8 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) (xs1 : Vec F S16x128 .f32) : Vec F S1x1024x512 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1)

/-- Case B's pieces for output 9 tile its block (1 store of `S1x256x512`, checked by the kernel's evaluation: Lib/Ring.lean `Piece.tiledL`, linear in the pieces, through a loop's `@[irreducible]` trip theorem too), so they cover it. -/
theorem cover0_B_9 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) (xs1 : Vec F S16x128 .f32) (y : S1x256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).2.1 S1x256x512.size (by sl_kernel_rfl) y

/-- What case B leaves in output 9's staging buffer: its pieces read back over junk. -/
def out0_B_9 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) (xs1 : Vec F S16x128 .f32) : Vec F S1x256x512 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).2.1)

/-- Case B stores nothing into scratch `arg13`: it holds what the point before left. -/
def sout0_B_0 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) (xs1 : Vec F S16x128 .f32) : Vec F S132x16x128 .f32 := xs0

/-- Case B stores nothing into scratch `arg14`: it holds what the point before left. -/
def sout0_B_1 (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole) (hc0 : ¬cond0_0 i)
    (x0 : Vec F S1x1024x256 .fp8e4m3) (x1 : Vec F S1x1024x256 .fp8e4m3) (x2 : Vec F S1x1024x512 .fp8e4m3) (x3 : Vec F S16x1024 .f32) (x4 : Vec F S16x1024 .f32) (x5 : Vec F S16x16 .f32) (x6 : Vec F S16x16 .f32) (x7 : Vec F S16x16 .f32) (xs0 : Vec F S132x16x128 .f32) (xs1 : Vec F S16x128 .f32) : Vec F S16x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x512 .bf16 × Vec F S1x256x512 .f32 × Vec F S132x16x128 .f32 × Vec F S16x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 16 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2) ∗ (∃ d, owns (c : Thread nD τ) scM0_2 fullShare d)) ∗ (∃ r, prngReg c r)) := by
  cases n with
  | zero => exact absurd rfl hz
  | succ n => rfl

/-! ## The pipeline's proof data -/

/-- The output windows this certificate FORGETS (10, 11): nothing reads what the kernel leaves in them, so nothing
    of it is named (Lib/Pipeline/Dat.lean `Dat.toRForget`). -/
def forgets0 : Fin 12 → Bool := fun w => w.val == 10 || w.val == 11
theorem forgets0_8 : forgets0 (8 : Fin 12) = false := by decide
theorem forgets0_9 : forgets0 (9 : Fin 12) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    by_cases hz : t.val = 0
    · rw [PhiS_castSucc m c t, PhiS_zero m c _ _ hz, PhiA0_eq]
      rw [outsAt0_A m c t h0]
      unfold out0_A_8 out0_A_9 sout0_A_0 sout0_A_1; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, ⟨%e8, H8⟩, ⟨%e9, H9⟩, H10, H11, ⟨%es0, HS0⟩, ⟨%es1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _)
      isplitl [H10]; · iexact H10
      iexact H11
    · exfalso; have hN : t.val < 16 := lt_of_lt_of_eq t.isLt (show cfg0.N = 16 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_8 out0_B_9 sout0_B_0 sout0_B_1; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, ⟨%e8, H8⟩, ⟨%e9, H9⟩, H10, H11, HS0, HS1, ⟨%fT2, HS2⟩⟩
      isplitl [HS0 HS1 HS2 Hg]
      · isplitl [HS0 HS1 HS2]
        · isplitl [HS0]
          · iexact HS0
          isplitl [HS1]
          · iexact HS1
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _)
      isplitl [H10]; · iexact H10
      iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.KI.Value.lean ====
/- What the two results hold after the run, named point by point.
   The text follows the frame that the proof generator writes for a kernel of class R, with the outputs that the
   claim does not read forgotten. -/
module

public import proofs.«01_k».proof.Proof.KI.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 16 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 16 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed8, outsAt0_B m c t h0]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16x1024x512.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 16 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 16 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed9, outsAt0_B m c t h0]

/-- The index map sends distinct grid points to distinct block indices (decided over the 16 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16x256x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 12) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 8's array is `(dats m 0 c).arrAt 8 N`. -/
theorem post8 (r : PUnit × MemSt nD τ sig (Elt F)) (h : Pipeline.RDat.FramePost (cfgs 0) (fun c => (dats m 0 c).toRForget forgets0) (V m) r) (c : Dev nD) :
    r.2.mem ((c : Thread nD τ).loc main_v11_0) = (dats m 0 c).arrAt 8 cfg0.N :=
  finalR_out0 m r h c 8 forgets0_8

/-- After the frame run, output window 9's array is `(dats m 0 c).arrAt 9 N`. -/
theorem post9 (r : PUnit × MemSt nD τ sig (Elt F)) (h : Pipeline.RDat.FramePost (cfgs 0) (fun c => (dats m 0 c).toRForget forgets0) (V m) r) (c : Dev nD) :
    r.2.mem ((c : Thread nD τ).loc main_v11_1) = (dats m 0 c).arrAt 9 cfg0.N :=
  finalR_out0 m r h c 9 forgets0_9

/-- After the frame run, argument `main_arg0` is as launched: no window stages it, and the run leaves the region's other buffers as they were. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 8 cfg0.N
      ∧ r.2.mem ((c : Thread nD τ).loc main_v11_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S132x16x128 .f32) : Vec F S132x16x128 .f32 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.1) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S16x128 .f32) : Vec F S16x128 .f32 :=
  if h0 : n % 16 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.2.2) 16 (fun n h => scAt0_1 m c n h (VS0_1.read (Elt F) VS0_1.junk)) (scAt0_1 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1024x512 .bf16 × Vec F S1x256x512 .f32 × Vec F S132x16x128 .f32 × Vec F S16x128 .f32 :=
  ((VO0_8.read (Elt F) VO0_8.junk, VO0_9.read (Elt F) VO0_9.junk, VS0_0.read (Elt F) VS0_0.junk, VS0_1.read (Elt F) VS0_1.junk) : Vec F S1x1024x512 .bf16 × Vec F S1x256x512 .f32 × Vec F S132x16x128 .f32 × Vec F S16x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1024x512 .bf16 × Vec F S1x256x512 .f32 × Vec F S132x16x128 .f32 × Vec F S16x128 .f32) : Vec F S1x1024x512 .bf16 × Vec F S1x256x512 .f32 × Vec F S132x16x128 .f32 × Vec F S16x128 .f32 :=
  if h0 : n % 16 = 0 then
    (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.1 acc.2.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.1 acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.1 acc.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.1 acc.2.2.2)

/-- `stAt0` at a point of case A: that case's contents. -/
theorem stAt0_A (c : Dev nD) (t : Fin cfg0.N) (acc : Vec F S1x1024x512 .bf16 × Vec F S1x256x512 .f32 × Vec F S132x16x128 .f32 × Vec F S16x128 .f32) (h0 : t.val % 16 = 0) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) :=
  (dif_pos h0).trans rfl

/-- `stAt0` at a point of case B: that case's contents, over `acc`. -/
theorem stAt0_B (c : Dev nD) (t : Fin cfg0.N) (acc : Vec F S1x1024x512 .bf16 × Vec F S1x256x512 .f32 × Vec F S132x16x128 .f32 × Vec F S16x128 .f32) (h0 : ¬t.val % 16 = 0) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2.1 acc.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2.1 acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2.1 acc.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2.1 acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S16x1024x512.Idx) : ℕ := 1 * ((i 0).val / 1 - 0) + 1 * ((i 1).val / 1024 - 0) + 1 * ((i 2).val / 512 - 0)
set_option backward.proofsInPublic true in
abbrev loc8Of (i : S16x1024x512.Idx) : S1x1024x512.Idx := fun a => match a with
  | ⟨0, _⟩ => ⟨(i 0).val % 1, Nat.mod_lt _ (by decide)⟩
  | ⟨1, _⟩ => ⟨(i 1).val % 1024, Nat.mod_lt _ (by decide)⟩
  | ⟨2, _⟩ => ⟨(i 2).val % 512, Nat.mod_lt _ (by decide)⟩
abbrev pt8Of (i : S16x1024x512.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v11_0) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 15
    ∧ 0 ≤ win0_8.index t (1 : Fin 3) ∧ win0_8.index t (1 : Fin 3) ≤ 0
    ∧ 0 ≤ win0_8.index t (2 : Fin 3) ∧ win0_8.index t (2 : Fin 3) ≤ 0
    ∧ 1 * (win0_8.index t (0 : Fin 3) - 0) + 1 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 16) (q1 : Fin 1) (q2 : Fin 1) : Fin grid0.N :=
  ⟨1 * q0.val + 1 * q1.val + 1 * q2.val, lt_of_lt_of_eq (by omega) N_0.symm⟩
theorem idx_onto8 : ∀ (q0 : Fin 16) (q1 : Fin 1) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 16) (q1 : Fin 1) (q2 : Fin 1), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3⟩ := idx_facts8 t
  funext y
  have hy0 : (y 0).val < 1 := (y 0).isLt
  have hy1 : (y 1).val < 1024 := (y 1).isLt
  have hy2 : (y 2).val < 512 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 1024 + 1 * (y 1).val := rfl
  have hb2 : (((cfg0.win 8).blk t).view.emb y 2).val = win0_8.index t (2 : Fin 3) * 512 + 1 * (y 2).val := rfl
  have hr : run8Of (((cfg0.win 8).blk t).view.emb y) = t.val := by
    show 1 * ((((cfg0.win 8).blk t).view.emb y 0).val / 1 - 0) + 1 * ((((cfg0.win 8).blk t).view.emb y 1).val / 1024 - 0) + 1 * ((((cfg0.win 8).blk t).view.emb y 2).val / 512 - 0) = _
    rw [hb0, hb1, hb2]
    rw [show (win0_8.index t (0 : Fin 3) * 1 + 1 * (y 0).val) / 1 = win0_8.index t (0 : Fin 3) from by omega]; rw [show (win0_8.index t (1 : Fin 3) * 1024 + 1 * (y 1).val) / 1024 = win0_8.index t (1 : Fin 3) from by omega]; rw [show (win0_8.index t (2 : Fin 3) * 512 + 1 * (y 2).val) / 512 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 1024 = (y 1).val; rw [hb1]; omega
    | ⟨2, _⟩ => show (((cfg0.win 8).blk t).view.emb y 2).val % 512 = (y 2).val; rw [hb2]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S16x1024x512.Idx) :
    i ∈ ((cfg0.win 8).blk t).view.set ↔ ∀ a : Fin 3, win0_8.index t a * S1x1024x512.size a ≤ (i a).val ∧ (i a).val < win0_8.index t a * S1x1024x512.size a + S1x1024x512.size a := by
  show i ∈ ((View.whole main_v11_0).slice (win0_8.rect t)).set ↔ _
  rw [View.set_slice_whole, Rect.mem_set_unit]
  exact Iff.rfl

/-- THE COVERED INDICES: in some flushing point's block iff inside the box those blocks fill. -/
theorem covered_iff8 (i : S16x1024x512.Idx) :
    (∃ t : Fin cfg0.N, (cfg0.win 8).flush t = true ∧ i ∈ ((cfg0.win 8).blk t).view.set) ↔ 0 ≤ (i 0).val ∧ (i 0).val < 16 ∧ 0 ≤ (i 1).val ∧ (i 1).val < 1024 ∧ 0 ≤ (i 2).val ∧ (i 2).val < 512 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 1024 ≤ (i 1).val ∧ (i 1).val < win0_8.index t (1 : Fin 3) * 1024 + 1024 := hi 1
    have b2 : win0_8.index t (2 : Fin 3) * 512 ≤ (i 2).val ∧ (i 2).val < win0_8.index t (2 : Fin 3) * 512 + 512 := hi 2
    obtain ⟨e0, e1, e2, e3⟩ := idx_facts8 t
    omega
  · intro h
    have hi0 : (i 0).val < 16 := (i 0).isLt
    have hi1 : (i 1).val < 1024 := (i 1).isLt
    have hi2 : (i 2).val < 512 := (i 2).isLt
    obtain ⟨t, hft, ht⟩ := idx_onto8 ⟨(i 0).val / 1 - 0, by omega⟩ ⟨(i 1).val / 1024 - 0, by omega⟩ ⟨(i 2).val / 512 - 0, by omega⟩
    have q0 : win0_8.index t (0 : Fin 3) = (i 0).val / 1 - 0 + 0 := congrFun ht 0
    have q1 : win0_8.index t (1 : Fin 3) = (i 1).val / 1024 - 0 + 0 := congrFun ht 1
    have q2 : win0_8.index t (2 : Fin 3) = (i 2).val / 512 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 1024 ≤ (i 1).val ∧ (i 1).val < win0_8.index t (1 : Fin 3) * 1024 + 1024; omega
    | ⟨2, _⟩ => show win0_8.index t (2 : Fin 3) * 512 ≤ (i 2).val ∧ (i 2).val < win0_8.index t (2 : Fin 3) * 512 + 512; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 16 := (i 0).isLt; have h1 : (i 1).val < 1024 := (i 1).isLt; have h2 : (i 2).val < 512 := (i 2).isLt; omega))

/-! ## Output window 9 -/

/-- The block of the array that holds index `i`, numbered in the order the points write the blocks back (one per point),
    `i`'s place in it, and the point that writes it back. -/
abbrev run9Of (i : S16x256x512.Idx) : ℕ := 1 * ((i 0).val / 1 - 0) + 1 * ((i 1).val / 256 - 0) + 1 * ((i 2).val / 512 - 0)
set_option backward.proofsInPublic true in
abbrev loc9Of (i : S16x256x512.Idx) : S1x256x512.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 512, Nat.mod_lt _ (by decide)⟩
abbrev pt9Of (i : S16x256x512.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v11_1) := fun i =>
  if h : pt9Of i < cfg0.N then
    (Pipeline.accAt (fun n h => stAt0 m c n h junk0) (stAt0 m c) 0 (pt9Of i) (by omega)).2.1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 3) ∧ win0_9.index t (0 : Fin 3) ≤ 15
    ∧ 0 ≤ win0_9.index t (1 : Fin 3) ∧ win0_9.index t (1 : Fin 3) ≤ 0
    ∧ 0 ≤ win0_9.index t (2 : Fin 3) ∧ win0_9.index t (2 : Fin 3) ≤ 0
    ∧ 1 * (win0_9.index t (0 : Fin 3) - 0) + 1 * (win0_9.index t (1 : Fin 3) - 0) + 1 * (win0_9.index t (2 : Fin 3) - 0) = t.val :=
  (by decide +kernel : ∀ t : Fin grid0.N, _)

/-- Every block of the box is SOME flushing point's: `onto9Pt`, the point that writes back the block at place `q` of the box. -/
abbrev onto9Pt (q0 : Fin 16) (q1 : Fin 1) (q2 : Fin 1) : Fin grid0.N :=
  ⟨1 * q0.val + 1 * q1.val + 1 * q2.val, lt_of_lt_of_eq (by omega) N_0.symm⟩
theorem idx_onto9 : ∀ (q0 : Fin 16) (q1 : Fin 1) (q2 : Fin 1), ∃ t : Fin cfg0.N, (cfg0.win 9).flush t = true ∧ win0_9.index t = ![q0.val + 0, q1.val + 0, q2.val + 0] :=
  fun q0 q1 q2 => ⟨onto9Pt q0 q1 q2, (by decide +kernel : ∀ (q0 : Fin 16) (q1 : Fin 1) (q2 : Fin 1), win0_9.flush (onto9Pt q0 q1 q2) = true ∧ win0_9.index (onto9Pt q0 q1 q2) = ![q0.val + 0, q1.val + 0, q2.val + 0]) q0 q1 q2⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2, e3⟩ := idx_facts9 t
  funext y
  have hy0 : (y 0).val < 1 := (y 0).isLt
  have hy1 : (y 1).val < 256 := (y 1).isLt
  have hy2 : (y 2).val < 512 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 256 + 1 * (y 1).val := rfl
  have hb2 : (((cfg0.win 9).blk t).view.emb y 2).val = win0_9.index t (2 : Fin 3) * 512 + 1 * (y 2).val := rfl
  have hr : run9Of (((cfg0.win 9).blk t).view.emb y) = t.val := by
    show 1 * ((((cfg0.win 9).blk t).view.emb y 0).val / 1 - 0) + 1 * ((((cfg0.win 9).blk t).view.emb y 1).val / 256 - 0) + 1 * ((((cfg0.win 9).blk t).view.emb y 2).val / 512 - 0) = _
    rw [hb0, hb1, hb2]
    rw [show (win0_9.index t (0 : Fin 3) * 1 + 1 * (y 0).val) / 1 = win0_9.index t (0 : Fin 3) from by omega]; rw [show (win0_9.index t (1 : Fin 3) * 256 + 1 * (y 1).val) / 256 = win0_9.index t (1 : Fin 3) from by omega]; rw [show (win0_9.index t (2 : Fin 3) * 512 + 1 * (y 2).val) / 512 = win0_9.index t (2 : Fin 3) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 256 = (y 1).val; rw [hb1]; omega
    | ⟨2, _⟩ => show (((cfg0.win 9).blk t).view.emb y 2).val % 512 = (y 2).val; rw [hb2]; omega
  have hp : pt9Of (((cfg0.win 9).blk t).view.emb y) = t.val := by
    exact hr
  show (Pipeline.accAt (fun n h => stAt0 m c n h junk0) (stAt0 m c) 0 t.val _).2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S16x256x512.Idx) :
    i ∈ ((cfg0.win 9).blk t).view.set ↔ ∀ a : Fin 3, win0_9.index t a * S1x256x512.size a ≤ (i a).val ∧ (i a).val < win0_9.index t a * S1x256x512.size a + S1x256x512.size a := by
  show i ∈ ((View.whole main_v11_1).slice (win0_9.rect t)).set ↔ _
  rw [View.set_slice_whole, Rect.mem_set_unit]
  exact Iff.rfl

/-- THE COVERED INDICES: in some flushing point's block iff inside the box those blocks fill. -/
theorem covered_iff9 (i : S16x256x512.Idx) :
    (∃ t : Fin cfg0.N, (cfg0.win 9).flush t = true ∧ i ∈ ((cfg0.win 9).blk t).view.set) ↔ 0 ≤ (i 0).val ∧ (i 0).val < 16 ∧ 0 ≤ (i 1).val ∧ (i 1).val < 256 ∧ 0 ≤ (i 2).val ∧ (i 2).val < 512 := by
  constructor
  · rintro ⟨t, -, hi⟩
    rw [mem_blk9] at hi
    have b0 : win0_9.index t (0 : Fin 3) * 1 ≤ (i 0).val ∧ (i 0).val < win0_9.index t (0 : Fin 3) * 1 + 1 := hi 0
    have b1 : win0_9.index t (1 : Fin 3) * 256 ≤ (i 1).val ∧ (i 1).val < win0_9.index t (1 : Fin 3) * 256 + 256 := hi 1
    have b2 : win0_9.index t (2 : Fin 3) * 512 ≤ (i 2).val ∧ (i 2).val < win0_9.index t (2 : Fin 3) * 512 + 512 := hi 2
    obtain ⟨e0, e1, e2, e3⟩ := idx_facts9 t
    omega
  · intro h
    have hi0 : (i 0).val < 16 := (i 0).isLt
    have hi1 : (i 1).val < 256 := (i 1).isLt
    have hi2 : (i 2).val < 512 := (i 2).isLt
    obtain ⟨t, hft, ht⟩ := idx_onto9 ⟨(i 0).val / 1 - 0, by omega⟩ ⟨(i 1).val / 256 - 0, by omega⟩ ⟨(i 2).val / 512 - 0, by omega⟩
    have q0 : win0_9.index t (0 : Fin 3) = (i 0).val / 1 - 0 + 0 := congrFun ht 0
    have q1 : win0_9.index t (1 : Fin 3) = (i 1).val / 256 - 0 + 0 := congrFun ht 1
    have q2 : win0_9.index t (2 : Fin 3) = (i 2).val / 512 - 0 + 0 := congrFun ht 2
    refine ⟨t, hft, ?_⟩
    rw [mem_blk9]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 256 ≤ (i 1).val ∧ (i 1).val < win0_9.index t (1 : Fin 3) * 256 + 256; omega
    | ⟨2, _⟩ => show win0_9.index t (2 : Fin 3) * 512 ≤ (i 2).val ∧ (i 2).val < win0_9.index t (2 : Fin 3) * 512 + 512; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 16 := (i 0).isLt; have h1 : (i 1).val < 256 := (i 1).isLt; have h2 : (i 2).val < 512 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v11_0) = G8 m c
      ∧ r.2.mem ((c : Thread nD τ).loc main_v11_1) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Val.Base.lean ====
/-
  What the value proof uses everywhere: reading a block of the idealized values as real numbers (`Re2`, `Re3`, `ReR`), the two
  halves of a 128-lane row (`lo`, `hi`), sums over 128 and 256 lanes cut into 64s, and the lane masks of the kernel as plain
  conditions on lane numbers.
-/
module
public import proofs.«01_k».proof.Proof.Gen.KernelIdeal.Skeleton
public import Idealize.ShloMosaic.Lib.Pointwise
public import Idealize.ShloMosaic.Lib.IdealHost
@[expose] public section
set_option maxRecDepth 16384
noncomputable section
namespace Cert.Val
open Idealize.ShloMosaic

/-- Lane `t` of the left half. -/
abbrev lo (t : Fin 64) : Fin 128 := ⟨t.val, by omega⟩
/-- Lane `t` of the right half. -/
abbrev hi (t : Fin 64) : Fin 128 := ⟨t.val + 64, by omega⟩

/-- A matrix block whose elements are the real numbers `x`. -/
abbrev Re2 {n m : ℕ} (X : (⟨2, ![n, m]⟩ : Shape).Idx → EReal) (x : Fin n → Fin m → ℝ) : Prop := ∀ i j, X (ix2 i j) = ((x i j : ℝ) : EReal)
/-- A matrix block with a leading axis of one whose elements are the real numbers `x`. -/
abbrev Re3 {n m : ℕ} (X : (⟨3, ![1, n, m]⟩ : Shape).Idx → EReal) (x : Fin n → Fin m → ℝ) : Prop := ∀ i j, X (ix3 0 i j) = ((x i j : ℝ) : EReal)
/-- A row of 128 lanes whose elements are the real numbers `x`. -/
abbrev ReR (X : (⟨3, ![1, 1, 128]⟩ : Shape).Idx → EReal) (x : Fin 128 → ℝ) : Prop := ∀ i, X (ix3 0 0 i) = ((x i : ℝ) : EReal)

theorem sum_coe {n : ℕ} (f : Fin n → ℝ) : (∑ i, ((f i : ℝ) : EReal)) = ((∑ i, f i : ℝ) : EReal) := by
  have h : ∀ s : Finset (Fin n), (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact h _

theorem sum128 (f : Fin 128 → EReal) : ∑ i, f i = (∑ t : Fin 64, f ⟨t.val, by omega⟩) + ∑ t : Fin 64, f ⟨t.val + 64, by omega⟩ := by
  rw [Fin.sum_univ_add (a := 64) (b := 64) f]
  congr 1

theorem sum256 (f : Fin 256 → EReal) : ∑ i, f i = (∑ t : Fin 64, f ⟨t.val, by omega⟩) + (∑ t : Fin 64, f ⟨t.val + 64, by omega⟩)
    + (∑ t : Fin 64, f ⟨t.val + 128, by omega⟩) + ∑ t : Fin 64, f ⟨t.val + 192, by omega⟩ := by
  rw [Fin.sum_univ_add (a := 128) (b := 128) f, sum128, sum128, ← add_assoc]
  congr 1

theorem sel_slt {α : Type} (x : ℕ) (hx : x < 4096) (a b : α) :
    Scalar.select (IntOp.cmpi CmpIPredicate.slt (BitVec.ofNat 32 x) 64#32) a b = if x < 64 then a else b := by
  have h : (BitVec.ofNat 32 x).slt 64#32 = decide (x < 64) := by
    rw [BitVec.slt_eq_decide, BitVec.toInt_ofNat']
    have e : (x : ℤ).bmod (2^32) = x := by
      rw [Int.bmod_eq_of_le] <;> omega
    rw [e, show (64#32 : BitVec 32).toInt = 64 from by decide]; norm_num
  unfold Scalar.select IntOp.cmpi
  simp only [h]
  by_cases hh : x < 64 <;> simp [hh]

theorem causal_lt : ∀ (l : Fin 128) (s : Fin 64),
    IntOp.cmpi CmpIPredicate.sle (IntOp.andi (BitVec.ofNat 32 l.val) 63#32) (BitVec.ofNat 32 s.val) = if l.val % 64 ≤ s.val then 1#1 else 0#1 := by
  decide +kernel

theorem diag_eq : ∀ (l : Fin 128) (s : Fin 64),
    IntOp.cmpi CmpIPredicate.eq (IntOp.andi (BitVec.ofNat 32 l.val) 63#32) (BitVec.ofNat 32 s.val) = if l.val % 64 = s.val then 1#1 else 0#1 := by
  decide +kernel

theorem select_ite {α : Type} (p : Prop) [Decidable p] (a b : α) :
    Scalar.select (if p then 1#1 else 0#1) a b = if p then a else b := by
  by_cases h : p <;> simp [h, Scalar.select]

theorem sel_causal {α : Type} (t s : Fin 64) (a b : α) :
    Scalar.select (IntOp.cmpi CmpIPredicate.sle (IntOp.andi (BitVec.ofNat 32 t.val) 63#32) (BitVec.ofNat 32 s.val)) a b = if t.val ≤ s.val then a else b := by
  have h := causal_lt (lo t) s
  rw [h, select_ite, Nat.mod_eq_of_lt t.isLt]

theorem sel_causal' {α : Type} (t s : Fin 64) (a b : α) :
    Scalar.select (IntOp.cmpi CmpIPredicate.sle (IntOp.andi (BitVec.ofNat 32 (t.val + 64)) 63#32) (BitVec.ofNat 32 s.val)) a b = if t.val ≤ s.val then a else b := by
  have h := causal_lt (hi t) s
  rw [h, select_ite, Nat.add_mod_right, Nat.mod_eq_of_lt t.isLt]

theorem sel_diag {α : Type} (t s : Fin 64) (a b : α) :
    Scalar.select (IntOp.cmpi CmpIPredicate.eq (IntOp.andi (BitVec.ofNat 32 t.val) 63#32) (BitVec.ofNat 32 s.val)) a b = if t = s then a else b := by
  have h := diag_eq (lo t) s
  rw [h, select_ite, Nat.mod_eq_of_lt t.isLt]
  simp only [Fin.ext_iff]

theorem sel_diag' {α : Type} (t s : Fin 64) (a b : α) :
    Scalar.select (IntOp.cmpi CmpIPredicate.eq (IntOp.andi (BitVec.ofNat 32 (t.val + 64)) 63#32) (BitVec.ofNat 32 s.val)) a b = if t = s then a else b := by
  have h := diag_eq (hi t) s
  rw [h, select_ite, Nat.add_mod_right, Nat.mod_eq_of_lt t.isLt]
  simp only [Fin.ext_iff]

theorem ninf : Ideal.ofBits FTy.f32 4286578688#32 = (⊥ : EReal) := by
  simp [Ideal.ofBits, Ideal.ieee]

theorem exp_ninf : Ideal.exp ⊥ = (0 : EReal) := by
  exact Ideal.exp_bot

theorem sixteenth : Ideal.ofBits FTy.f32 0x3D800000#32 = (((1 : ℝ) / 16 : ℝ) : EReal) := by
  simp [Ideal.ofBits, Ideal.ieee, -EReal.coe_mul]; norm_num

end Cert.Val
-- ==== Proof.Val.Body.lean ====
/-
  The kernel's body, one payload at a time: with blocks and rows of real numbers, what each payload is at an index.
-/
module
public import proofs.«01_k».proof.Proof.Val.Base
import all proofs.«01_k».proof.Proof.Gen.KernelIdeal.Skeleton
@[expose] public section
set_option maxRecDepth 16384
set_option maxHeartbeats 4000000
noncomputable section
namespace Cert.Val
open Idealize.ShloMosaic Cert.KernelIdeal Cert.KernelIdeal.Gen

/-- A 64 × 128 block given by its left and right halves. -/
structure ReLH (X : (⟨2, ![64, 128]⟩ : Shape).Idx → EReal) (a b : Fin 64 → Fin 64 → ℝ) : Prop where
  l : ∀ s t, X (ix2 s (lo t)) = ((a s t : ℝ) : EReal)
  r : ∀ s t, X (ix2 s (hi t)) = ((b s t : ℝ) : EReal)

/-- The scores of a chunk: the product of query `s` and key `t`, scaled and decayed, of the keys up to `s`. -/
def pR (q k : Fin 64 → Fin 256 → ℝ) (c y m : ℝ) (s t : Fin 64) : ℝ :=
  if t.val ≤ s.val then (∑ d, q s d * k t d) * c * Real.exp (y - m) else 0

variable {K0 K1 K2 K3 Q0 Q1 Q2 Q3 : Vec Ideal S1x64x256 .fp8e4m3} {k0 k1 k2 k3 q0 q1 q2 q3 : Fin 64 → Fin 256 → ℝ}
variable {V0 V1 V2 V3 : Vec Ideal S1x64x512 .fp8e4m3} {v0 v1 v2 v3 : Fin 64 → Fin 512 → ℝ}
variable {MA MB CZ YZ CY YY WZ WY WYN MZ : Vec Ideal S1x1x128 .f32} {ma mb cz yz cy yy wz wy wyn mz : Fin 128 → ℝ}

theorem upd0 (hk0 : Re3 K0 k0) (hk1 : Re3 K1 k1) (hk2 : Re3 K2 k2) (hk3 : Re3 K3 k3) (hv0 : Re3 V0 v0) (hv1 : Re3 V1 v1)
    (hwz : ReR WZ wz) (hwy : ReR WY wy) (hmz : ReR MZ mz) (d : Fin 256) (e : Fin 512) :
    k0_pay536 (k0_pay503 k0_pay466 (k0_pay476 K0) (k0_pay477 K1) (k0_pay478 K2) (k0_pay479 K3) WZ WY MZ) (k0_pay505 (k0_pay480 V0) (k0_pay481 V1)) (ix2 d e)
      = ((∑ t, k0 t d * wz (lo t) * mz (lo t) * v0 t e + ∑ t, k1 t d * wy (hi t) * v1 t e : ℝ) : EReal) := by
  pointwise [k0_pay536, k0_pay503, k0_pay466, k0_pay499, k0_pay501, k0_pay502, k0_pay500, k0_pay498, k0_pay497, k0_pay496, k0_pay494, k0_pay495,k0_pay505, k0_pay476, k0_pay477, k0_pay478, k0_pay479, k0_pay480, k0_pay481]
  rw [sum256]
  simp (disch := omega) only [sel_slt, if_pos, if_neg, dif_pos, dif_neg, Nat.add_sub_cancel, Fin.eta]
  simp only [hk0, hk1, hv0, hv1, hwz, hwy, hmz, ← EReal.coe_mul, ← EReal.coe_sub, ← EReal.coe_add, sum_coe]
  simp only [sub_self, zero_mul, Finset.sum_const_zero, add_zero]

theorem upd1 (hk0 : Re3 K0 k0) (hk1 : Re3 K1 k1) (hk2 : Re3 K2 k2) (hk3 : Re3 K3 k3) (hv2 : Re3 V2 v2) (hv3 : Re3 V3 v3)
    (hwz : ReR WZ wz) (hwy : ReR WY wy) (hmz : ReR MZ mz) (d : Fin 256) (e : Fin 512) :
    k0_pay541 (k0_pay504 k0_pay466 (k0_pay476 K0) (k0_pay477 K1) (k0_pay478 K2) (k0_pay479 K3) WZ WY MZ) (k0_pay506 (k0_pay482 V2) (k0_pay483 V3)) (ix2 d e)
      = ((∑ t, k3 t d * wy (lo t) * v3 t e + ∑ t, k2 t d * wz (hi t) * mz (hi t) * v2 t e : ℝ) : EReal) := by
  pointwise [k0_pay541, k0_pay504, k0_pay466, k0_pay499, k0_pay501, k0_pay502, k0_pay500, k0_pay498, k0_pay497, k0_pay496, k0_pay494, k0_pay495,k0_pay506, k0_pay476, k0_pay477, k0_pay478, k0_pay479, k0_pay482, k0_pay483]
  rw [sum256]
  simp (disch := omega) only [sel_slt, if_pos, if_neg, dif_pos, dif_neg, Nat.add_sub_cancel, Fin.eta]
  simp only [hk2, hk3, hv2, hv3, hwz, hwy, hmz, ← EReal.coe_mul, ← EReal.coe_sub, ← EReal.coe_add, sum_coe]
  simp only [sub_self, zero_mul, Finset.sum_const_zero, add_zero]

theorem ite_exp (p : Prop) [Decidable p] (a c : ℝ) :
    (a : EReal) * Ideal.exp (if p then (c : EReal) else ⊥) = ((if p then a * Real.exp c else 0 : ℝ) : EReal) := by
  by_cases h : p <;> simp [h]

theorem pz (hk0 : Re3 K0 k0) (hk1 : Re3 K1 k1) (hk2 : Re3 K2 k2) (hk3 : Re3 K3 k3) (hq0 : Re3 Q0 q0) (hq1 : Re3 Q1 q1) (hq2 : Re3 Q2 q2) (hq3 : Re3 Q3 q3)
    (hma : ReR MA ma) (hmb : ReR MB mb) (hcz : ReR CZ cz) (hyz : ReR YZ yz) :
    ReLH (k0_pay491 k0_pay463 k0_pay464 (k0_pay472 Q0) (k0_pay473 Q1) (k0_pay474 Q2) (k0_pay475 Q3) (k0_pay476 K0) (k0_pay477 K1) (k0_pay478 K2) (k0_pay479 K3) MA MB CZ YZ)
      (fun s t => pR q0 k0 (cz (lo t)) (yz (lo t)) (ma (lo s)) s t) (fun s t => pR q2 k2 (cz (hi t)) (yz (hi t)) (mb (lo s)) s t) := by
  constructor <;> intro s t
  all_goals
    pointwise [k0_pay491, k0_pay463, k0_pay464, k0_pay472, k0_pay473, k0_pay474, k0_pay475, k0_pay476, k0_pay477, k0_pay478, k0_pay479, k0_pay488, k0_pay489, k0_pay490]
    simp (disch := omega) only [sel_slt, if_pos, if_neg, dif_pos, dif_neg, Nat.add_sub_cancel, Fin.eta, sel_causal, sel_causal', ninf]
    simp only [hk0, hk2, hq0, hq2, hma, hmb, hcz, hyz, ← EReal.coe_mul, ← EReal.coe_sub, ← EReal.coe_add, sum_coe, ite_exp]
    simp only [pR]

theorem py (hk0 : Re3 K0 k0) (hk1 : Re3 K1 k1) (hk2 : Re3 K2 k2) (hk3 : Re3 K3 k3) (hq0 : Re3 Q0 q0) (hq1 : Re3 Q1 q1) (hq2 : Re3 Q2 q2) (hq3 : Re3 Q3 q3)
    (hma : ReR MA ma) (hmb : ReR MB mb) (hcy : ReR CY cy) (hyy : ReR YY yy) :
    ReLH (k0_pay493 k0_pay464 (k0_pay490 MA MB) (k0_pay492 k0_pay463 (k0_pay472 Q0) (k0_pay473 Q1) (k0_pay474 Q2) (k0_pay475 Q3) (k0_pay476 K0) (k0_pay477 K1) (k0_pay478 K2) (k0_pay479 K3) CY) YY)
      (fun s t => pR q3 k3 (cy (lo t)) (yy (lo t)) (ma (hi s)) s t) (fun s t => pR q1 k1 (cy (hi t)) (yy (hi t)) (mb (hi s)) s t) := by
  have e64 : ∀ s : Fin 64, (⟨64 + s.val, by omega⟩ : Fin 128) = hi s := fun s => Fin.ext (Nat.add_comm _ _)
  constructor <;> intro s t
  all_goals
    pointwise [k0_pay493, k0_pay492, k0_pay463, k0_pay464, k0_pay472, k0_pay473, k0_pay474, k0_pay475, k0_pay476, k0_pay477, k0_pay478, k0_pay479, k0_pay488, k0_pay489, k0_pay490]
    simp (disch := omega) only [sel_slt, if_pos, if_neg, dif_pos, dif_neg, Nat.add_sub_cancel, Fin.eta, sel_causal, sel_causal', ninf]
    simp only [e64, hk1, hk3, hq1, hq3, hma, hmb, hcy, hyy, ← EReal.coe_mul, ← EReal.coe_sub, ← EReal.coe_add, sum_coe, ite_exp]
    simp only [pR]

theorem own_eq : ∀ (r : Fin 16) (l : Fin 256), k0_pay469 (iota .tc S16x256 32 [0] iota_S16x256_d0_w32) k0_pay467 k0_pay468 (ix2 r l)
    = if r.val % 4 = (if l.val < 64 then 0 else if l.val < 128 then 2 else if l.val < 192 then 3 else 1) then 1#1 else 0#1 := by
  intro r l
  pointwise [k0_pay469, k0_pay467, k0_pay468]
  revert r l
  decide +kernel

theorem piece_eq : ∀ (r : Fin 16) (l : Fin 256), k0_pay470 (iota .tc S16x256 32 [0] iota_S16x256_d0_w32) (ix2 r l) = BitVec.ofNat 32 (r.val / 4) := by
  intro r l
  pointwise [k0_pay470]
  revert r
  decide +kernel

/-- The lane numbers of the token axis, four chunks side by side. -/
abbrev iota16 : IVec S16x256 32 := iota .tc S16x256 32 [0] iota_S16x256_d0_w32

theorem own_sel {α : Type} (r : Fin 16) (l : Fin 256) (a b : α) :
    Scalar.select (k0_pay469 iota16 k0_pay467 k0_pay468 (ix2 r l)) a b
      = if r.val % 4 = (if l.val < 64 then 0 else if l.val < 128 then 2 else if l.val < 192 then 3 else 1) then a else b := by
  rw [own_eq, select_ite]

theorem piece_sel {α : Type} (r : Fin 16) (l : Fin 256) (n : ℕ) (hn : n < 4) (a b : α) :
    Scalar.select (IntOp.cmpi CmpIPredicate.eq (k0_pay470 iota16 (ix2 r l)) (BitVec.ofNat 32 n)) a b
      = if r.val / 4 = n then a else b := by
  rw [piece_eq]
  have : IntOp.cmpi CmpIPredicate.eq (BitVec.ofNat 32 (r.val / 4)) (BitVec.ofNat 32 n) = if r.val / 4 = n then 1#1 else 0#1 := by
    revert r; interval_cases n <;> decide +kernel
  rw [this, select_ite]

theorem a192 (x : ℕ) : x + 192 - 128 = x + 64 := by omega
theorem a192' (x : ℕ) : x + 192 - 64 - 64 - 64 = x := by omega
theorem a192'' (x : ℕ) : x + 128 - 64 - 64 = x := by omega

/-- The keys' sums of a quad, one row per chunk: each the sum over the chunk's tokens of weight and key. -/
def dnR (k0 k1 k2 k3 : Fin 64 → Fin 256 → ℝ) (wz wyn : Fin 128 → ℝ) (j : Fin 4) (d : Fin 256) : ℝ :=
  match j with
  | 0 => ∑ t, wz (lo t) * k0 t d
  | 1 => ∑ t, wyn (hi t) * k1 t d
  | 2 => ∑ t, wz (hi t) * k2 t d
  | 3 => ∑ t, wyn (lo t) * k3 t d

theorem dn (hk0 : Re3 K0 k0) (hk1 : Re3 K1 k1) (hk2 : Re3 K2 k2) (hk3 : Re3 K3 k3)
    (hwz : ReR WZ wz) (hwyn : ReR WYN wyn) :
    Re2 (k0_pay507 (k0_pay469 iota16 k0_pay467 k0_pay468) (k0_pay470 iota16) (k0_pay494 (k0_pay476 K0) (k0_pay478 K2)) (k0_pay495 (k0_pay477 K1) (k0_pay479 K3)) WZ WYN)
      (dnR k0 k1 k2 k3 wz wyn) := by
  intro j d
  pointwise [k0_pay507, k0_pay494, k0_pay495, k0_pay476, k0_pay477, k0_pay478, k0_pay479]
  simp only [sum256]
  rcases j with ⟨j, hj⟩
  interval_cases j
  all_goals
    simp (disch := omega) only [own_sel, piece_sel, if_pos, if_neg, dif_pos, dif_neg, Nat.add_sub_cancel, Fin.eta]
    simp only [if_true, a192, Nat.add_sub_cancel, Fin.eta, hk0, hk1, hk2, hk3, hwz, hwyn, ← EReal.coe_mul, ← EReal.coe_sub, ← EReal.coe_add, sum_coe]
    simp only [sub_self, zero_mul, Finset.sum_const_zero, add_zero, zero_add, EReal.coe_zero, dnR]

theorem sum16 (f : Fin 16 → EReal) : ∑ i, f i = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc, Fin.sum_univ_castSucc, Fin.sum_univ_castSucc, Fin.sum_univ_castSucc, Fin.sum_univ_eight]
  rfl

/-- The queries' products with the states before their chunks. -/
theorem qn {N4 : FVec Ideal S4x256 .f32} {N4' : FVec Ideal S4x256 .bf16} {n : Fin 4 → Fin 256 → ℝ} (hq0 : Re3 Q0 q0) (hq1 : Re3 Q1 q1) (hq2 : Re3 Q2 q2) (hq3 : Re3 Q3 q3) (hn : Re2 N4 n) (hn' : Re2 N4' n) (t : Fin 64) :
    let X := k0_pay515 (k0_pay469 iota16 k0_pay467 k0_pay468) (k0_pay484 (k0_pay472 Q0)) (k0_pay485 Q1) (k0_pay486 (k0_pay474 Q2)) (k0_pay487 (k0_pay475 Q3)) N4 N4'
    X (ix2 0 ⟨t.val, by omega⟩) = ((∑ d, n 0 d * q0 t d : ℝ) : EReal) ∧ X (ix2 0 ⟨t.val + 64, by omega⟩) = ((∑ d, n 2 d * q2 t d : ℝ) : EReal)
      ∧ X (ix2 0 ⟨t.val + 128, by omega⟩) = ((∑ d, n 3 d * q3 t d : ℝ) : EReal) ∧ X (ix2 0 ⟨t.val + 192, by omega⟩) = ((∑ d, n 1 d * q1 t d : ℝ) : EReal) := by
  intro X
  refine ⟨?_, ?_, ?_, ?_⟩
  all_goals
    pointwise [X, k0_pay515, k0_pay484, k0_pay485, k0_pay486, k0_pay487, k0_pay472, k0_pay473, k0_pay474, k0_pay475]
    simp (disch := omega) only [sum16, own_sel, if_pos, if_neg, dif_pos, dif_neg, Nat.add_sub_cancel, Fin.eta]
    simp only [zero_mul, Finset.sum_const_zero, add_zero, zero_add]
    simp only [a192', a192'', Nat.add_sub_cancel, Fin.eta, hn _ _, hn' _ _, hq0, hq1, hq2, hq3, ← EReal.coe_mul, ← EReal.coe_sub, ← EReal.coe_add, sum_coe]
    simp only [sub_self, zero_mul, Finset.sum_const_zero, add_zero, zero_add, EReal.coe_zero]
    rfl

/-- The states before the chunks of a quad, and after the last. -/
def nR (fa fb : Fin 4 → ℝ) (dn : Fin 4 → Fin 256 → ℝ) (n : Fin 256 → ℝ) : ℕ → Fin 256 → ℝ
  | 0 => n
  | j + 1 => fun d => if h : j < 4 then fa ⟨j, h⟩ * nR fa fb dn n j d + fb ⟨j, h⟩ * dn ⟨j, h⟩ d else 0

section
variable {N0 : FVec Ideal S1x256 .f32} {DN : FVec Ideal S4x256 .f32} {n : Fin 256 → ℝ} {dnr : Fin 4 → Fin 256 → ℝ}
variable {FA0 FA1 FA2 FA3 FB0 FB1 FB2 FB3 : Vec Ideal S1x1x128 .f32} {fa fb : Fin 4 → ℝ}

theorem nrec (hn : Re2 N0 (fun _ => n)) (hd : Re2 DN dnr)
    (ha0 : ReR FA0 fun _ => fa 0) (ha1 : ReR FA1 fun _ => fa 1) (ha2 : ReR FA2 fun _ => fa 2) (ha3 : ReR FA3 fun _ => fa 3)
    (hb0 : ReR FB0 fun _ => fb 0) (hb1 : ReR FB1 fun _ => fb 1) (hb2 : ReR FB2 fun _ => fb 2) (hb3 : ReR FB3 fun _ => fb 3) :
    Re2 (k0_pay513 N0 DN (k0_pay508 FA0) FB0 FA1 FB1 FA2 FB2) (fun j => nR fa fb dnr n j)
    ∧ Re2 (k0_pay512 N0 DN (k0_pay508 FA0) FB0 FA1 FB1 FA2 FB2 FA3 FB3) (fun _ => nR fa fb dnr n 4) := by
  have h1 : Re2 (k0_pay509 N0 DN (k0_pay508 FA0) FB0) (fun _ => nR fa fb dnr n 1) := by
    intro i d
    pointwise [k0_pay509, k0_pay508]
    simp only [ha0 _, hb0 _, hn _ _, hd _ _, dite_eq_ite, ite_self, ← EReal.coe_mul, ← EReal.coe_add]
    rfl
  have h2 : Re2 (k0_pay510 N0 DN (k0_pay508 FA0) FB0 FA1 FB1) (fun _ => nR fa fb dnr n 2) := by
    intro i d
    pointwise [k0_pay510]
    simp only [ha1 _, hb1 _, h1 _ _, hd _ _, dite_eq_ite, ite_self, ← EReal.coe_mul, ← EReal.coe_add]
    rfl
  have h3 : Re2 (k0_pay511 N0 DN (k0_pay508 FA0) FB0 FA1 FB1 FA2 FB2) (fun _ => nR fa fb dnr n 3) := by
    intro i d
    pointwise [k0_pay511]
    simp only [ha2 _, hb2 _, h2 _ _, hd _ _, dite_eq_ite, ite_self, ← EReal.coe_mul, ← EReal.coe_add]
    rfl
  refine ⟨?_, ?_⟩
  · intro j d
    pointwise [k0_pay513]
    rcases j with ⟨j, hj⟩
    interval_cases j
    · simp; exact hn _ _
    · simp; exact h1 _ _
    · simp; exact h2 _ _
    · simp; exact h3 _ _
  · intro i d
    pointwise [k0_pay512]
    simp only [ha3 _, hb3 _, h3 _ _, hd _ _, dite_eq_ite, ite_self, ← EReal.coe_mul, ← EReal.coe_add]
    rfl
end

theorem ite_coe0 (p : Prop) [Decidable p] (a b : ℝ) : (b : EReal) + (if p then (a : EReal) else 0) = ((b + if p then a else 0 : ℝ) : EReal) := by
  by_cases h : p <;> simp [h]

theorem xz {PZ : FVec Ideal S64x128 .f32} {a b : Fin 64 → Fin 64 → ℝ} {N4 : FVec Ideal S4x256 .f32} {N4' : FVec Ideal S4x256 .bf16} {n : Fin 4 → Fin 256 → ℝ}
    {IG : Vec Ideal S1x1x128 .f32} {ig : Fin 128 → ℝ} (hq0 : Re3 Q0 q0) (hq1 : Re3 Q1 q1) (hq2 : Re3 Q2 q2) (hq3 : Re3 Q3 q3) (hn : Re2 N4 n) (hn' : Re2 N4' n) (hig : ReR IG ig) (hp : ReLH PZ a b) :
    ReLH (k0_pay516 k0_pay465 (k0_pay469 iota16 k0_pay467 k0_pay468) (k0_pay484 (k0_pay472 Q0)) (k0_pay485 Q1) (k0_pay486 (k0_pay474 Q2)) (k0_pay487 (k0_pay475 Q3)) PZ N4 N4' IG)
      (fun s t => a s t + if t = s then ig (lo t) * ∑ d, n 0 d * q0 t d else 0)
      (fun s t => b s t + if t = s then ig (hi t) * ∑ d, n 2 d * q2 t d else 0) := by
  constructor <;> intro s t
  all_goals
    obtain ⟨e0, e2, e3, e1⟩ := qn hq0 hq1 hq2 hq3 hn hn' t
    pointwise [k0_pay516, k0_pay465]
    simp only [sel_diag, sel_diag', e0, e2, hig _, hp.l, hp.r, ← EReal.coe_mul, ite_coe0]

theorem xy {PY : FVec Ideal S64x128 .f32} {a b : Fin 64 → Fin 64 → ℝ} {N4 : FVec Ideal S4x256 .f32} {N4' : FVec Ideal S4x256 .bf16} {n : Fin 4 → Fin 256 → ℝ}
    {IG : Vec Ideal S1x1x128 .f32} {ig : Fin 128 → ℝ} (hq0 : Re3 Q0 q0) (hq1 : Re3 Q1 q1) (hq2 : Re3 Q2 q2) (hq3 : Re3 Q3 q3) (hn : Re2 N4 n) (hn' : Re2 N4' n) (hig : ReR IG ig) (hp : ReLH PY a b) :
    ReLH (k0_pay517 k0_pay465 (k0_pay469 iota16 k0_pay467 k0_pay468) (k0_pay484 (k0_pay472 Q0)) (k0_pay485 Q1) (k0_pay486 (k0_pay474 Q2)) (k0_pay487 (k0_pay475 Q3)) PY N4 N4' IG)
      (fun s t => a s t + if t = s then ig (lo t) * ∑ d, n 3 d * q3 t d else 0)
      (fun s t => b s t + if t = s then ig (hi t) * ∑ d, n 1 d * q1 t d else 0) := by
  have e128 : ∀ t : Fin 64, (⟨128 + t.val, by omega⟩ : Fin 256) = ⟨t.val + 128, by omega⟩ := fun t => Fin.ext (Nat.add_comm _ _)
  have e192 : ∀ t : Fin 64, (⟨128 + (t.val + 64), by omega⟩ : Fin 256) = ⟨t.val + 192, by omega⟩ := fun t => Fin.ext (by show 128 + (t.val + 64) = t.val + 192; omega)
  constructor <;> intro s t
  all_goals
    obtain ⟨e0, e2, e3, e1⟩ := qn hq0 hq1 hq2 hq3 hn hn' t
    pointwise [k0_pay517, k0_pay465]
    simp only [sel_diag, sel_diag', e128, e192, e3, e1, hig _, hp.l, hp.r, ← EReal.coe_mul, ite_coe0]

theorem denZ {X : FVec Ideal S64x128 .f32} {a b : Fin 64 → Fin 64 → ℝ} (h : ReLH X a b) (s : Fin 64) :
    k0_pay534 (k0_pay531 k0_pay463 X) (ix2 s 0) = ((∑ t, a s t : ℝ) : EReal) ∧ k0_pay534 (k0_pay532 k0_pay463 X) (ix2 s 0) = ((∑ t, b s t : ℝ) : EReal)
    ∧ k0_pay534 (k0_pay533 k0_pay463 X) (ix2 s 0) = ((∑ t, b s t : ℝ) : EReal) ∧ k0_pay535 k0_pay463 X (ix2 s 0) = ((∑ t, a s t : ℝ) : EReal) := by
  refine ⟨?_, ?_, ?_, ?_⟩
  all_goals
    pointwise [k0_pay534, k0_pay531, k0_pay532, k0_pay533, k0_pay535, k0_pay463]
    rw [sum128]
    simp (disch := omega) only [sel_slt, if_pos, if_neg]
    simp only [h.l, h.r, sum_coe, Finset.sum_const_zero, add_zero, zero_add]

end Cert.Val
-- ==== Proof.Val.HBody.lean ====
/-
  The kernel's outputs of a pair of chunks: the numerators, the quotient by the denominator, and the part of the carried state.
-/
module
public import proofs.«01_k».proof.Proof.Val.Body
import all proofs.«01_k».proof.Proof.Gen.KernelIdeal.Skeleton
@[expose] public section
set_option maxRecDepth 16384
set_option maxHeartbeats 4000000
noncomputable section
namespace Cert.Val
open Idealize.ShloMosaic Cert.KernelIdeal Cert.KernelIdeal.Gen

variable {K0 K1 K2 K3 Q0 Q1 Q2 Q3 : Vec Ideal S1x64x256 .fp8e4m3} {k0 k1 k2 k3 q0 q1 q2 q3 : Fin 64 → Fin 256 → ℝ}
variable {V0 V1 V2 V3 : Vec Ideal S1x64x512 .fp8e4m3} {v0 v1 v2 v3 : Fin 64 → Fin 512 → ℝ}
variable {WZ S1 S3 PM : Vec Ideal S1x1x128 .f32} {wz s1 s3 pm : Fin 128 → ℝ}

theorem m1 (x : ℕ) : x + 128 - 128 = x := by omega
theorem m2 (t : Fin 64) : (t.val + 192 - 128 + 128 - 64) % 128 = t.val := by omega
theorem m4 (t : Fin 64) : (t.val + 64 + 128 - 64) % 128 = t.val := by omega
theorem m5 (t : Fin 64) : (t.val + 128 - 64) % 128 = t.val + 64 := by omega
theorem m6 (x : ℕ) : x + 128 - 64 - 64 = x := by omega
theorem m3 (x : ℕ) : x + 192 - 64 - 64 - 64 = x := by omega

/-- The scores between the two chunks of a pair: query `s` of the later, key `t` of the earlier, weighted. -/
def ssR (q k : Fin 64 → Fin 256 → ℝ) (w : Fin 64 → ℝ) (g : ℝ) (s t : Fin 64) : ℝ := (∑ d, q s d * (k t d * w t)) * g

theorem e64 (s : Fin 64) : (⟨64 + s.val, by omega⟩ : Fin 128) = hi s := Fin.ext (Nat.add_comm _ _)

theorem ss (hk0 : Re3 K0 k0) (hk2 : Re3 K2 k2) (hq1 : Re3 Q1 q1) (hq3 : Re3 Q3 q3)
    (hwz : ReR WZ wz) (hs1 : ReR S1 s1) (hs3 : ReR S3 s3) :
    ReLH (k0_pay520 k0_pay463 (k0_pay518 (k0_pay485 Q1) (k0_pay487 (k0_pay475 Q3)) (k0_pay496 (k0_pay476 K0) (k0_pay478 K2) WZ)) (k0_pay519 S1) S3)
      (fun s t => ssR q1 k0 (fun t => wz (lo t)) (s1 (lo s)) s t) (fun s t => ssR q3 k2 (fun t => wz (hi t)) (s3 (lo s)) s t) := by
  constructor <;> intro s t
  all_goals
    pointwise [k0_pay520, k0_pay463, k0_pay518, k0_pay519, k0_pay496, k0_pay494, k0_pay485, k0_pay487, k0_pay473, k0_pay475, k0_pay476, k0_pay478]
    simp (disch := omega) only [sel_slt, if_pos, if_neg, dif_pos, dif_neg, Nat.add_sub_cancel, Fin.eta, Nat.add_sub_cancel_left]
    simp only [hk0 _ _, hk2 _ _, hq1 _ _, hq3 _ _, hwz _, hs1 _, hs3 _, ← EReal.coe_mul, sum_coe]
    rfl

section
variable {PZ PY SS0 SL : FVec Ideal S64x128 .f32} {QK : FVec Ideal S128x128 .f32} {a b a' b' c d : Fin 64 → Fin 64 → ℝ}

theorem av0 (hv0 : Re3 V0 v0) (hv1 : Re3 V1 v1)
    (hpm : ReR PM pm)
    (hz : ReLH PZ a b) (hy : ReLH PY a' b') (hs : ReLH (k0_pay520 k0_pay463 QK SL S3) c d) (s : Fin 64) (e : Fin 512) :
    (∑ l : Fin 256, k0_pay529 k0_pay463 PZ PY QK SL S3 PM (ix2 (lo s) l) * k0_pay505 (k0_pay480 V0) (k0_pay481 V1) (ix2 l e) : EReal)
      = ((∑ t, a s t * v0 t e : ℝ) : EReal)
    ∧ (∑ l : Fin 256, k0_pay529 k0_pay463 PZ PY QK SL S3 PM (ix2 (hi s) l) * k0_pay505 (k0_pay480 V0) (k0_pay481 V1) (ix2 l e) : EReal)
      = ((∑ t, c s t * v0 t e + ∑ t, b' s t * pm (hi t) * v1 t e : ℝ) : EReal) := by
  obtain ⟨hl, hr⟩ := hs
  simp only [k0_pay463] at hl hr
  constructor
  all_goals
    rw [sum256]
    pointwise [k0_pay529, k0_pay463, k0_pay524, k0_pay525, k0_pay526, k0_pay527, k0_pay528, k0_pay521, k0_pay522, k0_pay523, k0_pay505, k0_pay480, k0_pay481]
    simp (disch := omega) only [sel_slt, if_pos, if_neg, dif_pos, dif_neg, Nat.add_sub_cancel, Fin.eta]
    simp only [m1, m2, m3, m4, m5, m6, Fin.eta, zero_mul, hv0 _ _, hv1 _ _, hpm _, hz.l, hz.r, hy.l, hy.r, hl, hr, Finset.sum_const_zero, add_zero, zero_add, ← EReal.coe_mul, ← EReal.coe_sub, ← EReal.coe_add, sum_coe]
    try simp only [sub_self, zero_mul, Finset.sum_const_zero, add_zero, zero_add, EReal.coe_zero]

theorem av1 (hv2 : Re3 V2 v2) (hv3 : Re3 V3 v3)
    (hpm : ReR PM pm)
    (hz : ReLH PZ a b) (hy : ReLH PY a' b') (hs : ReLH (k0_pay520 k0_pay463 QK SL S3) c d) (s : Fin 64) (e : Fin 512) :
    (∑ l : Fin 256, k0_pay530 k0_pay463 PZ PY QK SL S3 PM (ix2 (lo s) l) * k0_pay506 (k0_pay482 V2) (k0_pay483 V3) (ix2 l e) : EReal)
      = ((∑ t, b s t * v2 t e : ℝ) : EReal)
    ∧ (∑ l : Fin 256, k0_pay530 k0_pay463 PZ PY QK SL S3 PM (ix2 (hi s) l) * k0_pay506 (k0_pay482 V2) (k0_pay483 V3) (ix2 l e) : EReal)
      = ((∑ t, a' s t * pm (lo t) * v3 t e + ∑ t, d s t * v2 t e : ℝ) : EReal) := by
  obtain ⟨hl, hr⟩ := hs
  simp only [k0_pay463] at hl hr
  constructor
  all_goals
    rw [sum256]
    pointwise [k0_pay530, k0_pay463, k0_pay524, k0_pay525, k0_pay526, k0_pay527, k0_pay528, k0_pay521, k0_pay522, k0_pay523, k0_pay506, k0_pay482, k0_pay483]
    simp (disch := omega) only [sel_slt, if_pos, if_neg, dif_pos, dif_neg, Nat.add_sub_cancel, Fin.eta]
    simp only [m1, m2, m3, m4, m5, m6, Fin.eta, zero_mul, hv2 _ _, hv3 _ _, hpm _, hz.l, hz.r, hy.l, hy.r, hl, hr, Finset.sum_const_zero, add_zero, zero_add, ← EReal.coe_mul, ← EReal.coe_sub, ← EReal.coe_add, sum_coe]
    try simp only [sub_self, zero_mul, Finset.sum_const_zero, add_zero, zero_add, EReal.coe_zero]
end

section
variable {VST C : FVec Ideal S256x512 .f32} {VB : FVec Ideal S256x512 .bf16} {A : FVec Ideal S128x256 .bf16} {D0 D1 : FVec Ideal S64x1 .f32}
  {QA QB : FVec Ideal S64x256 .bf16} {EN GA GB BT : Vec Ideal S1x1x128 .f32}
  {qa qb : Fin 64 → Fin 256 → ℝ} {cr : Fin 256 → Fin 512 → ℝ} {en bt : Fin 128 → ℝ} {d0 d1 : Fin 64 → ℝ} {ga gb : ℝ} {avl avh : Fin 64 → Fin 512 → ℝ}

theorem rcp (hd0 : ∀ s, D0 (ix2 s 0) = ((d0 s : ℝ) : EReal)) (hd1 : ∀ s, D1 (ix2 s 0) = ((d1 s : ℝ) : EReal)) (hen : ReR EN en) (hpos : ∀ l, 0 < en l) (s : Fin 64) (l : Fin 128) :
    k0_pay539 D0 D1 EN (ix2 (lo s) l) = ((1 / max |d0 s| (en (lo s)) : ℝ) : EReal)
    ∧ k0_pay539 D0 D1 EN (ix2 (hi s) l) = ((1 / max |d1 s| (en (hi s)) : ℝ) : EReal) := by
  have key : ∀ x y : ℝ, 0 < y → Ideal.div 1 (max (max (x : EReal) (-(x : EReal))) (y : EReal)) = ((1 / max |x| y : ℝ) : EReal) := by
    intro x y hy
    rw [← EReal.coe_neg, ← EReal.coe_strictMono.monotone.map_max, ← EReal.coe_strictMono.monotone.map_max]
    have h : max (max x (-x)) y ≠ 0 := (lt_of_lt_of_le hy (le_max_right _ _)).ne'
    rw [Ideal.div_coe h, one_mul]
    rfl
  constructor
  all_goals
    pointwise [k0_pay539]
    try simp (disch := omega) only [dif_pos, dif_neg, Nat.add_sub_cancel, Fin.eta]
    rw [hen]
    first | rw [hd0] | rw [hd1]
    exact key _ _ (hpos _)

theorem num (hd0 : ∀ s, D0 (ix2 s 0) = ((d0 s : ℝ) : EReal)) (hd1 : ∀ s, D1 (ix2 s 0) = ((d1 s : ℝ) : EReal)) (hen : ReR EN en) (hpos : ∀ l, 0 < en l)
    (hga : ReR GA fun _ => ga) (hgb : ReR GB fun _ => gb)
    (hav : ∀ s e, (∑ l : Fin 256, A (ix2 (lo s) l) * VB (ix2 l e) : EReal) = ((avl s e : ℝ) : EReal) ∧ (∑ l : Fin 256, A (ix2 (hi s) l) * VB (ix2 l e) : EReal) = ((avh s e : ℝ) : EReal)) (s : Fin 64) (e : Fin 512) :
    k0_pay540 VB A D0 D1 EN GA GB (ix2 (lo s) e) = ((avl s e * (1 / max |d0 s| (en (lo s)) * ga) : ℝ) : EReal)
    ∧ k0_pay540 VB A D0 D1 EN GA GB (ix2 (hi s) e) = ((avh s e * (1 / max |d1 s| (en (hi s)) * gb) : ℝ) : EReal) := by
  have hr := rcp hd0 hd1 hen hpos s
  constructor
  all_goals
    pointwise [k0_pay540]
    try simp (disch := omega) only [dif_pos, dif_neg, Nat.add_sub_cancel, Fin.eta]
    simp only [(hav s e).1, (hav s e).2, (hr _).1, (hr _).2, hga _, hgb _, dite_eq_ite, ite_self, ← EReal.coe_mul]

theorem hpair (hd0 : ∀ s, D0 (ix2 s 0) = ((d0 s : ℝ) : EReal)) (hd1 : ∀ s, D1 (ix2 s 0) = ((d1 s : ℝ) : EReal)) (hen : ReR EN en) (hpos : ∀ l, 0 < en l)
    (hga : ReR GA fun _ => ga) (hgb : ReR GB fun _ => gb) (hbt : ReR BT bt) (hqa : Re2 QA qa) (hqb : Re2 QB qb) (hc : Re2 C cr)
    (hav : ∀ s e, (∑ l : Fin 256, A (ix2 (lo s) l) * VB (ix2 l e) : EReal) = ((avl s e : ℝ) : EReal) ∧ (∑ l : Fin 256, A (ix2 (hi s) l) * VB (ix2 l e) : EReal) = ((avh s e : ℝ) : EReal)) (s : Fin 64) (e : Fin 512) :
    k0_pay549 (k0_pay539 D0 D1 EN) (k0_pay540 VB A D0 D1 EN GA GB) (k0_pay545 C) (k0_pay546 QA QB) (k0_pay547 QA QB C) (k0_pay548 QA QB C) BT (ix3 0 (lo s) e)
      = ((avl s e * (1 / max |d0 s| (en (lo s)) * ga) + (∑ d, qa s d * cr d e) * (1 / max |d0 s| (en (lo s)) * bt (lo s)) : ℝ) : EReal)
    ∧ k0_pay549 (k0_pay539 D0 D1 EN) (k0_pay540 VB A D0 D1 EN GA GB) (k0_pay545 C) (k0_pay546 QA QB) (k0_pay547 QA QB C) (k0_pay548 QA QB C) BT (ix3 0 (hi s) e)
      = ((avh s e * (1 / max |d1 s| (en (hi s)) * gb) + (∑ d, qb s d * cr d e) * (1 / max |d1 s| (en (hi s)) * bt (hi s)) : ℝ) : EReal) := by
  have hr := rcp hd0 hd1 hen hpos s
  have hn := num hd0 hd1 hen hpos hga hgb hav s e
  constructor
  all_goals
    pointwise [k0_pay549, k0_pay545, k0_pay544, k0_pay543, k0_pay542, k0_pay546, k0_pay547, k0_pay548]
    try simp (disch := omega) only [dif_pos, dif_neg, Nat.add_sub_cancel, Fin.eta]
    simp only [hn.1, hn.2, (hr _).1, (hr _).2, hbt _, hqa _ _, hqb _ _, hc _ _, dite_eq_ite, ite_self, ← EReal.coe_mul, ← EReal.coe_sub, ← EReal.coe_add, sum_coe]
    simp only [sub_self, mul_zero, Finset.sum_const_zero, add_zero]
    split_ifs <;> simp only [← EReal.coe_mul, ← EReal.coe_add]

theorem cnew {U : FVec Ideal S256x512 .f32} {PH : Vec Ideal S1x1x128 .f32} {u : Fin 256 → Fin 512 → ℝ} {ph : ℝ} (hu : Re2 U u) (hc : Re2 C cr) (hp : ReR PH fun _ => ph) :
    Re2 (k0_pay550 U C PH) (fun d e => cr d e * ph + u d e) := by
  intro d e
  pointwise [k0_pay550]
  simp only [hu _ _, hc _ _, hp _, dite_eq_ite, ite_self, ← EReal.coe_mul, ← EReal.coe_add]

end
end Cert.Val
-- ==== Proof.Val.Quad.lean ====
/-
  Four chunks of the kernel's loop as one function of what they read: the blocks of keys, queries and values of the four chunks,
  and the 33 prepared rows.
-/
module
public import proofs.«01_k».proof.Proof.Val.HBody
import all proofs.«01_k».proof.Proof.Gen.KernelIdeal.Skeleton
@[expose] public section
set_option maxRecDepth 16384
set_option maxHeartbeats 4000000
noncomputable section
namespace Cert.Val
open Idealize.ShloMosaic Cert.KernelIdeal Cert.KernelIdeal.Gen

/-- What four chunks read. The rows in their order in the scratch:
    0 wZ, 1 wY, 2 wYn, 3 muZ, 4 yZ, 5 yY, 6 cZ, 7 cY, 8 MA, 9 MB, 10 igZ, 11 igY, 12 bt0, 13 bt1, 14 en0, 15 en1, 16 s1, 17 s3,
    18 phi0, 19 phi1, 20–23 ga0–3, 24 pmY, 25–28 fa0–3, 29–32 fb0–3. -/
structure QIn where
  K : Fin 4 → Vec Ideal S1x64x256 .fp8e4m3
  Q : Fin 4 → Vec Ideal S1x64x256 .fp8e4m3
  V : Fin 4 → Vec Ideal S1x64x512 .fp8e4m3
  R : Fin 33 → Vec Ideal S1x1x128 .f32

namespace QIn
variable (x : QIn)

abbrev own := k0_pay469 iota16 k0_pay467 k0_pay468
abbrev q0 := k0_pay472 (x.Q 0)
abbrev q1 := k0_pay473 (x.Q 1)
abbrev q2 := k0_pay474 (x.Q 2)
abbrev q3 := k0_pay475 (x.Q 3)
abbrev k0 := k0_pay476 (x.K 0)
abbrev k1 := k0_pay477 (x.K 1)
abbrev k2 := k0_pay478 (x.K 2)
abbrev k3 := k0_pay479 (x.K 3)
abbrev qb0 := k0_pay484 x.q0
abbrev qb1 := k0_pay485 (x.Q 1)
abbrev qb2 := k0_pay486 x.q2
abbrev qb3 := k0_pay487 x.q3

def pz := k0_pay491 k0_pay463 k0_pay464 x.q0 x.q1 x.q2 x.q3 x.k0 x.k1 x.k2 x.k3 (x.R 8) (x.R 9) (x.R 6) (x.R 4)
def py := k0_pay493 k0_pay464 (k0_pay490 (x.R 8) (x.R 9)) (k0_pay492 k0_pay463 x.q0 x.q1 x.q2 x.q3 x.k0 x.k1 x.k2 x.k3 (x.R 7)) (x.R 5)
def dn := k0_pay507 own (k0_pay470 iota16) (k0_pay494 x.k0 x.k2) (k0_pay495 x.k1 x.k3) (x.R 0) (x.R 2)
def n4 (n : FVec Ideal S1x256 .f32) := k0_pay513 n x.dn (k0_pay508 (x.R 25)) (x.R 29) (x.R 26) (x.R 30) (x.R 27) (x.R 31)
def n4b (n : FVec Ideal S1x256 .f32) := k0_pay514 n x.dn (k0_pay508 (x.R 25)) (x.R 29) (x.R 26) (x.R 30) (x.R 27) (x.R 31)
def nout (n : FVec Ideal S1x256 .f32) := k0_pay512 n x.dn (k0_pay508 (x.R 25)) (x.R 29) (x.R 26) (x.R 30) (x.R 27) (x.R 31) (x.R 28) (x.R 32)
def xz (n : FVec Ideal S1x256 .f32) := k0_pay516 k0_pay465 own x.qb0 x.qb1 x.qb2 x.qb3 x.pz (x.n4 n) (x.n4b n) (x.R 10)
def xy (n : FVec Ideal S1x256 .f32) := k0_pay517 k0_pay465 own x.qb0 x.qb1 x.qb2 x.qb3 x.py (x.n4 n) (x.n4b n) (x.R 11)
def qk := k0_pay518 x.qb1 x.qb3 (k0_pay496 x.k0 x.k2 (x.R 0))
def a0 := k0_pay529 k0_pay463 x.pz x.py x.qk (k0_pay519 (x.R 16)) (x.R 17) (x.R 24)
def a1 := k0_pay530 k0_pay463 x.pz x.py x.qk (k0_pay519 (x.R 16)) (x.R 17) (x.R 24)
def vst0 := k0_pay505 (k0_pay480 (x.V 0)) (k0_pay481 (x.V 1))
def vst1 := k0_pay506 (k0_pay482 (x.V 2)) (k0_pay483 (x.V 3))
def upd0 := k0_pay536 (k0_pay503 k0_pay466 x.k0 x.k1 x.k2 x.k3 (x.R 0) (x.R 1) (x.R 3)) x.vst0
def upd1 := k0_pay541 (k0_pay504 k0_pay466 x.k0 x.k1 x.k2 x.k3 (x.R 0) (x.R 1) (x.R 3)) x.vst1
def d0 (n : FVec Ideal S1x256 .f32) := k0_pay534 (k0_pay531 k0_pay463 (x.xz n))
def d1 (n : FVec Ideal S1x256 .f32) := k0_pay534 (k0_pay532 k0_pay463 (x.xy n))
def d2 (n : FVec Ideal S1x256 .f32) := k0_pay534 (k0_pay533 k0_pay463 (x.xz n))
def d3 (n : FVec Ideal S1x256 .f32) := k0_pay535 k0_pay463 (x.xy n)
/-- The outputs of the first pair, of no state carried. -/
def hfirst (n : FVec Ideal S1x256 .f32) := k0_pay537 x.vst0 x.a0 (k0_pay531 k0_pay463 (x.xz n)) (k0_pay532 k0_pay463 (x.xy n)) (x.R 14) (x.R 20) (x.R 21)
/-- The outputs of the two pairs, of the carried state. -/
def h0 (n : FVec Ideal S1x256 .f32) (C : FVec Ideal S256x512 .f32) :=
  k0_pay549 (k0_pay539 (x.d0 n) (x.d1 n) (x.R 14)) (k0_pay540 x.vst0 x.a0 (x.d0 n) (x.d1 n) (x.R 14) (x.R 20) (x.R 21)) (k0_pay545 C) (k0_pay546 x.qb0 x.qb1)
    (k0_pay547 x.qb0 x.qb1 C) (k0_pay548 x.qb0 x.qb1 C) (x.R 12)
def h1 (n : FVec Ideal S1x256 .f32) (C : FVec Ideal S256x512 .f32) :=
  k0_pay549 (k0_pay539 (x.d2 n) (x.d3 n) (x.R 15)) (k0_pay540 x.vst1 x.a1 (x.d2 n) (x.d3 n) (x.R 15) (x.R 22) (x.R 23)) (k0_pay545 C) (k0_pay546 x.qb2 x.qb3)
    (k0_pay547 x.qb2 x.qb3 C) (k0_pay548 x.qb2 x.qb3 C) (x.R 13)
def cfirst := k0_pay538 x.upd0
def c0 (C : FVec Ideal S256x512 .f32) := k0_pay550 x.upd0 C (x.R 18)
def c1 (C : FVec Ideal S256x512 .f32) := k0_pay550 x.upd1 C (x.R 19)
end QIn

/-- The state the kernel carries before each pair but the first, of what the quads read. -/
def C1 (x : Fin 4 → QIn) := (x 0).cfirst
def C2 (x : Fin 4 → QIn) := (x 0).c1 (C1 x)
def C3 (x : Fin 4 → QIn) := (x 1).c0 (C2 x)
def C4 (x : Fin 4 → QIn) := (x 1).c1 (C3 x)
def C5 (x : Fin 4 → QIn) := (x 2).c0 (C4 x)
def C6 (x : Fin 4 → QIn) := (x 2).c1 (C5 x)
def C7 (x : Fin 4 → QIn) := (x 3).c0 (C6 x)
def C8 (x : Fin 4 → QIn) := (x 3).c1 (C7 x)

/-- The normaliser the kernel carries, before each quad. -/
def N0 : FVec Ideal S1x256 .f32 := k0_pay471
def N1 (x : Fin 4 → QIn) := (x 0).nout N0
def N2 (x : Fin 4 → QIn) := (x 1).nout (N1 x)
def N3 (x : Fin 4 → QIn) := (x 2).nout (N2 x)

end Cert.Val
-- ==== Proof.Val.Prep.lean ====
/-
  The 132 rows the first grid point prepares, as one function of the pair of chunks and of the state carried from pair to pair.
-/
module
public import proofs.«01_k».proof.Proof.Val.Base
import all proofs.«01_k».proof.Proof.Gen.KernelIdeal.Skeleton
@[expose] public section
set_option maxRecDepth 16384
set_option maxHeartbeats 4000000
noncomputable section
namespace Cert.Val.Prep
open Idealize.ShloMosaic Cert.KernelIdeal Cert.KernelIdeal.Gen

/-- One number a head and a lane. -/
abbrev W := FVec Ideal S16x128 .f32

theorem slcol (p : Fin 8) : S128x1.Slices ![16 * p.val, 0] S16x1 := by revert p; decide
theorem sltile (p : Fin 8) : S128x128.Slices ![16 * p.val, 0] S16x128 := by revert p; decide

/-- A pair's column, and its rows, of what is stacked for all pairs. -/
def col (x : FVec Ideal S128x1 .f32) (p : Fin 8) : W :=
  broadcastTo S16x128 (shapeCast S16x1 (extractStridedSlice S16x1 ![16 * p.val, 0] x (slcol p)) shapeCasts_S16x1_S16x1) broadcasts_S16x1_S16x128
def tile (x : FVec Ideal S128x128 .f32) (p : Fin 8) : W := extractStridedSlice S16x128 ![16 * p.val, 0] x (sltile p)
def full (x : Vec Ideal S16x1 .f32) : W :=
  broadcastTo S16x128 (shapeCast S16x1 (shapeCast S16x1 x shapeCasts_S16x1_S16x1) shapeCasts_S16x1_S16x1) broadcasts_S16x1_S16x128
def lft : IVec S16x128 1 := k0_pay22 k0_pay1
def seg (x y : W) : W := select lft x y
def rot (x : W) : W := dynamicRotate 1 64#32 none x rotates_S16x128_d1
def put (x : W) : Vec Ideal S1x16x128 .f32 := shapeCast S1x16x128 x shapeCasts_S16x128_S1x16x128
def cst (b : BitVec 32) : W := broadcast S16x128 (Scalar.ofBits .f32 b)

/-- A step of the running maximum, and the two factors of a step. -/
def mN (bl ak m : W) : W := maximumf (addf bl m) ak
def faN (bl ak m : W) : W := exp (subf (addf bl m) (mN bl ak m))
def fbN (bl ak m : W) : W := exp (subf ak (mN bl ak m))

/-- The largest magnitude so far, and the scale the state is stored under. -/
def thN (fa2 th h0 g1 : W) : W := maximumf (mulf fa2 th) (maximumf (absf h0) (absf g1))
def okN (g1 th : W) : IVec S16x128 1 := andi (cmpf .oge (absf g1) (mulf th (cst 0x21800000#32))) (cmpf .one g1 (cst 0))
def nzN (th : W) : W := select (cmpf .oeq th (cst 0)) (cst 0x3F800000#32) th
def pow2N (g1 th : W) : W := exp2 (floor (mulf (log (divf (absf g1) (nzN th))) (cst 0x3FB8AA3B#32)))
def zN (g1 th : W) : W := select (okN g1 th) (cst 0x3F800000#32) (pow2N g1 th)
def sigN (g1 th : W) : W :=
  select (okN g1 th) g1 (select (cmpf .ogt (pow2N g1 th) (cst 0)) (divf g1 (select (cmpf .ogt (pow2N g1 th) (cst 0)) (pow2N g1 th) (cst 0x3F800000#32))) (nzN th))
def okV (vs1 g0 : W) : IVec S16x128 1 := andi (cmpf .oge (absf vs1) (mulf (absf g0) (cst 0x21800000#32))) (cmpf .one vs1 (cst 0))
def tauN (vs1 g0 : W) : W := select (okV vs1 g0) vs1 (nzN g0)
def pmN (vs1 g0 : W) : W := select (okV vs1 g0) (cst 0x3F800000#32) (divf vs1 (tauN vs1 g0))

def mtN (cm m0 m1 : W) : W := maximumf (seg m0 m1) cm
def igN (cm m0 m1 qs0 qs1 : W) : W := mulf (exp (subf (seg m0 m1) (mtN cm m0 m1))) (mulf (seg qs0 qs1) (cst 0x3D800000#32))
def cN (qs0 ks0 qs1 ks1 : W) : W := seg (mulf (mulf qs0 ks0) (cst 0x3D800000#32)) (mulf (mulf qs1 ks1) (cst 0x3D800000#32))
def enN (b mt : W) : W := exp (subf (cst 0) (addf b mt))

/-- What the preparation computes for all pairs at once. -/
structure Com where
  bl0 : FVec Ideal S128x1 .f32
  bl1 : FVec Ideal S128x1 .f32
  a0 : FVec Ideal S128x1 .f32
  a1 : FVec Ideal S128x1 .f32
  b : FVec Ideal S128x128 .f32
  y : FVec Ideal S128x128 .f32
  cm : FVec Ideal S128x128 .f32
  w : FVec Ideal S128x128 .f32
  qs : Fin 16 → Vec Ideal S16x1 .f32
  ks : Fin 16 → Vec Ideal S16x1 .f32
  vs : Fin 16 → Vec Ideal S16x1 .f32

/-- What it carries from a pair to the next. -/
structure St where
  m : W
  sig : W
  th : W

def st0 : St := ⟨k0_pay23, k0_pay24, k0_pay25⟩

/-- A pair: what is computed for all, which pair, and the state before it. -/
structure Pr where
  c : Com
  p : Fin 8
  s : St

namespace Pr
variable (x : Pr)
def ev : Fin 16 := ⟨2 * x.p.val, by omega⟩
def od : Fin 16 := ⟨2 * x.p.val + 1, by omega⟩
def qs0 := full (x.c.qs x.ev)
def ks0 := full (x.c.ks x.ev)
def vs0 := full (x.c.vs x.ev)
def qs1 := full (x.c.qs x.od)
def ks1 := full (x.c.ks x.od)
def vs1 := full (x.c.vs x.od)
def m0 := x.s.m
def m1 := mN (col x.c.bl0 x.p) (col x.c.a0 x.p) x.m0
def fa0 := faN (col x.c.bl0 x.p) (col x.c.a0 x.p) x.m0
def fb0 := fbN (col x.c.bl0 x.p) (col x.c.a0 x.p) x.m0
def m2 := mN (col x.c.bl1 x.p) (col x.c.a1 x.p) x.m1
def fa1 := faN (col x.c.bl1 x.p) (col x.c.a1 x.p) x.m1
def fb1 := fbN (col x.c.bl1 x.p) (col x.c.a1 x.p) x.m1
def mt := mtN (tile x.c.cm x.p) x.m0 x.m1
def ig := igN (tile x.c.cm x.p) x.m0 x.m1 x.qs0 x.qs1
def cr := cN x.qs0 x.ks0 x.qs1 x.ks1
def en := enN (tile x.c.b x.p) x.mt
def bt := mulf x.ig (seg x.s.sig (mulf x.fa0 x.s.sig))
def g0 := mulf x.fb0 (mulf x.ks0 x.vs0)
def g1 := mulf x.fb1 (mulf x.ks1 x.vs1)
def h0 := mulf x.fa1 x.g0
def fa2 := mulf x.fa0 x.fa1
def th := thN x.fa2 x.s.th x.h0 x.g1
def z := zN x.g1 x.th
def sig := sigN x.g1 x.th
def phi := divf (mulf x.fa2 x.s.sig) x.sig
def mu := divf x.h0 x.sig
def tau := tauN x.vs1 x.g0
def pm := pmN x.vs1 x.g0
def sr := mulf (rot x.ig) (divf x.g0 x.tau)
def next : St := ⟨x.m2, x.sig, x.th⟩
end Pr

/-- The rows of two pairs, in their order. -/
def rows (a b : Pr) : Fin 33 → Vec Ideal S1x16x128 .f32 :=
  let wz := fun (x : FVec Ideal S128x128 .f32) => seg (tile x a.p) (rot (tile x b.p))
  let wy := fun (x : FVec Ideal S128x128 .f32) => seg (rot (tile x b.p)) (tile x a.p)
  ![put (wz a.c.w), put (mulf (wy a.c.w) (seg b.z a.z)), put (wy a.c.w), put (seg a.mu b.mu), put (wz a.c.y), put (wy a.c.y),
    put (seg a.cr (rot b.cr)), put (seg (rot b.cr) a.cr), put (seg a.mt b.mt), put (seg b.mt a.mt),
    put (seg a.ig (rot b.ig)), put (seg (rot b.ig) a.ig), put a.bt, put b.bt, put a.en, put b.en, put a.sr, put b.sr,
    put a.phi, put b.phi, put a.vs0, put a.tau, put b.vs0, put b.tau, put (seg b.pm a.pm),
    put a.fa0, put a.fa1, put b.fa0, put b.fa1,
    put (mulf a.fb0 a.ks0), put (mulf a.fb1 a.ks1), put (mulf b.fb0 b.ks0), put (mulf b.fb1 b.ks1)]

/-- The pairs, one after another. -/
def pr0 (c : Com) : Pr := ⟨c, 0, st0⟩
def pr1 (c : Com) : Pr := ⟨c, 1, (pr0 c).next⟩
def pr2 (c : Com) : Pr := ⟨c, 2, (pr1 c).next⟩
def pr3 (c : Com) : Pr := ⟨c, 3, (pr2 c).next⟩
def pr4 (c : Com) : Pr := ⟨c, 4, (pr3 c).next⟩
def pr5 (c : Com) : Pr := ⟨c, 5, (pr4 c).next⟩
def pr6 (c : Com) : Pr := ⟨c, 6, (pr5 c).next⟩
def pr7 (c : Com) : Pr := ⟨c, 7, (pr6 c).next⟩

end Cert.Val.Prep
-- ==== Proof.Val.Model.lean ====
/-
  One head in real numbers: the gates, the state and the normaliser before each chunk, the outputs; and the scaled form in which
  the kernel carries the state from pair to pair.
-/
module
public import proofs.«01_k».proof.Proof.Val.Base
@[expose] public section
noncomputable section
namespace Cert.Val

/-- A head: queries, keys, values, scales and gates of chunk `n`. -/
structure Hd where
  q : ℕ → Fin 64 → Fin 256 → ℝ
  k : ℕ → Fin 64 → Fin 256 → ℝ
  v : ℕ → Fin 64 → Fin 512 → ℝ
  qs : ℕ → ℝ
  ks : ℕ → ℝ
  vs : ℕ → ℝ
  ig : ℕ → Fin 64 → ℝ
  f : ℕ → Fin 64 → ℝ

/-- The logarithm of the logistic function. -/
def lsR (x : ℝ) : ℝ := -(max (-x) 0 + Real.log (1 + Real.exp (-|x|)))
/-- The largest of 64 numbers. -/
def mx (f : Fin 64 → ℝ) : ℝ := Finset.univ.sup' Finset.univ_nonempty f

theorem mx_le {f : Fin 64 → ℝ} {a : ℝ} : mx f ≤ a ↔ ∀ t, f t ≤ a := by
  unfold mx
  rw [Finset.sup'_le_iff]
  exact ⟨fun h t => h t (Finset.mem_univ _), fun h t _ => h t⟩

/-- A number that replaces nothing but zero, by one. -/
def nzR (x : ℝ) : ℝ := if x = 0 then 1 else x
theorem nzR_ne (x : ℝ) : nzR x ≠ 0 := by unfold nzR; split_ifs with h; exacts [one_ne_zero, h]
/-- Within the range in which a number serves as a scale itself. -/
def okR (x th : ℝ) : Prop := th * (2 ^ (-60 : ℤ)) ≤ |x| ∧ x ≠ 0
open Classical in
/-- The scale of the values within a pair, and what the last is multiplied by. -/
def tauR (vs g : ℝ) : ℝ := if okR vs |g| then vs else nzR g
open Classical in
def pmR (vs g : ℝ) : ℝ := if okR vs |g| then 1 else vs / tauR vs g
theorem tauR_ne (vs g : ℝ) : tauR vs g ≠ 0 := by
  unfold tauR; split_ifs with h; exacts [h.2, nzR_ne g]
theorem tau_pm (vs g : ℝ) : tauR vs g * pmR vs g = vs := by
  have h := tauR_ne vs g
  unfold pmR
  split_ifs with hk
  · unfold tauR; rw [if_pos hk, mul_one]
  · field_simp

/-- The power of two below the quotient of `|g|` by `th`. -/
def pow2R (L g th : ℝ) : ℝ := if g = 0 then 0 else Real.rpow 2 ((⌊Real.log (|g| * (1 / nzR th)) * L⌋ : ℤ) : ℝ)
open Classical in
/-- The two factors of a scale `g`. -/
def zR (L g th : ℝ) : ℝ := if okR g th then 1 else pow2R L g th
open Classical in
def sigR (L g th : ℝ) : ℝ := if okR g th then g else if 0 < pow2R L g th then g / pow2R L g th else nzR th
theorem pow2R_pos {L g th : ℝ} (h : g ≠ 0) : 0 < pow2R L g th := by unfold pow2R; rw [if_neg h]; exact Real.rpow_pos_of_pos two_pos _
theorem sigR_ne (L g th : ℝ) : sigR L g th ≠ 0 := by
  unfold sigR
  split_ifs with h h'
  · exact h.2
  · refine div_ne_zero ?_ h'.ne'
    rintro rfl
    simp [pow2R] at h'
  · exact nzR_ne th
theorem z_sig (L g th : ℝ) : zR L g th * sigR L g th = g := by
  unfold zR sigR
  split_ifs with h h'
  · rw [one_mul]
  · have := h'.ne'
    field_simp
  · have h0 : g = 0 := by
      by_contra hg
      exact h' (pow2R_pos hg)
    simp [h0, pow2R]

namespace Hd
variable (D : Hd)
def lf (n : ℕ) (t : Fin 64) : ℝ := lsR (D.f n t)
def b (n : ℕ) (t : Fin 64) : ℝ := ∑ s, if s.val ≤ t.val then D.lf n s else 0
def bL (n : ℕ) : ℝ := ∑ s, D.lf n s
def lw (n : ℕ) (t : Fin 64) : ℝ := D.bL n - D.b n t + D.ig n t
def ak (n : ℕ) : ℝ := mx (D.lw n)
def w (n : ℕ) (t : Fin 64) : ℝ := Real.exp (D.lw n t - D.ak n)
/-- The running maximum the state before chunk `n` is scaled by. -/
def m : ℕ → ℝ
  | 0 => 0
  | n + 1 => max (D.bL n + m n) (D.ak n)
def fa (n : ℕ) : ℝ := Real.exp (D.bL n + D.m n - D.m (n + 1))
def fb (n : ℕ) : ℝ := Real.exp (D.ak n - D.m (n + 1))
def y (n : ℕ) (t : Fin 64) : ℝ := D.ig n t - D.b n t
def cm (n : ℕ) (t : Fin 64) : ℝ := mx fun s => if s.val ≤ t.val then D.y n s else D.y n 0
def mt (n : ℕ) (t : Fin 64) : ℝ := max (D.m n) (D.cm n t)
def igt (n : ℕ) (t : Fin 64) : ℝ := Real.exp (D.m n - D.mt n t) * (D.qs n * (1 / 16))
def en (n : ℕ) (t : Fin 64) : ℝ := Real.exp (0 - (D.b n t + D.mt n t))
def cr (n : ℕ) : ℝ := D.qs n * D.ks n * (1 / 16)
/-- The weight of key `t` for query `s`. -/
def P (n : ℕ) (s t : Fin 64) : ℝ := if t.val ≤ s.val then (∑ d, D.q n s d * D.k n t d) * D.cr n * Real.exp (D.y n t - D.mt n s) else 0
def U (n : ℕ) (d : Fin 256) (e : Fin 512) : ℝ := ∑ t, D.k n t d * D.w n t * D.v n t e
def Wk (n : ℕ) (d : Fin 256) : ℝ := ∑ t, D.w n t * D.k n t d
def g (n : ℕ) : ℝ := D.fb n * (D.ks n * D.vs n)
/-- The state, and the normaliser, before chunk `n`. -/
def S : ℕ → Fin 256 → Fin 512 → ℝ
  | 0 => fun _ _ => 0
  | n + 1 => fun d e => D.fa n * S n d e + D.g n * D.U n d e
def nn : ℕ → Fin 256 → ℝ
  | 0 => fun _ => 0
  | n + 1 => fun d => D.fa n * nn n d + D.fb n * D.ks n * D.Wk n d
def den (n : ℕ) (s : Fin 64) : ℝ := D.igt n s * (∑ d, D.nn n d * D.q n s d) + ∑ t, D.P n s t
def num (n : ℕ) (s : Fin 64) (e : Fin 512) : ℝ := D.igt n s * (∑ d, D.q n s d * D.S n d e) + D.vs n * ∑ t, D.P n s t * D.v n t e
/-- The outputs. -/
def out (n : ℕ) (s : Fin 64) (e : Fin 512) : ℝ := D.num n s e * (1 / max |D.den n s| (D.en n s))

/-- The scales of pair `p`. -/
def h0 (p : ℕ) : ℝ := D.fa (2 * p + 1) * D.g (2 * p)
def fa2 (p : ℕ) : ℝ := D.fa (2 * p) * D.fa (2 * p + 1)
def th : ℕ → ℝ
  | 0 => 0
  | p + 1 => max (D.fa2 p * th p) (max |D.h0 p| |D.g (2 * p + 1)|)
variable (L : ℝ)
def sg : ℕ → ℝ
  | 0 => 1
  | p + 1 => sigR L (D.g (2 * p + 1)) (D.th (p + 1))
def z (p : ℕ) : ℝ := zR L (D.g (2 * p + 1)) (D.th (p + 1))
def phi (p : ℕ) : ℝ := D.fa2 p * D.sg L p * (1 / D.sg L (p + 1))
def mu (p : ℕ) : ℝ := D.h0 p * (1 / D.sg L (p + 1))
def tau (p : ℕ) : ℝ := tauR (D.vs (2 * p + 1)) (D.g (2 * p))
def pm (p : ℕ) : ℝ := pmR (D.vs (2 * p + 1)) (D.g (2 * p))
def sr (p : ℕ) (t : Fin 64) : ℝ := D.igt (2 * p + 1) t * (D.g (2 * p) * (1 / D.tau p))
def upd (p : ℕ) (d : Fin 256) (e : Fin 512) : ℝ :=
  ∑ t, D.k (2 * p) t d * D.w (2 * p) t * D.mu L p * D.v (2 * p) t e + ∑ t, D.k (2 * p + 1) t d * (D.w (2 * p + 1) t * D.z L p) * D.v (2 * p + 1) t e
/-- The state the kernel carries before pair `p`. -/
def X : ℕ → Fin 256 → Fin 512 → ℝ
  | 0 => fun _ _ => 0
  | p + 1 => fun d e => X p d e * D.phi L p + D.upd L p d e

theorem th_nonneg : ∀ p, 0 ≤ D.th p
  | 0 => le_rfl
  | _ + 1 => le_max_of_le_right (le_max_of_le_left (abs_nonneg _))

theorem sg_ne : ∀ p, D.sg L p ≠ 0
  | 0 => one_ne_zero
  | _ + 1 => sigR_ne _ _ _

theorem upd_eq (p : ℕ) (d : Fin 256) (e : Fin 512) :
    D.upd L p d e = D.mu L p * D.U (2 * p) d e + D.z L p * D.U (2 * p + 1) d e := by
  unfold upd U
  rw [Finset.mul_sum, Finset.mul_sum]
  congr 1 <;> exact Finset.sum_congr rfl fun t _ => by ring

theorem X_sg : ∀ (p : ℕ) (d : Fin 256) (e : Fin 512), D.X L p d e * D.sg L p = D.S (2 * p) d e
  | 0, _, _ => by simp [X, S]
  | p + 1, d, e => by
    have ih := X_sg p d e
    have h1 := D.sg_ne L (p + 1)
    have hz : D.z L p * D.sg L (p + 1) = D.g (2 * p + 1) := z_sig _ _ _
    have hs : D.S (2 * (p + 1)) d e = D.fa (2 * p + 1) * (D.fa (2 * p) * D.S (2 * p) d e + D.g (2 * p) * D.U (2 * p) d e) + D.g (2 * p + 1) * D.U (2 * p + 1) d e := rfl
    rw [hs, ← ih, ← hz]
    show (D.X L p d e * D.phi L p + D.upd L p d e) * D.sg L (p + 1) = _
    rw [upd_eq]
    unfold phi mu fa2 h0
    field_simp
    ring

theorem even_out (p : ℕ) (s : Fin 64) (e : Fin 512) :
    (∑ t, D.P (2 * p) s t * D.v (2 * p) t e) * (1 / max |D.den (2 * p) s| (D.en (2 * p) s) * D.vs (2 * p))
      + (∑ d, D.q (2 * p) s d * D.X L p d e) * (1 / max |D.den (2 * p) s| (D.en (2 * p) s) * (D.igt (2 * p) s * D.sg L p)) = D.out (2 * p) s e := by
  have h : ∑ d, D.q (2 * p) s d * D.S (2 * p) d e = (∑ d, D.q (2 * p) s d * D.X L p d e) * D.sg L p := by
    rw [Finset.sum_mul]
    exact Finset.sum_congr rfl fun d _ => by rw [← X_sg D L p d e]; ring
  unfold out num
  rw [h]
  ring

theorem odd_out (p : ℕ) (s : Fin 64) (e : Fin 512) :
    (∑ t, (∑ d, D.q (2 * p + 1) s d * (D.k (2 * p) t d * D.w (2 * p) t)) * D.sr p s * D.v (2 * p) t e
        + ∑ t, D.P (2 * p + 1) s t * D.pm p * D.v (2 * p + 1) t e) * (1 / max |D.den (2 * p + 1) s| (D.en (2 * p + 1) s) * D.tau p)
      + (∑ d, D.q (2 * p + 1) s d * D.X L p d e) * (1 / max |D.den (2 * p + 1) s| (D.en (2 * p + 1) s) * (D.igt (2 * p + 1) s * (D.fa (2 * p) * D.sg L p)))
      = D.out (2 * p + 1) s e := by
  have hA : ∑ t, (∑ d, D.q (2 * p + 1) s d * (D.k (2 * p) t d * D.w (2 * p) t)) * D.sr p s * D.v (2 * p) t e
      = D.sr p s * ∑ d, D.q (2 * p + 1) s d * D.U (2 * p) d e := by
    unfold U
    simp only [Finset.mul_sum, Finset.sum_mul]
    rw [Finset.sum_comm]
    exact Finset.sum_congr rfl fun d _ => Finset.sum_congr rfl fun t _ => by ring
  have hB : ∑ t, D.P (2 * p + 1) s t * D.pm p * D.v (2 * p + 1) t e = D.pm p * ∑ t, D.P (2 * p + 1) s t * D.v (2 * p + 1) t e := by
    rw [Finset.mul_sum]
    exact Finset.sum_congr rfl fun t _ => by ring
  have hC : ∑ d, D.q (2 * p + 1) s d * D.S (2 * p + 1) d e
      = D.fa (2 * p) * ((∑ d, D.q (2 * p + 1) s d * D.X L p d e) * D.sg L p) + D.g (2 * p) * ∑ d, D.q (2 * p + 1) s d * D.U (2 * p) d e := by
    rw [Finset.sum_mul, Finset.mul_sum, Finset.mul_sum, ← Finset.sum_add_distrib]
    refine Finset.sum_congr rfl fun d _ => ?_
    show _ * (D.fa (2 * p) * D.S (2 * p) d e + D.g (2 * p) * D.U (2 * p) d e) = _
    rw [← X_sg D L p d e]; ring
  have ht : D.tau p ≠ 0 := tauR_ne _ _
  have hp : D.vs (2 * p + 1) = D.tau p * D.pm p := (tau_pm _ _).symm
  unfold out num
  rw [hA, hB, hC, hp]
  unfold sr
  field_simp
  ring
end Hd
end Cert.Val
-- ==== Proof.Val.PrepVal.lean ====
/-
  The preparation in real numbers: each step of a pair of chunks, of what is computed for all pairs and of the state before it.
-/
module
public import proofs.«01_k».proof.Proof.Val.Prep
public import proofs.«01_k».proof.Proof.Val.Model
import all proofs.«01_k».proof.Proof.Gen.KernelIdeal.Skeleton
@[expose] public section
set_option maxRecDepth 16384
set_option maxHeartbeats 4000000
noncomputable section
namespace Cert.Val.Prep
open Idealize.ShloMosaic Cert.KernelIdeal Cert.KernelIdeal.Gen

/-- A number a head and a lane: the left halves and the right halves. -/
structure RW (X : W) (a b : Fin 16 → Fin 64 → ℝ) : Prop where
  l : ∀ h t, X (ix2 h (lo t)) = ((a h t : ℝ) : EReal)
  r : ∀ h t, X (ix2 h (hi t)) = ((b h t : ℝ) : EReal)

variable {X Y Z : W} {a b a' b' : Fin 16 → Fin 64 → ℝ}

theorem op2 {op : EReal → EReal → EReal} {f : ℝ → ℝ → ℝ} (hop : ∀ x y : ℝ, op x y = ((f x y : ℝ) : EReal)) (hZ : ∀ i, Z i = op (X i) (Y i))
    (hX : RW X a b) (hY : RW Y a' b') : RW Z (fun h t => f (a h t) (a' h t)) (fun h t => f (b h t) (b' h t)) :=
  ⟨fun h t => by rw [hZ, hX.l, hY.l, hop], fun h t => by rw [hZ, hX.r, hY.r, hop]⟩
theorem op1 {op : EReal → EReal} {f : ℝ → ℝ} (hop : ∀ x : ℝ, op x = ((f x : ℝ) : EReal)) (hZ : ∀ i, Z i = op (X i)) (hX : RW X a b) :
    RW Z (fun h t => f (a h t)) (fun h t => f (b h t)) :=
  ⟨fun h t => by rw [hZ, hX.l, hop], fun h t => by rw [hZ, hX.r, hop]⟩

theorem max_coe (x y : ℝ) : max (x : EReal) (y : EReal) = ((max x y : ℝ) : EReal) := (EReal.coe_strictMono.monotone.map_max).symm
theorem abs_coe (x : ℝ) : max (x : EReal) (-(x : EReal)) = ((|x| : ℝ) : EReal) := by rw [← EReal.coe_neg, max_coe]; rfl

theorem rmul (hX : RW X a b) (hY : RW Y a' b') : RW (mulf X Y) (fun h t => a h t * a' h t) (fun h t => b h t * b' h t) :=
  op2 (op := (· * ·)) (fun x y => (EReal.coe_mul x y).symm) (fun _ => rfl) hX hY
theorem radd (hX : RW X a b) (hY : RW Y a' b') : RW (addf X Y) (fun h t => a h t + a' h t) (fun h t => b h t + b' h t) :=
  op2 (op := (· + ·)) (fun x y => (EReal.coe_add x y).symm) (fun _ => rfl) hX hY
theorem rsub (hX : RW X a b) (hY : RW Y a' b') : RW (subf X Y) (fun h t => a h t - a' h t) (fun h t => b h t - b' h t) :=
  op2 (op := (· - ·)) (fun x y => (EReal.coe_sub x y).symm) (fun _ => rfl) hX hY
theorem rmax (hX : RW X a b) (hY : RW Y a' b') : RW (maximumf X Y) (fun h t => max (a h t) (a' h t)) (fun h t => max (b h t) (b' h t)) :=
  op2 (op := max) max_coe (fun _ => rfl) hX hY
theorem rexp (hX : RW X a b) : RW (exp X) (fun h t => Real.exp (a h t)) (fun h t => Real.exp (b h t)) :=
  op1 (op := Ideal.exp) (fun _ => rfl) (fun _ => rfl) hX
theorem rabs (hX : RW X a b) : RW (absf X) (fun h t => |a h t|) (fun h t => |b h t|) :=
  op1 (op := fun x => max x (-x)) abs_coe (fun _ => rfl) hX
theorem rdiv (hX : RW X a b) (hY : RW Y a' b') (ha : ∀ h t, a' h t ≠ 0) (hb : ∀ h t, b' h t ≠ 0) :
    RW (divf X Y) (fun h t => a h t * (1 / a' h t)) (fun h t => b h t * (1 / b' h t)) :=
  ⟨fun h t => by show Ideal.div (X _) (Y _) = _; rw [hX.l, hY.l, Ideal.div_coe (ha h t), ← EReal.coe_mul],
   fun h t => by show Ideal.div (X _) (Y _) = _; rw [hX.r, hY.r, Ideal.div_coe (hb h t), ← EReal.coe_mul]⟩
theorem rseg (hX : RW X a b) (hY : RW Y a' b') : RW (seg X Y) a b' := by
  constructor
  all_goals
    intro h t
    pointwise [seg, lft, k0_pay22, k0_pay1]
    rw [sel_slt _ (by omega)]
    first | rw [if_pos (by omega)] | rw [if_neg (by omega)]
    first | exact hX.l h t | exact hY.r h t
theorem rrot (hX : RW X a b) : RW (rot X) b a := by
  constructor
  · intro h t
    pointwise [rot]
    rw [← hX.r h t]
    congr 2
    exact Fin.ext (by show (t.val + 128 - 64) % 128 = t.val + 64; omega)
  · intro h t
    pointwise [rot]
    rw [← hX.l h t]
    congr 2
    exact Fin.ext (by show (t.val + 64 + 128 - 64) % 128 = t.val; omega)
theorem put_apply (X : W) (h : Fin 16) (l : Fin 128) : put X (ix3 0 h l) = X (ix2 h l) := by
  pointwise [put]
theorem rcst {v : ℝ} {w : BitVec 32} (h : Ideal.ofBits .f32 w = (v : EReal)) : RW (cst w) (fun _ _ => v) (fun _ _ => v) :=
  ⟨fun _ _ => h, fun _ _ => h⟩

theorem b0 : Ideal.ofBits .f32 0#32 = ((0 : ℝ) : EReal) := by simp [Ideal.ofBits, Ideal.ieee]
theorem b1 : Ideal.ofBits .f32 0x3F800000#32 = ((1 : ℝ) : EReal) := by simp [Ideal.ofBits, Ideal.ieee, -EReal.coe_mul]; norm_num
/-- The constant the kernel takes logarithms to base two with. -/
def Lg : ℝ := 12102203 / 8388608
theorem bL : Ideal.ofBits .f32 0x3FB8AA3B#32 = ((Lg : ℝ) : EReal) := by simp [Ideal.ofBits, Ideal.ieee, -EReal.coe_mul, Lg]; norm_num
theorem bR : Ideal.ofBits .f32 0x21800000#32 = (((2 : ℝ) ^ (-60 : ℤ) : ℝ) : EReal) := by simp [Ideal.ofBits, Ideal.ieee, -EReal.coe_mul]; norm_num

theorem sel_bool {α : Type} (p : Prop) [Decidable p] (x y : α) : Scalar.select (BitVec.ofBool (decide p)) x y = if p then x else y := by
  by_cases h : p <;> simp [h, Scalar.select]
theorem sel_and {α : Type} (p q : Prop) [Decidable p] [Decidable q] (x y : α) :
    Scalar.select (IntOp.andi (BitVec.ofBool (decide p)) (BitVec.ofBool (decide q))) x y = if p ∧ q then x else y := by
  by_cases h : p <;> by_cases h' : q <;> simp [h, h', Scalar.select, IntOp.andi]
theorem ite_coe (p : Prop) [Decidable p] (x y : ℝ) : (if p then (x : EReal) else (y : EReal)) = ((if p then x else y : ℝ) : EReal) := by
  split_ifs <;> rfl

theorem nz_at {i : S16x128.Idx} {x : ℝ} (hx : X i = (x : EReal)) : nzN X i = ((nzR x : ℝ) : EReal) := by
  show Scalar.select (Ideal.cmp .oeq (X i) (Ideal.ofBits .f32 0#32)) (Ideal.ofBits .f32 0x3F800000#32) (X i) = _
  rw [hx, b0, b1]
  show Scalar.select (BitVec.ofBool (decide _)) _ _ = _
  rw [sel_bool, ite_coe]
  simp only [EReal.coe_eq_coe_iff]
  rfl

open Classical in
theorem ok_at {α : Type} {i : S16x128.Idx} {g th : ℝ} (hg : X i = (g : EReal)) (ht : Y i = (th : EReal)) (x y : α) :
    Scalar.select (okN X Y i) x y = if okR g th then x else y := by
  show Scalar.select (IntOp.andi (Ideal.cmp .oge (max (X i) (-(X i))) (Y i * Ideal.ofBits .f32 0x21800000#32)) (Ideal.cmp .one (X i) (Ideal.ofBits .f32 0#32))) _ _ = _
  rw [hg, ht, b0, bR, abs_coe, ← EReal.coe_mul]
  show Scalar.select (IntOp.andi (BitVec.ofBool (decide _)) (BitVec.ofBool (decide _))) _ _ = _
  rw [sel_and]
  simp only [EReal.coe_le_coe_iff, ne_eq, EReal.coe_eq_coe_iff]
  refine if_congr ?_ rfl rfl
  unfold okR
  exact Iff.rfl

theorem pow2_at {i : S16x128.Idx} {g th : ℝ} (h0 : 0 ≤ th) (hg : X i = (g : EReal)) (ht : Y i = (th : EReal)) :
    pow2N X Y i = ((pow2R Lg g th : ℝ) : EReal) := by
  show Ideal.exp2 (Ideal.liftRound Int.floor (Ideal.log (Ideal.div (max (X i) (-(X i))) (nzN Y i)) * Ideal.ofBits .f32 0x3FB8AA3B#32)) = _
  rw [hg, nz_at ht, bL, abs_coe, Ideal.div_coe (nzR_ne th), ← EReal.coe_mul, Ideal.log_coe]
  have hn : 0 < nzR th := lt_of_le_of_ne (by unfold nzR; split_ifs; exacts [zero_le_one, h0]) (nzR_ne th).symm
  by_cases h : g = 0
  · rw [if_pos (by simp [h]), EReal.bot_mul_coe_of_pos (by unfold Lg; norm_num)]
    simp [pow2R, h]
  · rw [if_neg (not_le.mpr (mul_pos (abs_pos.mpr h) (one_div_pos.mpr hn))), ← EReal.coe_mul, Ideal.liftRound_coe, Ideal.exp2_coe]
    unfold pow2R
    rw [if_neg h]

open Classical in
theorem z_at {i : S16x128.Idx} {g th : ℝ} (h0 : 0 ≤ th) (hg : X i = (g : EReal)) (ht : Y i = (th : EReal)) :
    zN X Y i = ((zR Lg g th : ℝ) : EReal) := by
  show Scalar.select (okN X Y i) (Ideal.ofBits .f32 0x3F800000#32) (pow2N X Y i) = _
  rw [ok_at hg ht, pow2_at h0 hg ht, b1, ite_coe]
  rfl
open Classical in
theorem sig_at {i : S16x128.Idx} {g th : ℝ} (h0 : 0 ≤ th) (hg : X i = (g : EReal)) (ht : Y i = (th : EReal)) :
    sigN X Y i = ((sigR Lg g th : ℝ) : EReal) := by
  show Scalar.select (okN X Y i) (X i) (Scalar.select (Ideal.cmp .ogt (pow2N X Y i) (Ideal.ofBits .f32 0#32))
    (Ideal.div (X i) (Scalar.select (Ideal.cmp .ogt (pow2N X Y i) (Ideal.ofBits .f32 0#32)) (pow2N X Y i) (Ideal.ofBits .f32 0x3F800000#32))) (nzN Y i)) = _
  rw [ok_at hg ht, pow2_at h0 hg ht, b1, b0, nz_at ht, hg]
  show (if _ then _ else Scalar.select (BitVec.ofBool (decide _)) (Ideal.div _ (Scalar.select (BitVec.ofBool (decide _)) _ _)) _) = _
  rw [sel_bool, sel_bool]
  simp only [EReal.coe_lt_coe_iff]
  unfold sigR
  by_cases hp : 0 < pow2R Lg g th
  · rw [if_pos hp, if_pos hp, if_pos hp, Ideal.div_coe hp.ne', ← EReal.coe_mul, ite_coe, mul_one_div]
  · rw [if_neg hp, if_neg hp, ite_coe]
open Classical in
theorem tau_at {i : S16x128.Idx} {v g : ℝ} (hv : X i = (v : EReal)) (hg : Y i = (g : EReal)) : tauN X Y i = ((tauR v g : ℝ) : EReal) := by
  have ha : absf Y i = ((|g| : ℝ) : EReal) := by show max (Y i) (-(Y i)) = _; rw [hg, abs_coe]
  show Scalar.select (okN X (absf Y) i) (X i) (nzN Y i) = _
  rw [ok_at hv ha, nz_at hg, hv, ite_coe]
  rfl
open Classical in
theorem pm_at {i : S16x128.Idx} {v g : ℝ} (hv : X i = (v : EReal)) (hg : Y i = (g : EReal)) : pmN X Y i = ((pmR v g : ℝ) : EReal) := by
  have ha : absf Y i = ((|g| : ℝ) : EReal) := by show max (Y i) (-(Y i)) = _; rw [hg, abs_coe]
  show Scalar.select (okN X (absf Y) i) (Ideal.ofBits .f32 0x3F800000#32) (Ideal.div (X i) (tauN X Y i)) = _
  rw [ok_at hv ha, tau_at hv hg, hv, b1, Ideal.div_coe (tauR_ne v g), ← EReal.coe_mul, ite_coe, mul_one_div]
  rfl

/-- What is computed for all pairs, in real numbers. -/
structure ComRe (c : Com) (D : Fin 16 → Hd) : Prop where
  bl0 : ∀ p : Fin 8, RW (col c.bl0 p) (fun h _ => (D h).bL (2 * p.val)) (fun h _ => (D h).bL (2 * p.val))
  bl1 : ∀ p : Fin 8, RW (col c.bl1 p) (fun h _ => (D h).bL (2 * p.val + 1)) (fun h _ => (D h).bL (2 * p.val + 1))
  a0 : ∀ p : Fin 8, RW (col c.a0 p) (fun h _ => (D h).ak (2 * p.val)) (fun h _ => (D h).ak (2 * p.val))
  a1 : ∀ p : Fin 8, RW (col c.a1 p) (fun h _ => (D h).ak (2 * p.val + 1)) (fun h _ => (D h).ak (2 * p.val + 1))
  b : ∀ p : Fin 8, RW (tile c.b p) (fun h => (D h).b (2 * p.val)) (fun h => (D h).b (2 * p.val + 1))
  y : ∀ p : Fin 8, RW (tile c.y p) (fun h => (D h).y (2 * p.val)) (fun h => (D h).y (2 * p.val + 1))
  cm : ∀ p : Fin 8, RW (tile c.cm p) (fun h => (D h).cm (2 * p.val)) (fun h => (D h).cm (2 * p.val + 1))
  w : ∀ p : Fin 8, RW (tile c.w p) (fun h => (D h).w (2 * p.val)) (fun h => (D h).w (2 * p.val + 1))
  qs : ∀ j : Fin 16, RW (full (c.qs j)) (fun h _ => (D h).qs j.val) (fun h _ => (D h).qs j.val)
  ks : ∀ j : Fin 16, RW (full (c.ks j)) (fun h _ => (D h).ks j.val) (fun h _ => (D h).ks j.val)
  vs : ∀ j : Fin 16, RW (full (c.vs j)) (fun h _ => (D h).vs j.val) (fun h _ => (D h).vs j.val)

/-- The state before pair `p`, in real numbers. -/
structure StRe (s : St) (D : Fin 16 → Hd) (p : ℕ) : Prop where
  m : RW s.m (fun h _ => (D h).m (2 * p)) (fun h _ => (D h).m (2 * p))
  sig : RW s.sig (fun h _ => (D h).sg Lg p) (fun h _ => (D h).sg Lg p)
  th : RW s.th (fun h _ => (D h).th p) (fun h _ => (D h).th p)

theorem st0_re (D : Fin 16 → Hd) : StRe st0 D 0 := ⟨⟨fun _ _ => b0, fun _ _ => b0⟩, ⟨fun _ _ => b1, fun _ _ => b1⟩, ⟨fun _ _ => b0, fun _ _ => b0⟩⟩

namespace Pr
variable {x : Pr} {D : Fin 16 → Hd} (hc : ComRe x.c D) (hs : StRe x.s D x.p.val)
include hc hs
/-- The same number in every lane. -/
abbrev RC (X : W) (a : Fin 16 → ℝ) : Prop := RW X (fun h _ => a h) (fun h _ => a h)
theorem rm0 : RC x.m0 (fun h => (D h).m (2 * x.p.val)) := hs.m
theorem rm1 : RC x.m1 (fun h => (D h).m (2 * x.p.val + 1)) := rmax (radd (hc.bl0 _) (rm0 hc hs)) (hc.a0 _)
theorem rm2 : RC x.m2 (fun h => (D h).m (2 * x.p.val + 1 + 1)) := rmax (radd (hc.bl1 _) (rm1 hc hs)) (hc.a1 _)
theorem rfa0 : RC x.fa0 (fun h => (D h).fa (2 * x.p.val)) := rexp (rsub (radd (hc.bl0 _) (rm0 hc hs)) (rm1 hc hs))
theorem rfa1 : RC x.fa1 (fun h => (D h).fa (2 * x.p.val + 1)) := rexp (rsub (radd (hc.bl1 _) (rm1 hc hs)) (rm2 hc hs))
theorem rfb0 : RC x.fb0 (fun h => (D h).fb (2 * x.p.val)) := rexp (rsub (hc.a0 _) (rm1 hc hs))
theorem rfb1 : RC x.fb1 (fun h => (D h).fb (2 * x.p.val + 1)) := rexp (rsub (hc.a1 _) (rm2 hc hs))
theorem rmt : RW x.mt (fun h => (D h).mt (2 * x.p.val)) (fun h => (D h).mt (2 * x.p.val + 1)) := rmax (rseg (rm0 hc hs) (rm1 hc hs)) (hc.cm _)
theorem rig : RW x.ig (fun h => (D h).igt (2 * x.p.val)) (fun h => (D h).igt (2 * x.p.val + 1)) :=
  rmul (rexp (rsub (rseg (rm0 hc hs) (rm1 hc hs)) (rmt hc hs))) (rmul (rseg (hc.qs _) (hc.qs _)) (rcst sixteenth))
theorem rcr : RW x.cr (fun h _ => (D h).cr (2 * x.p.val)) (fun h _ => (D h).cr (2 * x.p.val + 1)) :=
  rseg (rmul (rmul (hc.qs x.ev) (hc.ks x.ev)) (rcst sixteenth)) (rmul (rmul (hc.qs x.od) (hc.ks x.od)) (rcst sixteenth))
theorem ren : RW x.en (fun h => (D h).en (2 * x.p.val)) (fun h => (D h).en (2 * x.p.val + 1)) :=
  rexp (rsub (rcst b0) (radd (hc.b _) (rmt hc hs)))
theorem rbt : RW x.bt (fun h t => (D h).igt (2 * x.p.val) t * (D h).sg Lg x.p.val)
    (fun h t => (D h).igt (2 * x.p.val + 1) t * ((D h).fa (2 * x.p.val) * (D h).sg Lg x.p.val)) :=
  rmul (rig hc hs) (rseg hs.sig (rmul (rfa0 hc hs) hs.sig))
theorem rg0 : RC x.g0 (fun h => (D h).g (2 * x.p.val)) := rmul (rfb0 hc hs) (rmul (hc.ks x.ev) (hc.vs x.ev))
theorem rg1 : RC x.g1 (fun h => (D h).g (2 * x.p.val + 1)) := rmul (rfb1 hc hs) (rmul (hc.ks x.od) (hc.vs x.od))
theorem rh0 : RC x.h0 (fun h => (D h).h0 x.p.val) := rmul (rfa1 hc hs) (rg0 hc hs)
theorem rfa2 : RC x.fa2 (fun h => (D h).fa2 x.p.val) := rmul (rfa0 hc hs) (rfa1 hc hs)
theorem rth : RC x.th (fun h => (D h).th (x.p.val + 1)) := rmax (rmul (rfa2 hc hs) hs.th) (rmax (rabs (rh0 hc hs)) (rabs (rg1 hc hs)))
theorem rz : RC x.z (fun h => (D h).z Lg x.p.val) :=
  ⟨fun h t => z_at ((D h).th_nonneg _) ((rg1 hc hs).l h t) ((rth hc hs).l h t), fun h t => z_at ((D h).th_nonneg _) ((rg1 hc hs).r h t) ((rth hc hs).r h t)⟩
theorem rsig : RC x.sig (fun h => (D h).sg Lg (x.p.val + 1)) :=
  ⟨fun h t => sig_at ((D h).th_nonneg _) ((rg1 hc hs).l h t) ((rth hc hs).l h t), fun h t => sig_at ((D h).th_nonneg _) ((rg1 hc hs).r h t) ((rth hc hs).r h t)⟩
theorem rphi : RC x.phi (fun h => (D h).phi Lg x.p.val) :=
  rdiv (rmul (rfa2 hc hs) hs.sig) (rsig hc hs) (fun h _ => (D h).sg_ne Lg _) (fun h _ => (D h).sg_ne Lg _)
theorem rmu : RC x.mu (fun h => (D h).mu Lg x.p.val) :=
  rdiv (rh0 hc hs) (rsig hc hs) (fun h _ => (D h).sg_ne Lg _) (fun h _ => (D h).sg_ne Lg _)
theorem rtau : RC x.tau (fun h => (D h).tau x.p.val) :=
  ⟨fun h t => tau_at ((hc.vs x.od).l h t) ((rg0 hc hs).l h t), fun h t => tau_at ((hc.vs x.od).r h t) ((rg0 hc hs).r h t)⟩
theorem rpm : RC x.pm (fun h => (D h).pm x.p.val) :=
  ⟨fun h t => pm_at ((hc.vs x.od).l h t) ((rg0 hc hs).l h t), fun h t => pm_at ((hc.vs x.od).r h t) ((rg0 hc hs).r h t)⟩
theorem rsr : RW x.sr (fun h t => (D h).sr x.p.val t) (fun h t => (D h).igt (2 * x.p.val) t * ((D h).g (2 * x.p.val) * (1 / (D h).tau x.p.val))) :=
  rmul (rrot (rig hc hs)) (rdiv (rg0 hc hs) (rtau hc hs) (fun h _ => tauR_ne _ _) (fun h _ => tauR_ne _ _))
theorem rnext : StRe x.next D (x.p.val + 1) := ⟨rm2 hc hs, rsig hc hs, rth hc hs⟩
end Pr

variable {c : Com} {D : Fin 16 → Hd}
theorem s1 (hc : ComRe c D) : StRe (pr0 c).next D 1 := Pr.rnext (x := pr0 c) hc (st0_re D)
theorem s2 (hc : ComRe c D) : StRe (pr1 c).next D 2 := Pr.rnext (x := pr1 c) hc (s1 hc)
theorem s3 (hc : ComRe c D) : StRe (pr2 c).next D 3 := Pr.rnext (x := pr2 c) hc (s2 hc)
theorem s4 (hc : ComRe c D) : StRe (pr3 c).next D 4 := Pr.rnext (x := pr3 c) hc (s3 hc)
theorem s5 (hc : ComRe c D) : StRe (pr4 c).next D 5 := Pr.rnext (x := pr4 c) hc (s4 hc)
theorem s6 (hc : ComRe c D) : StRe (pr5 c).next D 6 := Pr.rnext (x := pr5 c) hc (s5 hc)
theorem s7 (hc : ComRe c D) : StRe (pr6 c).next D 7 := Pr.rnext (x := pr6 c) hc (s6 hc)
theorem s8 (hc : ComRe c D) : StRe (pr7 c).next D 8 := Pr.rnext (x := pr7 c) hc (s7 hc)

end Cert.Val.Prep
-- ==== Proof.Val.QuadVal.lean ====
/-
  Four chunks of the kernel's loop in real numbers: with the blocks and rows of a head, what they add to the state, the normaliser
  after them, and their outputs.
-/
module
public import proofs.«01_k».proof.Proof.Val.Quad
public import proofs.«01_k».proof.Proof.Val.PrepVal
import all proofs.«01_k».proof.Proof.Gen.KernelIdeal.Skeleton
@[expose] public section
set_option maxRecDepth 16384
set_option maxHeartbeats 4000000
noncomputable section
namespace Cert.Val
open Idealize.ShloMosaic Cert.KernelIdeal Cert.KernelIdeal.Gen Cert.Val.Prep

/-- A row of 128 lanes given by its halves. -/
def hf (a b : Fin 64 → ℝ) (l : Fin 128) : ℝ := if h : l.val < 64 then a ⟨l.val, h⟩ else b ⟨l.val - 64, by omega⟩
theorem hf_lo (a b : Fin 64 → ℝ) (t : Fin 64) : hf a b (lo t) = a t := dif_pos t.isLt
theorem hf_hi (a b : Fin 64 → ℝ) (t : Fin 64) : hf a b (hi t) = b t := by
  unfold hf
  rw [dif_neg (by show ¬ t.val + 64 < 64; omega)]
  exact congrArg b (Fin.ext (Nat.add_sub_cancel _ _))

/-- The four chunks of quad `u`. -/
def ch (u : ℕ) : Fin 4 → ℕ := ![2 * (2 * u), 2 * (2 * u) + 1, 2 * (2 * u + 1), 2 * (2 * u + 1) + 1]

/-- What a quad reads is its part of the head. -/
structure QRe (x : QIn) (D : Hd) (u : ℕ) : Prop where
  q : ∀ i, Re3 (x.Q i) (D.q (ch u i))
  k : ∀ i, Re3 (x.K i) (D.k (ch u i))
  v : ∀ i, Re3 (x.V i) (D.v (ch u i))
  wz : ReR (x.R 0) (hf (D.w (ch u 0)) (D.w (ch u 2)))
  wy : ReR (x.R 1) (hf (fun t => D.w (ch u 3) t * D.z Lg (2 * u + 1)) (fun t => D.w (ch u 1) t * D.z Lg (2 * u)))
  wyn : ReR (x.R 2) (hf (D.w (ch u 3)) (D.w (ch u 1)))
  mu : ReR (x.R 3) (hf (fun _ => D.mu Lg (2 * u)) (fun _ => D.mu Lg (2 * u + 1)))
  yz : ReR (x.R 4) (hf (D.y (ch u 0)) (D.y (ch u 2)))
  yy : ReR (x.R 5) (hf (D.y (ch u 3)) (D.y (ch u 1)))
  cz : ReR (x.R 6) (hf (fun _ => D.cr (ch u 0)) (fun _ => D.cr (ch u 2)))
  cy : ReR (x.R 7) (hf (fun _ => D.cr (ch u 3)) (fun _ => D.cr (ch u 1)))
  ma : ReR (x.R 8) (hf (D.mt (ch u 0)) (D.mt (ch u 3)))
  mb : ReR (x.R 9) (hf (D.mt (ch u 2)) (D.mt (ch u 1)))
  igz : ReR (x.R 10) (hf (D.igt (ch u 0)) (D.igt (ch u 2)))
  igy : ReR (x.R 11) (hf (D.igt (ch u 3)) (D.igt (ch u 1)))
  bt0 : ReR (x.R 12) (hf (fun t => D.igt (ch u 0) t * D.sg Lg (2 * u)) (fun t => D.igt (ch u 1) t * (D.fa (ch u 0) * D.sg Lg (2 * u))))
  bt1 : ReR (x.R 13) (hf (fun t => D.igt (ch u 2) t * D.sg Lg (2 * u + 1)) (fun t => D.igt (ch u 3) t * (D.fa (ch u 2) * D.sg Lg (2 * u + 1))))
  en0 : ReR (x.R 14) (hf (D.en (ch u 0)) (D.en (ch u 1)))
  en1 : ReR (x.R 15) (hf (D.en (ch u 2)) (D.en (ch u 3)))
  s1 : ∃ j, ReR (x.R 16) (hf (D.sr (2 * u)) j)
  s3 : ∃ j, ReR (x.R 17) (hf (D.sr (2 * u + 1)) j)
  phi0 : ReR (x.R 18) (fun _ => D.phi Lg (2 * u))
  phi1 : ReR (x.R 19) (fun _ => D.phi Lg (2 * u + 1))
  ga0 : ReR (x.R 20) (fun _ => D.vs (ch u 0))
  ga1 : ReR (x.R 21) (fun _ => D.tau (2 * u))
  ga2 : ReR (x.R 22) (fun _ => D.vs (ch u 2))
  ga3 : ReR (x.R 23) (fun _ => D.tau (2 * u + 1))
  pm : ReR (x.R 24) (hf (fun _ => D.pm (2 * u + 1)) (fun _ => D.pm (2 * u)))
  fa0 : ReR (x.R 25) (fun _ => D.fa (ch u 0))
  fa1 : ReR (x.R 26) (fun _ => D.fa (ch u 1))
  fa2 : ReR (x.R 27) (fun _ => D.fa (ch u 2))
  fa3 : ReR (x.R 28) (fun _ => D.fa (ch u 3))
  fb0 : ReR (x.R 29) (fun _ => D.fb (ch u 0) * D.ks (ch u 0))
  fb1 : ReR (x.R 30) (fun _ => D.fb (ch u 1) * D.ks (ch u 1))
  fb2 : ReR (x.R 31) (fun _ => D.fb (ch u 2) * D.ks (ch u 2))
  fb3 : ReR (x.R 32) (fun _ => D.fb (ch u 3) * D.ks (ch u 3))

namespace QRe
variable {x : QIn} {D : Hd} {u : ℕ} (h : QRe x D u)
include h

theorem upd0 : Re2 x.upd0 (D.upd Lg (2 * u)) := by
  intro d e
  refine (Val.upd0 (h.k 0) (h.k 1) (h.k 2) (h.k 3) (h.v 0) (h.v 1) h.wz h.wy h.mu d e).trans ?_
  simp only [hf_lo, hf_hi]
  rfl
theorem upd1 : Re2 x.upd1 (D.upd Lg (2 * u + 1)) := by
  intro d e
  refine (Val.upd1 (h.k 0) (h.k 1) (h.k 2) (h.k 3) (h.v 2) (h.v 3) h.wz h.wy h.mu d e).trans ?_
  simp only [hf_lo, hf_hi]
  rw [add_comm]
  rfl
theorem c0 {C : FVec Ideal S256x512 .f32} (hC : Re2 C (D.X Lg (2 * u))) : Re2 (x.c0 C) (D.X Lg (2 * u + 1)) := cnew h.upd0 hC h.phi0
theorem c1 {C : FVec Ideal S256x512 .f32} (hC : Re2 C (D.X Lg (2 * u + 1))) : Re2 (x.c1 C) (D.X Lg (2 * u + 2)) := cnew h.upd1 hC h.phi1

theorem pz : ReLH x.pz (D.P (ch u 0)) (D.P (ch u 2)) := by
  have e := Val.pz (h.k 0) (h.k 1) (h.k 2) (h.k 3) (h.q 0) (h.q 1) (h.q 2) (h.q 3) h.ma h.mb h.cz h.yz
  simp only [hf_lo, hf_hi] at e
  exact e
theorem py : ReLH x.py (D.P (ch u 3)) (D.P (ch u 1)) := by
  have e := Val.py (h.k 0) (h.k 1) (h.k 2) (h.k 3) (h.q 0) (h.q 1) (h.q 2) (h.q 3) h.ma h.mb h.cy h.yy
  simp only [hf_lo, hf_hi] at e
  exact e

theorem dn : Re2 x.dn (fun j => D.Wk (ch u j)) := by
  intro j d
  refine (Val.dn (h.k 0) (h.k 1) (h.k 2) (h.k 3) h.wz h.wyn j d).trans ?_
  fin_cases j
  all_goals
    simp only [dnR, hf_lo, hf_hi]
    rfl

variable {n : FVec Ideal S1x256 .f32} (hn : Re2 n (fun _ => D.nn (ch u 0)))
include hn
omit h hn in
theorem nr (j : Fin 4) : nR (fun j => D.fa (ch u j)) (fun j => D.fb (ch u j) * D.ks (ch u j)) (fun j => D.Wk (ch u j)) (D.nn (ch u 0)) j.val = D.nn (ch u j) := by
  fin_cases j <;> rfl
theorem n4 : Re2 (x.n4 n) (fun j => D.nn (ch u j)) ∧ Re2 (x.nout n) (fun _ => D.nn (ch (u + 1) 0)) := by
  have e := nrec (fa := fun j => D.fa (ch u j)) (fb := fun j => D.fb (ch u j) * D.ks (ch u j)) hn h.dn h.fa0 h.fa1 h.fa2 h.fa3 h.fb0 h.fb1 h.fb2 h.fb3
  refine ⟨fun j d => (e.1 j d).trans ?_, fun j d => (e.2 j d).trans ?_⟩
  · exact congrArg _ (congrFun (nr j) d)
  · rfl

omit h hn in
theorem dsum (c : Fin 64 → ℝ) (P : Fin 64 → ℝ) (s : Fin 64) : ∑ t, (P t + if t = s then c t else 0) = c s + ∑ t, P t := by
  rw [Finset.sum_add_distrib, Finset.sum_ite_eq' Finset.univ s, if_pos (Finset.mem_univ _), add_comm]

theorem xz (s : Fin 64) : x.d0 n (ix2 s 0) = ((D.den (ch u 0) s : ℝ) : EReal) ∧ x.d2 n (ix2 s 0) = ((D.den (ch u 2) s : ℝ) : EReal) := by
  have e := denZ (Val.xz (N4' := x.n4b n) (h.q 0) (h.q 1) (h.q 2) (h.q 3) (h.n4 hn).1 (h.n4 hn).1 h.igz h.pz) s
  simp only [hf_lo, hf_hi, dsum] at e
  exact ⟨e.1, e.2.2.1⟩
theorem xy (s : Fin 64) : x.d1 n (ix2 s 0) = ((D.den (ch u 1) s : ℝ) : EReal) ∧ x.d3 n (ix2 s 0) = ((D.den (ch u 3) s : ℝ) : EReal) := by
  have e := denZ (Val.xy (N4' := x.n4b n) (h.q 0) (h.q 1) (h.q 2) (h.q 3) (h.n4 hn).1 (h.n4 hn).1 h.igy h.py) s
  simp only [hf_lo, hf_hi, dsum] at e
  exact ⟨e.2.1, e.2.2.2⟩
omit hn

theorem ss : ReLH (k0_pay520 k0_pay463 x.qk (k0_pay519 (x.R 16)) (x.R 17))
    (fun s t => (∑ d, D.q (ch u 1) s d * (D.k (ch u 0) t d * D.w (ch u 0) t)) * D.sr (2 * u) s)
    (fun s t => (∑ d, D.q (ch u 3) s d * (D.k (ch u 2) t d * D.w (ch u 2) t)) * D.sr (2 * u + 1) s) := by
  obtain ⟨j1, h1⟩ := h.s1
  obtain ⟨j3, h3⟩ := h.s3
  have e := Val.ss (h.k 0) (h.k 2) (h.q 1) (h.q 3) h.wz h1 h3
  simp only [hf_lo, hf_hi] at e
  exact e

theorem av0 (s : Fin 64) (e : Fin 512) :
    (∑ l : Fin 256, x.a0 (ix2 (lo s) l) * x.vst0 (ix2 l e) : EReal) = ((∑ t, D.P (ch u 0) s t * D.v (ch u 0) t e : ℝ) : EReal)
    ∧ (∑ l : Fin 256, x.a0 (ix2 (hi s) l) * x.vst0 (ix2 l e) : EReal)
      = ((∑ t, (∑ d, D.q (ch u 1) s d * (D.k (ch u 0) t d * D.w (ch u 0) t)) * D.sr (2 * u) s * D.v (ch u 0) t e
          + ∑ t, D.P (ch u 1) s t * D.pm (2 * u) * D.v (ch u 1) t e : ℝ) : EReal) := by
  have e := Val.av0 (h.v 0) (h.v 1) h.pm h.pz h.py h.ss s e
  simp only [hf_lo, hf_hi] at e
  exact e
theorem av1 (s : Fin 64) (e : Fin 512) :
    (∑ l : Fin 256, x.a1 (ix2 (lo s) l) * x.vst1 (ix2 l e) : EReal) = ((∑ t, D.P (ch u 2) s t * D.v (ch u 2) t e : ℝ) : EReal)
    ∧ (∑ l : Fin 256, x.a1 (ix2 (hi s) l) * x.vst1 (ix2 l e) : EReal)
      = ((∑ t, (∑ d, D.q (ch u 3) s d * (D.k (ch u 2) t d * D.w (ch u 2) t)) * D.sr (2 * u + 1) s * D.v (ch u 2) t e
          + ∑ t, D.P (ch u 3) s t * D.pm (2 * u + 1) * D.v (ch u 3) t e : ℝ) : EReal) := by
  have e := Val.av1 (h.v 2) (h.v 3) h.pm h.pz h.py h.ss s e
  simp only [hf_lo, hf_hi] at e
  refine ⟨e.1, e.2.trans ?_⟩
  rw [add_comm]
omit h
theorem hf_pos {a b : Fin 64 → ℝ} (ha : ∀ t, 0 < a t) (hb : ∀ t, 0 < b t) (l : Fin 128) : 0 < hf a b l := by
  unfold hf
  split_ifs
  exacts [ha _, hb _]
theorem en_pos (D : Hd) (n : ℕ) (t : Fin 64) : 0 < D.en n t := Real.exp_pos _
include h hn

theorem h0 {C : FVec Ideal S256x512 .f32} (hC : Re2 C (D.X Lg (2 * u))) (s : Fin 64) (e : Fin 512) :
    x.h0 n C (ix3 0 (lo s) e) = ((D.out (ch u 0) s e : ℝ) : EReal) ∧ x.h0 n C (ix3 0 (hi s) e) = ((D.out (ch u 1) s e : ℝ) : EReal) := by
  have r := hpair (QA := x.qb0) (QB := x.qb1) (qa := D.q (ch u 0)) (qb := D.q (ch u 1)) (fun s => (h.xz hn s).1) (fun s => (h.xy hn s).1) h.en0 (hf_pos (en_pos D _) (en_pos D _))
    h.ga0 h.ga1 h.bt0 (by intro i j; pointwise [k0_pay484, k0_pay472]; exact h.q 0 i j) (by intro i j; pointwise [k0_pay485, k0_pay473]; exact h.q 1 i j) hC h.av0 s e
  simp only [hf_lo, hf_hi] at r
  exact ⟨r.1.trans (congrArg _ (D.even_out Lg (2 * u) s e)), r.2.trans (congrArg _ (D.odd_out Lg (2 * u) s e))⟩
theorem h1 {C : FVec Ideal S256x512 .f32} (hC : Re2 C (D.X Lg (2 * u + 1))) (s : Fin 64) (e : Fin 512) :
    x.h1 n C (ix3 0 (lo s) e) = ((D.out (ch u 2) s e : ℝ) : EReal) ∧ x.h1 n C (ix3 0 (hi s) e) = ((D.out (ch u 3) s e : ℝ) : EReal) := by
  have r := hpair (QA := x.qb2) (QB := x.qb3) (qa := D.q (ch u 2)) (qb := D.q (ch u 3)) (fun s => (h.xz hn s).2) (fun s => (h.xy hn s).2) h.en1 (hf_pos (en_pos D _) (en_pos D _))
    h.ga2 h.ga3 h.bt1 (by intro i j; pointwise [k0_pay486, k0_pay474]; exact h.q 2 i j) (by intro i j; pointwise [k0_pay487, k0_pay475]; exact h.q 3 i j) hC h.av1 s e
  simp only [hf_lo, hf_hi] at r
  exact ⟨r.1.trans (congrArg _ (D.even_out Lg (2 * u + 1) s e)), r.2.trans (congrArg _ (D.odd_out Lg (2 * u + 1) s e))⟩
omit h hn

theorem hfirst_eq (VST : FVec Ideal S256x512 .bf16) (A : FVec Ideal S128x256 .bf16) (X Y : FVec Ideal S64x128 .f32) (EN GA GB : Vec Ideal S1x1x128 .f32) (i : Fin 128) (e : Fin 512) :
    k0_pay537 VST A X Y EN GA GB (ix3 0 i e) = k0_pay540 VST A (k0_pay534 X) (k0_pay534 Y) EN GA GB (ix2 i e) := by
  have : k0_pay537 VST A X Y EN GA GB = shapeCast S1x128x512 (k0_pay540 VST A (k0_pay534 X) (k0_pay534 Y) EN GA GB) shapeCasts_S128x512_S1x128x512 := rfl
  rw [this]
  pointwise

theorem hfirst (h : QRe x D 0) (hn : Re2 n (fun _ => D.nn (ch 0 0))) (s : Fin 64) (e : Fin 512) :
    x.hfirst n (ix3 0 (lo s) e) = ((D.out (ch 0 0) s e : ℝ) : EReal) ∧ x.hfirst n (ix3 0 (hi s) e) = ((D.out (ch 0 1) s e : ℝ) : EReal) := by
  have r := num (fun s => (h.xz hn s).1) (fun s => (h.xy hn s).1) h.en0 (hf_pos (en_pos D _) (en_pos D _)) h.ga0 h.ga1 h.av0 s e
  simp only [hf_lo, hf_hi] at r
  refine ⟨(hfirst_eq _ _ _ _ _ _ _ _ _).trans (r.1.trans (congrArg _ ?_)), (hfirst_eq _ _ _ _ _ _ _ _ _).trans (r.2.trans (congrArg _ ?_))⟩
  · refine Eq.trans ?_ (D.even_out Lg 0 s e)
    simp only [Hd.X, mul_zero, Finset.sum_const_zero, zero_mul, add_zero]
    rfl
  · refine Eq.trans ?_ (D.odd_out Lg 0 s e)
    simp only [Hd.X, mul_zero, Finset.sum_const_zero, zero_mul, add_zero]
    rfl
end QRe

variable {x : Fin 4 → QIn} {D : Hd} (h : ∀ u : Fin 4, QRe (x u) D u.val)
include h
theorem x1 : Re2 (C1 x) (D.X Lg 1) := by
  intro d e
  have e1 : (C1 x) (ix2 d e) = (x 0).upd0 (ix2 d e) := by
    unfold C1 QIn.cfirst k0_pay538
    exact congrFun (shapeCast_self _ _) _
  rw [e1, (h 0).upd0 d e]
  simp [Hd.X]
theorem x2 : Re2 (C2 x) (D.X Lg 2) := (h 0).c1 (x1 h)
theorem x3 : Re2 (C3 x) (D.X Lg 3) := (h 1).c0 (x2 h)
theorem x4 : Re2 (C4 x) (D.X Lg 4) := (h 1).c1 (x3 h)
theorem x5 : Re2 (C5 x) (D.X Lg 5) := (h 2).c0 (x4 h)
theorem x6 : Re2 (C6 x) (D.X Lg 6) := (h 2).c1 (x5 h)
theorem x7 : Re2 (C7 x) (D.X Lg 7) := (h 3).c0 (x6 h)
theorem x8 : Re2 (C8 x) (D.X Lg 8) := (h 3).c1 (x7 h)
omit h in
theorem n0 : Re2 N0 (fun _ => D.nn (ch 0 0)) := fun _ _ => b0
theorem n1 : Re2 (N1 x) (fun _ => D.nn (ch 1 0)) := ((h 0).n4 n0).2
theorem n2 : Re2 (N2 x) (fun _ => D.nn (ch 2 0)) := ((h 1).n4 (n1 h)).2
theorem n3 : Re2 (N3 x) (fun _ => D.nn (ch 3 0)) := ((h 2).n4 (n2 h)).2

end Cert.Val
-- ==== Proof.Val.Bridge.lean ====
/-
  What the kernel leaves, of the two kinds of grid point, as functions of what a head's four quads read.
-/
module
public import proofs.«01_k».proof.Proof.Val.Quad
public import proofs.«01_k».proof.Proof.Val.Prep
public import proofs.«01_k».proof.Proof.KI.Value
import all proofs.«01_k».proof.Proof.KI.Frame
import all proofs.«01_k».proof.Proof.KI.RunA
import all proofs.«01_k».proof.Proof.KI.RunB
import all proofs.«01_k».proof.Proof.Gen.KernelIdeal.Skeleton
public import Idealize.ShloMosaic.Lib.Pipeline.ValueKit
@[expose] public section
set_option maxRecDepth 65536
set_option maxHeartbeats 8000000
noncomputable section
namespace Cert.KernelIdeal.Gen
open Cert.Val Cert.Val.Prep
open Idealize.ShloMosaic Idealize.ShloMosaic.TcCoe Idealize.ShloMosaic.Tactic
open Idealize.SL Idealize.SL.Sem
open Idealize.ShloMosaic.Pipeline (Dat Cfg Window BodyObligation cellOf)

theorem inbK (j : Fin 16) : ∀ a, ![0, 64 * j.val, 0] a + S1x64x256.size a ≤ S1x1024x256.size a := by decide +revert
theorem inbV (j : Fin 16) : ∀ a, ![0, 64 * j.val, 0] a + S1x64x512.size a ≤ S1x1024x512.size a := by decide +revert
theorem inbR (h : Fin 16) (r : Fin 132) : ∀ a, ![r.val, h.val, 0] a + S1x1x128.size a ≤ S132x16x128.size a := by
  intro a
  have := h.isLt
  have := r.isLt
  fin_cases a
  · show r.val + 1 ≤ 132; omega
  · show h.val + 1 ≤ 16; omega
  · show 0 + 128 ≤ 128; omega

theorem inbRow (i : grid0.Coords) (r : Fin 132) : ∀ a, ![r.val, (Scalar.indexCast (BitVec.ofNat 32 (i 0).val)).toNat, 0] a + S1x1x128.size a ≤ S132x16x128.size a := by
  have h : (Scalar.indexCast (BitVec.ofNat 32 (i 0).val)).toNat = (i 0).val := by
    have : (i 0).val < 16 := (i 0).isLt
    generalize (i 0).val = z at this
    interval_cases z <;> rfl
  have : (i 0).val < 16 := (i 0).isLt
  rw [h]
  exact inbR ⟨(i 0).val, this⟩ r

theorem inbSig (i : grid0.Coords) : ∀ a, ![(Scalar.indexCast (BitVec.ofNat 32 (i 0).val)).toNat, 0] a + S1x128.size a ≤ S16x128.size a := by
  intro a
  have h := inbRow i 0 1
  fin_cases a
  · exact h
  · show 0 + 128 ≤ 128; omega
theorem inbH (p : Fin 8) : ∀ a, ![0, 128 * p.val, 0] a + S1x128x512.size a ≤ S1x1024x512.size a := by decide +revert
theorem inbF : ∀ a, (![0, 0, 0] : Fin 3 → Nat) a + S1x256x512.size a ≤ S1x256x512.size a := by decide

/-- What is computed for all pairs, of the gates in blocks of 128 positions and of the scales' columns. -/
def comOf (I F : Fin 8 → Vec Ideal S16x128 .f32) (qs ks vs : Fin 16 → Vec Ideal S16x1 .f32) : Com :=
  let z : Ideal .f32 := FloatOps.ofBits .f32 0#32
  let sp := k0_pay3 (F 0) (F 1) (F 2) (F 3) (F 4) (F 5) (F 6) (F 7)
  let lf := k0_pay4 sp z
  let ig := k0_pay5 (I 0) (I 1) (I 2) (I 3) (I 4) (I 5) (I 6) (I 7)
  { bl0 := k0_pay12 k0_pay1 lf
    bl1 := k0_pay13 k0_pay1 lf
    a0 := k0_pay15 k0_pay1 lf ig k0_pay6 (k0_pay7 sp z) (k0_pay9 sp z) (k0_pay10 sp z)
    a1 := k0_pay16 k0_pay1 lf ig k0_pay6 (k0_pay7 sp z) (k0_pay9 sp z) (k0_pay10 sp z)
    b := k0_pay11 k0_pay6 (k0_pay7 sp z) (k0_pay9 sp z) (k0_pay10 sp z)
    y := k0_pay18 ig k0_pay6 (k0_pay7 sp z) (k0_pay9 sp z) (k0_pay10 sp z)
    cm := k0_pay21 k0_pay2 (k0_pay19 k0_pay2 ig k0_pay6 (k0_pay7 sp z) (k0_pay9 sp z) (k0_pay10 sp z)) (k0_pay20 k0_pay2)
    w := k0_pay17 k0_pay1 lf ig k0_pay6 (k0_pay7 sp z) (k0_pay9 sp z) (k0_pay10 sp z)
    qs := qs, ks := ks, vs := vs }

theorem inbG (j : Fin 8) : ∀ a, ![0, 128 * j.val] a + S16x128.size a ≤ S16x1024.size a := by decide +revert
theorem inbS (j : Fin 16) : ∀ a, ![0, j.val] a + S16x1.size a ≤ S16x16.size a := by decide +revert
theorem inbRows (r : Fin 132) : ∀ a, ![r.val, 0, 0] a + S1x16x128.size a ≤ S132x16x128.size a := by decide +revert

def rdG {arg : Memref sig .tc .vmem S16x1024 .f32} (h : arg.IsWhole) (x : Vec Ideal S16x1024 .f32) (j : Fin 8) : Vec Ideal S16x128 .f32 :=
  View.readAt (Elt Ideal) arg.view (Rect.unit (s := S16x1024) ![0, 128 * j.val] S16x128.size (inbG j)).toLoadRect (h.unread x)
def rdS {arg : Memref sig .tc .vmem S16x16 .f32} (h : arg.IsWhole) (x : Vec Ideal S16x16 .f32) (j : Fin 16) : Vec Ideal S16x1 .f32 :=
  View.readAt (Elt Ideal) arg.view (Rect.unit (s := S16x16) ![0, j.val] S16x1.size (inbS j)).toLoadRect (h.unread x)

def quadRows (c : Com) : Fin 4 → Fin 33 → Vec Ideal S1x16x128 .f32 :=
  ![rows (pr0 c) (pr1 c), rows (pr2 c) (pr3 c), rows (pr4 c) (pr5 c), rows (pr6 c) (pr7 c)]
def rr (u : Fin 4) (r : Fin 33) : Fin 132 := ⟨33 * u.val + r.val, by omega⟩
def rowPiece (c : Com) (u : Fin 4) (r : Fin 33) : View.Piece (Elt Ideal) S132x16x128 .f32 :=
  ⟨Rect.unit (s := S132x16x128) ![(rr u r).val, 0, 0] S1x16x128.size (inbRows _), quadRows c u r⟩
/-- The order the rows of a quad are stored in, last first. -/
def order : List (Fin 33) := [11, 10, 9, 8, 7, 6, 5, 4, 3, 1, 2, 0, 24, 17, 23, 22, 19, 13, 15, 32, 28, 31, 27, 16, 21, 20, 18, 12, 14, 30, 26, 29, 25]
def rowPieces (c : Com) : List (View.Piece (Elt Ideal) S132x16x128 .f32) :=
  order.map (rowPiece c 3) ++ order.map (rowPiece c 2) ++ order.map (rowPiece c 1) ++ order.map (rowPiece c 0)

/-- The chunk of a quad, among a head's sixteen. -/
def jj (u i : Fin 4) : Fin 16 := ⟨4 * u.val + i.val, by omega⟩

/-- What quad `u` reads, of a head's blocks and rows. -/
def qin (q k : Fin 16 → Vec Ideal S1x64x256 .fp8e4m3) (v : Fin 16 → Vec Ideal S1x64x512 .fp8e4m3) (R : Fin 132 → Vec Ideal S1x1x128 .f32) (u : Fin 4) : QIn where
  Q i := q (jj u i)
  K i := k (jj u i)
  V i := v (jj u i)
  R r := R (rr u r)

/-- The blocks a memref of a head's queries or keys, of its values, of the rows and of the last scale are read in. -/
def rdK {arg : Memref sig .tc .vmem S1x1024x256 .fp8e4m3} (h : arg.IsWhole) (x : Vec Ideal S1x1024x256 .fp8e4m3) (j : Fin 16) : Vec Ideal S1x64x256 .fp8e4m3 :=
  View.readAt (Elt Ideal) arg.view (Rect.unit (s := S1x1024x256) ![0, 64 * j.val, 0] S1x64x256.size (inbK j)).toLoadRect (h.unread x)
def rdV {arg : Memref sig .tc .vmem S1x1024x512 .fp8e4m3} (h : arg.IsWhole) (x : Vec Ideal S1x1024x512 .fp8e4m3) (j : Fin 16) : Vec Ideal S1x64x512 .fp8e4m3 :=
  View.readAt (Elt Ideal) arg.view (Rect.unit (s := S1x1024x512) ![0, 64 * j.val, 0] S1x64x512.size (inbV j)).toLoadRect (h.unread x)
def rdR (arg : Memref sig .tc .vmem S132x16x128 .f32) (f : arg.view.ty.Contents (Elt Ideal)) (i : grid0.Coords) (r : Fin 132) : Vec Ideal S1x1x128 .f32 :=
  View.readAt (Elt Ideal) arg.view (Rect.unit (s := S132x16x128) ![r.val, (Scalar.indexCast (BitVec.ofNat 32 (i 0).val)).toNat, 0] S1x1x128.size (inbRow i r)).toLoadRect f
def rdSig (arg : Memref sig .tc .vmem S16x128 .f32) (f : arg.view.ty.Contents (Elt Ideal)) (i : grid0.Coords) : Vec Ideal S1x128 .f32 :=
  View.readAt (Elt Ideal) arg.view (Rect.unit (s := S16x128) ![(Scalar.indexCast (BitVec.ofNat 32 (i 0).val)).toNat, 0] S1x128.size (inbSig i)).toLoadRect f

/-- The outputs of each pair, of the states carried. -/
def hOut (x : Fin 4 → QIn) (C1 C2 C3 C4 C5 C6 C7 : FVec Ideal S256x512 .f32) : Fin 8 → Vec Ideal S1x128x512 .bf16 :=
  ![(x 0).hfirst N0, (x 0).h1 N0 C1, (x 1).h0 (N1 x) C2, (x 1).h1 (N1 x) C3, (x 2).h0 (N2 x) C4, (x 2).h1 (N2 x) C5, (x 3).h0 (N3 x) C6, (x 3).h1 (N3 x) C7]
def hPiece (f : Fin 8 → Vec Ideal S1x128x512 .bf16) (p : Fin 8) : View.Piece (Elt Ideal) S1x1024x512 .bf16 :=
  ⟨Rect.unit (s := S1x1024x512) ![0, 128 * p.val, 0] S1x128x512.size (inbH p), f p⟩
def hPieces (f : Fin 8 → Vec Ideal S1x128x512 .bf16) : List (View.Piece (Elt Ideal) S1x1024x512 .bf16) := [7, 6, 5, 4, 3, 2, 1, 0].map (hPiece f)
def hAll (x : Fin 4 → QIn) : Fin 8 → Vec Ideal S1x128x512 .bf16 := hOut x (C1 x) (C2 x) (C3 x) (C4 x) (C5 x) (C6 x) (C7 x)

/-- The last state, scaled. -/
def cFin (x : Fin 4 → QIn) (S : Vec Ideal S1x128 .f32) (C : FVec Ideal S256x512 .f32) : Vec Ideal S1x256x512 .f32 := k0_pay786 (x 3).upd1 C ((x 3).R 19) S

variable (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole)
  (x0 x1 : Vec Ideal S1x1024x256 .fp8e4m3) (x2 : Vec Ideal S1x1024x512 .fp8e4m3) (x3 x4 : Vec Ideal S16x1024 .f32) (x5 x6 x7 : Vec Ideal S16x16 .f32) (xs0 : Vec Ideal S132x16x128 .f32) (xs1 : Vec Ideal S16x128 .f32)

/-- The rows the first grid point stores. -/
theorem hs0 : kernelRun0_A.sl.HS0_132 (F := Ideal) c arg4 harg4 arg5 harg5 arg6 harg6 arg7 harg7 arg8 harg8 x3 x4 x5 x6 x7 = rowPieces (comOf (rdG harg4 x3) (rdG harg5 x4) (rdS harg6 x5) (rdS harg7 x6) (rdS harg8 x7)) := by sl_kernel_rfl
include x0 harg1 in
theorem cA1 : (kernelRun0_A.sl.v475 (F := Ideal) c i arg2 harg2 arg3 harg3 arg4 harg4 arg5 harg5 arg6 harg6 arg7 harg7 arg8 harg8 arg13 arg15 x1 x2 x3 x4 x5 x6 x7) = C1 (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) := by
  unfold kernelRun0_A.sl.v475 kernelRun0_A.sl.HS2_1
  rw [View.readCov_cons_unit_lit']
  · sl_kernel_rfl
  all_goals (intro a; fin_cases a <;> rfl)
include x0 harg1 in
theorem cA2 : (kernelRun0_A.sl.v869 (F := Ideal) c i arg2 harg2 arg3 harg3 arg4 harg4 arg5 harg5 arg6 harg6 arg7 harg7 arg8 harg8 arg13 arg15 x1 x2 x3 x4 x5 x6 x7) = C2 (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) := by
  unfold kernelRun0_A.sl.v869 kernelRun0_A.sl.HS2_2
  rw [View.readCov_cons_unit_lit']
  · refine Eq.trans (b := ((qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) 0).c1 (kernelRun0_A.sl.v475 (F := Ideal) c i arg2 harg2 arg3 harg3 arg4 harg4 arg5 harg5 arg6 harg6 arg7 harg7 arg8 harg8 arg13 arg15 x1 x2 x3 x4 x5 x6 x7)) (by sl_kernel_rfl) ?_
    rw [cA1 (x0 := x0) (harg1 := harg1)]
    sl_kernel_rfl
  all_goals (intro a; fin_cases a <;> rfl)
include x0 harg1 in
theorem cA3 : (kernelRun0_A.sl.v936 (F := Ideal) c i arg2 harg2 arg3 harg3 arg4 harg4 arg5 harg5 arg6 harg6 arg7 harg7 arg8 harg8 arg13 arg15 x1 x2 x3 x4 x5 x6 x7) = C3 (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) := by
  unfold kernelRun0_A.sl.v936 kernelRun0_A.sl.HS2_3
  rw [View.readCov_cons_unit_lit']
  · refine Eq.trans (b := ((qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) 1).c0 (kernelRun0_A.sl.v869 (F := Ideal) c i arg2 harg2 arg3 harg3 arg4 harg4 arg5 harg5 arg6 harg6 arg7 harg7 arg8 harg8 arg13 arg15 x1 x2 x3 x4 x5 x6 x7)) (by sl_kernel_rfl) ?_
    rw [cA2 (x0 := x0) (harg1 := harg1)]
    sl_kernel_rfl
  all_goals (intro a; fin_cases a <;> rfl)
include x0 harg1 in
theorem cA4 : (kernelRun0_A.sl.v1330 (F := Ideal) c i arg2 harg2 arg3 harg3 arg4 harg4 arg5 harg5 arg6 harg6 arg7 harg7 arg8 harg8 arg13 arg15 x1 x2 x3 x4 x5 x6 x7) = C4 (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) := by
  unfold kernelRun0_A.sl.v1330 kernelRun0_A.sl.HS2_4
  rw [View.readCov_cons_unit_lit']
  · refine Eq.trans (b := ((qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) 1).c1 (kernelRun0_A.sl.v936 (F := Ideal) c i arg2 harg2 arg3 harg3 arg4 harg4 arg5 harg5 arg6 harg6 arg7 harg7 arg8 harg8 arg13 arg15 x1 x2 x3 x4 x5 x6 x7)) (by sl_kernel_rfl) ?_
    rw [cA3 (x0 := x0) (harg1 := harg1)]
    sl_kernel_rfl
  all_goals (intro a; fin_cases a <;> rfl)
include x0 harg1 in
theorem cA5 : (kernelRun0_A.sl.v1397 (F := Ideal) c i arg2 harg2 arg3 harg3 arg4 harg4 arg5 harg5 arg6 harg6 arg7 harg7 arg8 harg8 arg13 arg15 x1 x2 x3 x4 x5 x6 x7) = C5 (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) := by
  unfold kernelRun0_A.sl.v1397 kernelRun0_A.sl.HS2_5
  rw [View.readCov_cons_unit_lit']
  · refine Eq.trans (b := ((qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) 2).c0 (kernelRun0_A.sl.v1330 (F := Ideal) c i arg2 harg2 arg3 harg3 arg4 harg4 arg5 harg5 arg6 harg6 arg7 harg7 arg8 harg8 arg13 arg15 x1 x2 x3 x4 x5 x6 x7)) (by sl_kernel_rfl) ?_
    rw [cA4 (x0 := x0) (harg1 := harg1)]
    sl_kernel_rfl
  all_goals (intro a; fin_cases a <;> rfl)
include x0 harg1 in
theorem cA6 : (kernelRun0_A.sl.v1791 (F := Ideal) c i arg2 harg2 arg3 harg3 arg4 harg4 arg5 harg5 arg6 harg6 arg7 harg7 arg8 harg8 arg13 arg15 x1 x2 x3 x4 x5 x6 x7) = C6 (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) := by
  unfold kernelRun0_A.sl.v1791 kernelRun0_A.sl.HS2_6
  rw [View.readCov_cons_unit_lit']
  · refine Eq.trans (b := ((qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) 2).c1 (kernelRun0_A.sl.v1397 (F := Ideal) c i arg2 harg2 arg3 harg3 arg4 harg4 arg5 harg5 arg6 harg6 arg7 harg7 arg8 harg8 arg13 arg15 x1 x2 x3 x4 x5 x6 x7)) (by sl_kernel_rfl) ?_
    rw [cA5 (x0 := x0) (harg1 := harg1)]
    sl_kernel_rfl
  all_goals (intro a; fin_cases a <;> rfl)
include x0 harg1 in
theorem cA7 : (kernelRun0_A.sl.v1858 (F := Ideal) c i arg2 harg2 arg3 harg3 arg4 harg4 arg5 harg5 arg6 harg6 arg7 harg7 arg8 harg8 arg13 arg15 x1 x2 x3 x4 x5 x6 x7) = C7 (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) := by
  unfold kernelRun0_A.sl.v1858 kernelRun0_A.sl.HS2_7
  rw [View.readCov_cons_unit_lit']
  · refine Eq.trans (b := ((qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) 3).c0 (kernelRun0_A.sl.v1791 (F := Ideal) c i arg2 harg2 arg3 harg3 arg4 harg4 arg5 harg5 arg6 harg6 arg7 harg7 arg8 harg8 arg13 arg15 x1 x2 x3 x4 x5 x6 x7)) (by sl_kernel_rfl) ?_
    rw [cA6 (x0 := x0) (harg1 := harg1)]
    sl_kernel_rfl
  all_goals (intro a; fin_cases a <;> rfl)
theorem outA8 (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = View.canon (hPieces (hAll (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)))) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 = hPieces (hOut (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) (kernelRun0_A.sl.v475 (F := Ideal) c i arg2 harg2 arg3 harg3 arg4 harg4 arg5 harg5 arg6 harg6 arg7 harg7 arg8 harg8 arg13 arg15 x1 x2 x3 x4 x5 x6 x7) (kernelRun0_A.sl.v869 (F := Ideal) c i arg2 harg2 arg3 harg3 arg4 harg4 arg5 harg5 arg6 harg6 arg7 harg7 arg8 harg8 arg13 arg15 x1 x2 x3 x4 x5 x6 x7) (kernelRun0_A.sl.v936 (F := Ideal) c i arg2 harg2 arg3 harg3 arg4 harg4 arg5 harg5 arg6 harg6 arg7 harg7 arg8 harg8 arg13 arg15 x1 x2 x3 x4 x5 x6 x7) (kernelRun0_A.sl.v1330 (F := Ideal) c i arg2 harg2 arg3 harg3 arg4 harg4 arg5 harg5 arg6 harg6 arg7 harg7 arg8 harg8 arg13 arg15 x1 x2 x3 x4 x5 x6 x7) (kernelRun0_A.sl.v1397 (F := Ideal) c i arg2 harg2 arg3 harg3 arg4 harg4 arg5 harg5 arg6 harg6 arg7 harg7 arg8 harg8 arg13 arg15 x1 x2 x3 x4 x5 x6 x7) (kernelRun0_A.sl.v1791 (F := Ideal) c i arg2 harg2 arg3 harg3 arg4 harg4 arg5 harg5 arg6 harg6 arg7 harg7 arg8 harg8 arg13 arg15 x1 x2 x3 x4 x5 x6 x7) (kernelRun0_A.sl.v1858 (F := Ideal) c i arg2 harg2 arg3 harg3 arg4 harg4 arg5 harg5 arg6 harg6 arg7 harg7 arg8 harg8 arg13 arg15 x1 x2 x3 x4 x5 x6 x7)) := by sl_kernel_rfl
  rw [e, cA1 (x0 := x0) (harg1 := harg1), cA2 (x0 := x0) (harg1 := harg1), cA3 (x0 := x0) (harg1 := harg1), cA4 (x0 := x0) (harg1 := harg1), cA5 (x0 := x0) (harg1 := harg1), cA6 (x0 := x0) (harg1 := harg1), cA7 (x0 := x0) (harg1 := harg1)]
  sl_kernel_rfl
theorem outA9 (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = cFin (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) (rdSig arg14 (arg14.view.writes (Elt Ideal) arg14.view.junk (kernelRun0_A.sl.HS1_1 (F := Ideal) c arg4 harg4 arg5 harg5 arg7 harg7 arg8 harg8 x3 x4 x6 x7)) i) (C7 (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i))) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 = [⟨Rect.unit ![0, 0, 0] S1x256x512.size inbF, cFin (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) (rdSig arg14 (arg14.view.writes (Elt Ideal) arg14.view.junk (kernelRun0_A.sl.HS1_1 (F := Ideal) c arg4 harg4 arg5 harg5 arg7 harg7 arg8 harg8 x3 x4 x6 x7)) i) (kernelRun0_A.sl.v1858 (F := Ideal) c i arg2 harg2 arg3 harg3 arg4 harg4 arg5 harg5 arg6 harg6 arg7 harg7 arg8 harg8 arg13 arg15 x1 x2 x3 x4 x5 x6 x7)⟩] := by sl_kernel_rfl
  rw [e, cA7 (x0 := x0) (harg1 := harg1)]
  exact View.canon_cons_unit_lit' _ _ _ (by intro a; fin_cases a <;> rfl)
include x0 harg1 in
theorem cB1 : (kernelRun0_B.sl.v475 (F := Ideal) c i arg2 harg2 arg3 harg3 arg13 harg13 arg15 x1 x2 xs0) = C1 (qin (rdK harg1 x0) (rdK harg2 x1) (rdV harg3 x2) (rdR arg13 (harg13.unread xs0) i)) := by
  unfold kernelRun0_B.sl.v475 kernelRun0_B.sl.HS2_1
  rw [View.readCov_cons_unit_lit']
  · sl_kernel_rfl
  all_goals (intro a; fin_cases a <;> rfl)
include x0 harg1 in
theorem cB2 : (kernelRun0_B.sl.v869 (F := Ideal) c i arg2 harg2 arg3 harg3 arg13 harg13 arg15 x1 x2 xs0) = C2 (qin (rdK harg1 x0) (rdK harg2 x1) (rdV harg3 x2) (rdR arg13 (harg13.unread xs0) i)) := by
  unfold kernelRun0_B.sl.v869 kernelRun0_B.sl.HS2_2
  rw [View.readCov_cons_unit_lit']
  · refine Eq.trans (b := ((qin (rdK harg1 x0) (rdK harg2 x1) (rdV harg3 x2) (rdR arg13 (harg13.unread xs0) i)) 0).c1 (kernelRun0_B.sl.v475 (F := Ideal) c i arg2 harg2 arg3 harg3 arg13 harg13 arg15 x1 x2 xs0)) (by sl_kernel_rfl) ?_
    rw [cB1 (x0 := x0) (harg1 := harg1)]
    sl_kernel_rfl
  all_goals (intro a; fin_cases a <;> rfl)
include x0 harg1 in
theorem cB3 : (kernelRun0_B.sl.v936 (F := Ideal) c i arg2 harg2 arg3 harg3 arg13 harg13 arg15 x1 x2 xs0) = C3 (qin (rdK harg1 x0) (rdK harg2 x1) (rdV harg3 x2) (rdR arg13 (harg13.unread xs0) i)) := by
  unfold kernelRun0_B.sl.v936 kernelRun0_B.sl.HS2_3
  rw [View.readCov_cons_unit_lit']
  · refine Eq.trans (b := ((qin (rdK harg1 x0) (rdK harg2 x1) (rdV harg3 x2) (rdR arg13 (harg13.unread xs0) i)) 1).c0 (kernelRun0_B.sl.v869 (F := Ideal) c i arg2 harg2 arg3 harg3 arg13 harg13 arg15 x1 x2 xs0)) (by sl_kernel_rfl) ?_
    rw [cB2 (x0 := x0) (harg1 := harg1)]
    sl_kernel_rfl
  all_goals (intro a; fin_cases a <;> rfl)
include x0 harg1 in
theorem cB4 : (kernelRun0_B.sl.v1330 (F := Ideal) c i arg2 harg2 arg3 harg3 arg13 harg13 arg15 x1 x2 xs0) = C4 (qin (rdK harg1 x0) (rdK harg2 x1) (rdV harg3 x2) (rdR arg13 (harg13.unread xs0) i)) := by
  unfold kernelRun0_B.sl.v1330 kernelRun0_B.sl.HS2_4
  rw [View.readCov_cons_unit_lit']
  · refine Eq.trans (b := ((qin (rdK harg1 x0) (rdK harg2 x1) (rdV harg3 x2) (rdR arg13 (harg13.unread xs0) i)) 1).c1 (kernelRun0_B.sl.v936 (F := Ideal) c i arg2 harg2 arg3 harg3 arg13 harg13 arg15 x1 x2 xs0)) (by sl_kernel_rfl) ?_
    rw [cB3 (x0 := x0) (harg1 := harg1)]
    sl_kernel_rfl
  all_goals (intro a; fin_cases a <;> rfl)
include x0 harg1 in
theorem cB5 : (kernelRun0_B.sl.v1397 (F := Ideal) c i arg2 harg2 arg3 harg3 arg13 harg13 arg15 x1 x2 xs0) = C5 (qin (rdK harg1 x0) (rdK harg2 x1) (rdV harg3 x2) (rdR arg13 (harg13.unread xs0) i)) := by
  unfold kernelRun0_B.sl.v1397 kernelRun0_B.sl.HS2_5
  rw [View.readCov_cons_unit_lit']
  · refine Eq.trans (b := ((qin (rdK harg1 x0) (rdK harg2 x1) (rdV harg3 x2) (rdR arg13 (harg13.unread xs0) i)) 2).c0 (kernelRun0_B.sl.v1330 (F := Ideal) c i arg2 harg2 arg3 harg3 arg13 harg13 arg15 x1 x2 xs0)) (by sl_kernel_rfl) ?_
    rw [cB4 (x0 := x0) (harg1 := harg1)]
    sl_kernel_rfl
  all_goals (intro a; fin_cases a <;> rfl)
include x0 harg1 in
theorem cB6 : (kernelRun0_B.sl.v1791 (F := Ideal) c i arg2 harg2 arg3 harg3 arg13 harg13 arg15 x1 x2 xs0) = C6 (qin (rdK harg1 x0) (rdK harg2 x1) (rdV harg3 x2) (rdR arg13 (harg13.unread xs0) i)) := by
  unfold kernelRun0_B.sl.v1791 kernelRun0_B.sl.HS2_6
  rw [View.readCov_cons_unit_lit']
  · refine Eq.trans (b := ((qin (rdK harg1 x0) (rdK harg2 x1) (rdV harg3 x2) (rdR arg13 (harg13.unread xs0) i)) 2).c1 (kernelRun0_B.sl.v1397 (F := Ideal) c i arg2 harg2 arg3 harg3 arg13 harg13 arg15 x1 x2 xs0)) (by sl_kernel_rfl) ?_
    rw [cB5 (x0 := x0) (harg1 := harg1)]
    sl_kernel_rfl
  all_goals (intro a; fin_cases a <;> rfl)
include x0 harg1 in
theorem cB7 : (kernelRun0_B.sl.v1858 (F := Ideal) c i arg2 harg2 arg3 harg3 arg13 harg13 arg15 x1 x2 xs0) = C7 (qin (rdK harg1 x0) (rdK harg2 x1) (rdV harg3 x2) (rdR arg13 (harg13.unread xs0) i)) := by
  unfold kernelRun0_B.sl.v1858 kernelRun0_B.sl.HS2_7
  rw [View.readCov_cons_unit_lit']
  · refine Eq.trans (b := ((qin (rdK harg1 x0) (rdK harg2 x1) (rdV harg3 x2) (rdR arg13 (harg13.unread xs0) i)) 3).c0 (kernelRun0_B.sl.v1791 (F := Ideal) c i arg2 harg2 arg3 harg3 arg13 harg13 arg15 x1 x2 xs0)) (by sl_kernel_rfl) ?_
    rw [cB6 (x0 := x0) (harg1 := harg1)]
    sl_kernel_rfl
  all_goals (intro a; fin_cases a <;> rfl)
theorem outB8 (hc0 : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 = View.canon (hPieces (hAll (qin (rdK harg1 x0) (rdK harg2 x1) (rdV harg3 x2) (rdR arg13 (harg13.unread xs0) i)))) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1)]
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1 = hPieces (hOut (qin (rdK harg1 x0) (rdK harg2 x1) (rdV harg3 x2) (rdR arg13 (harg13.unread xs0) i)) (kernelRun0_B.sl.v475 (F := Ideal) c i arg2 harg2 arg3 harg3 arg13 harg13 arg15 x1 x2 xs0) (kernelRun0_B.sl.v869 (F := Ideal) c i arg2 harg2 arg3 harg3 arg13 harg13 arg15 x1 x2 xs0) (kernelRun0_B.sl.v936 (F := Ideal) c i arg2 harg2 arg3 harg3 arg13 harg13 arg15 x1 x2 xs0) (kernelRun0_B.sl.v1330 (F := Ideal) c i arg2 harg2 arg3 harg3 arg13 harg13 arg15 x1 x2 xs0) (kernelRun0_B.sl.v1397 (F := Ideal) c i arg2 harg2 arg3 harg3 arg13 harg13 arg15 x1 x2 xs0) (kernelRun0_B.sl.v1791 (F := Ideal) c i arg2 harg2 arg3 harg3 arg13 harg13 arg15 x1 x2 xs0) (kernelRun0_B.sl.v1858 (F := Ideal) c i arg2 harg2 arg3 harg3 arg13 harg13 arg15 x1 x2 xs0)) := by sl_kernel_rfl
  rw [e, cB1 (x0 := x0) (harg1 := harg1), cB2 (x0 := x0) (harg1 := harg1), cB3 (x0 := x0) (harg1 := harg1), cB4 (x0 := x0) (harg1 := harg1), cB5 (x0 := x0) (harg1 := harg1), cB6 (x0 := x0) (harg1 := harg1), cB7 (x0 := x0) (harg1 := harg1)]
  sl_kernel_rfl
theorem outB9 (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 = cFin (qin (rdK harg1 x0) (rdK harg2 x1) (rdV harg3 x2) (rdR arg13 (harg13.unread xs0) i)) (rdSig arg14 (harg14.unread xs1) i) (C7 (qin (rdK harg1 x0) (rdK harg2 x1) (rdV harg3 x2) (rdR arg13 (harg13.unread xs0) i))) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1)]
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).2.1 = [⟨Rect.unit ![0, 0, 0] S1x256x512.size inbF, cFin (qin (rdK harg1 x0) (rdK harg2 x1) (rdV harg3 x2) (rdR arg13 (harg13.unread xs0) i)) (rdSig arg14 (harg14.unread xs1) i) (kernelRun0_B.sl.v1858 (F := Ideal) c i arg2 harg2 arg3 harg3 arg13 harg13 arg15 x1 x2 xs0)⟩] := by sl_kernel_rfl
  rw [e, cB7 (x0 := x0) (harg1 := harg1)]
  exact View.canon_cons_unit_lit' _ _ _ (by intro a; fin_cases a <;> rfl)
theorem soutA0 (hc0 : cond0_0 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = View.canon (rowPieces (comOf (rdG harg4 x3) (rdG harg5 x4) (rdS harg6 x5) (rdS harg7 x6) (rdS harg8 x7))) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  exact congrArg View.canon (by sl_kernel_rfl)
theorem soutA1 (hc0 : cond0_0 i) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = (pr7 (comOf (rdG harg4 x3) (rdG harg5 x4) (rdS harg6 x5) (rdS harg7 x6) (rdS harg8 x7))).sig := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 = [⟨Rect.unit ![0, 0] S16x128.size inb_S16x128_S16x128_0_0, k0_pay459 (pr7 (comOf (rdG harg4 x3) (rdG harg5 x4) (rdS harg6 x5) (rdS harg7 x6) (rdS harg8 x7))).sig⟩] := by sl_kernel_rfl
  rw [e]
  refine Eq.trans (View.canon_cons_unit_lit' _ _ _ (by intro a; fin_cases a <;> rfl)) ?_
  unfold k0_pay459
  exact shapeCast_self _ _
end Cert.KernelIdeal.Gen
-- ==== Proof.Val.QreVal.lean ====
/-
  What a quad reads of the prepared rows is its part of the head.
-/
module
public import proofs.«01_k».proof.Proof.Val.QuadVal
public import proofs.«01_k».proof.Proof.Val.Bridge
import all proofs.«01_k».proof.Proof.Gen.KernelIdeal.Skeleton
@[expose] public section
set_option maxRecDepth 16384
set_option maxHeartbeats 4000000
noncomputable section
namespace Cert.Val
open Idealize.ShloMosaic Cert.KernelIdeal Cert.KernelIdeal.Gen Cert.Val.Prep
open Idealize.ShloMosaic.TcCoe

theorem hf_self (a : ℝ) : hf (fun _ => a) (fun _ => a) = fun _ => a := by
  funext l
  unfold hf
  split_ifs <;> rfl
theorem hf_of {f : Fin 128 → EReal} {a b : Fin 64 → ℝ} (hl : ∀ t, f (lo t) = ((a t : ℝ) : EReal)) (hr : ∀ t, f (hi t) = ((b t : ℝ) : EReal)) (l : Fin 128) :
    f l = ((hf a b l : ℝ) : EReal) := by
  by_cases h : l.val < 64
  · have e : l = lo ⟨l.val, h⟩ := Fin.ext rfl
    rw [e, hl, hf_lo]
  · have e : l = hi ⟨l.val - 64, by omega⟩ := Fin.ext (by show l.val = l.val - 64 + 64; omega)
    rw [e, hr, hf_hi]
theorem row_re {R : Vec Ideal S1x1x128 .f32} {X : W} {a b : Fin 16 → Fin 64 → ℝ} (h : Fin 16) (hR : ∀ l, R (ix3 0 0 l) = put X (ix3 0 h l)) (hX : RW X a b) :
    ReR R (hf (a h) (b h)) := fun l => by
  rw [hR, put_apply]
  exact hf_of (f := fun l => X (ix2 h l)) (hX.l h) (hX.r h) l
theorem row_rc {R : Vec Ideal S1x1x128 .f32} {X : W} {a : Fin 16 → ℝ} (h : Fin 16) (hR : ∀ l, R (ix3 0 0 l) = put X (ix3 0 h l)) (hX : RW X (fun h _ => a h) (fun h _ => a h)) :
    ReR R (fun _ => a h) := by
  have := row_re h hR hX
  rw [hf_self] at this
  exact this

section
variable {a b : Pr} {D : Fin 16 → Hd} (ha : ComRe a.c D) (hb : ComRe b.c D) (u : ℕ) (pa : a.p.val = 2 * u) (pb : b.p.val = 2 * u + 1)
    (sa : StRe a.s D a.p.val) (sb : StRe b.s D b.p.val) (x : QIn) (h : Fin 16) (hR : ∀ r l, x.R r (ix3 0 0 l) = rows a b r (ix3 0 h l))
include ha hb pa pb sa sb hR

/-! Each row's part of the head. -/
theorem q_wz : ReR (x.R 0) (hf ((D h).w (ch u 0)) ((D h).w (ch u 2))) := by have e := row_re h (hR 0) (rseg (ha.w a.p) (rrot (ha.w b.p))); simp only [pa, pb] at e; exact e
theorem q_wy : ReR (x.R 1) (hf (fun t => (D h).w (ch u 3) t * (D h).z Lg (2 * u + 1)) (fun t => (D h).w (ch u 1) t * (D h).z Lg (2 * u))) := by have e := row_re h (hR 1) (rmul (rseg (rrot (ha.w b.p)) (ha.w a.p)) (rseg (Pr.rz hb sb) (Pr.rz ha sa))); simp only [pa, pb] at e; exact e
theorem q_wyn : ReR (x.R 2) (hf ((D h).w (ch u 3)) ((D h).w (ch u 1))) := by have e := row_re h (hR 2) (rseg (rrot (ha.w b.p)) (ha.w a.p)); simp only [pa, pb] at e; exact e
theorem q_mu : ReR (x.R 3) (hf (fun _ => (D h).mu Lg (2 * u)) (fun _ => (D h).mu Lg (2 * u + 1))) := by have e := row_re h (hR 3) (rseg (Pr.rmu ha sa) (Pr.rmu hb sb)); simp only [pa, pb] at e; exact e
theorem q_yz : ReR (x.R 4) (hf ((D h).y (ch u 0)) ((D h).y (ch u 2))) := by have e := row_re h (hR 4) (rseg (ha.y a.p) (rrot (ha.y b.p))); simp only [pa, pb] at e; exact e
theorem q_yy : ReR (x.R 5) (hf ((D h).y (ch u 3)) ((D h).y (ch u 1))) := by have e := row_re h (hR 5) (rseg (rrot (ha.y b.p)) (ha.y a.p)); simp only [pa, pb] at e; exact e
theorem q_cz : ReR (x.R 6) (hf (fun _ => (D h).cr (ch u 0)) (fun _ => (D h).cr (ch u 2))) := by have e := row_re h (hR 6) (rseg (Pr.rcr ha sa) (rrot (Pr.rcr hb sb))); simp only [pa, pb] at e; exact e
theorem q_cy : ReR (x.R 7) (hf (fun _ => (D h).cr (ch u 3)) (fun _ => (D h).cr (ch u 1))) := by have e := row_re h (hR 7) (rseg (rrot (Pr.rcr hb sb)) (Pr.rcr ha sa)); simp only [pa, pb] at e; exact e
theorem q_ma : ReR (x.R 8) (hf ((D h).mt (ch u 0)) ((D h).mt (ch u 3))) := by have e := row_re h (hR 8) (rseg (Pr.rmt ha sa) (Pr.rmt hb sb)); simp only [pa, pb] at e; exact e
theorem q_mb : ReR (x.R 9) (hf ((D h).mt (ch u 2)) ((D h).mt (ch u 1))) := by have e := row_re h (hR 9) (rseg (Pr.rmt hb sb) (Pr.rmt ha sa)); simp only [pa, pb] at e; exact e
theorem q_igz : ReR (x.R 10) (hf ((D h).igt (ch u 0)) ((D h).igt (ch u 2))) := by have e := row_re h (hR 10) (rseg (Pr.rig ha sa) (rrot (Pr.rig hb sb))); simp only [pa, pb] at e; exact e
theorem q_igy : ReR (x.R 11) (hf ((D h).igt (ch u 3)) ((D h).igt (ch u 1))) := by have e := row_re h (hR 11) (rseg (rrot (Pr.rig hb sb)) (Pr.rig ha sa)); simp only [pa, pb] at e; exact e
theorem q_bt0 : ReR (x.R 12) (hf (fun t => (D h).igt (ch u 0) t * (D h).sg Lg (2 * u)) (fun t => (D h).igt (ch u 1) t * ((D h).fa (ch u 0) * (D h).sg Lg (2 * u)))) := by have e := row_re h (hR 12) (Pr.rbt ha sa); simp only [pa, pb] at e; exact e
theorem q_bt1 : ReR (x.R 13) (hf (fun t => (D h).igt (ch u 2) t * (D h).sg Lg (2 * u + 1)) (fun t => (D h).igt (ch u 3) t * ((D h).fa (ch u 2) * (D h).sg Lg (2 * u + 1)))) := by have e := row_re h (hR 13) (Pr.rbt hb sb); simp only [pa, pb] at e; exact e
theorem q_en0 : ReR (x.R 14) (hf ((D h).en (ch u 0)) ((D h).en (ch u 1))) := by have e := row_re h (hR 14) (Pr.ren ha sa); simp only [pa, pb] at e; exact e
theorem q_en1 : ReR (x.R 15) (hf ((D h).en (ch u 2)) ((D h).en (ch u 3))) := by have e := row_re h (hR 15) (Pr.ren hb sb); simp only [pa, pb] at e; exact e
theorem q_s1 : ∃ j, ReR (x.R 16) (hf ((D h).sr (2 * u)) j) := by have e := row_re h (hR 16) (Pr.rsr ha sa); simp only [pa, pb] at e; exact ⟨_, e⟩
theorem q_s3 : ∃ j, ReR (x.R 17) (hf ((D h).sr (2 * u + 1)) j) := by have e := row_re h (hR 17) (Pr.rsr hb sb); simp only [pa, pb] at e; exact ⟨_, e⟩
theorem q_phi0 : ReR (x.R 18) (fun _ => (D h).phi Lg (2 * u)) := by have e := row_rc h (hR 18) (Pr.rphi ha sa); simp only [pa, pb] at e; exact e
theorem q_phi1 : ReR (x.R 19) (fun _ => (D h).phi Lg (2 * u + 1)) := by have e := row_rc h (hR 19) (Pr.rphi hb sb); simp only [pa, pb] at e; exact e
theorem q_ga0 : ReR (x.R 20) (fun _ => (D h).vs (ch u 0)) := by have e := row_rc (X := a.vs0) (a := fun h => (D h).vs a.ev.val) h (hR 20) (ha.vs a.ev); simp only [Pr.ev, pa, pb] at e; exact e
theorem q_ga1 : ReR (x.R 21) (fun _ => (D h).tau (2 * u)) := by have e := row_rc h (hR 21) (Pr.rtau ha sa); simp only [pa, pb] at e; exact e
theorem q_ga2 : ReR (x.R 22) (fun _ => (D h).vs (ch u 2)) := by have e := row_rc (X := b.vs0) (a := fun h => (D h).vs b.ev.val) h (hR 22) (hb.vs b.ev); simp only [Pr.ev, pa, pb] at e; exact e
theorem q_ga3 : ReR (x.R 23) (fun _ => (D h).tau (2 * u + 1)) := by have e := row_rc h (hR 23) (Pr.rtau hb sb); simp only [pa, pb] at e; exact e
theorem q_pm : ReR (x.R 24) (hf (fun _ => (D h).pm (2 * u + 1)) (fun _ => (D h).pm (2 * u))) := by have e := row_re h (hR 24) (rseg (Pr.rpm hb sb) (Pr.rpm ha sa)); simp only [pa, pb] at e; exact e
theorem q_fa0 : ReR (x.R 25) (fun _ => (D h).fa (ch u 0)) := by have e := row_rc h (hR 25) (Pr.rfa0 ha sa); simp only [pa, pb] at e; exact e
theorem q_fa1 : ReR (x.R 26) (fun _ => (D h).fa (ch u 1)) := by have e := row_rc h (hR 26) (Pr.rfa1 ha sa); simp only [pa, pb] at e; exact e
theorem q_fa2 : ReR (x.R 27) (fun _ => (D h).fa (ch u 2)) := by have e := row_rc h (hR 27) (Pr.rfa0 hb sb); simp only [pa, pb] at e; exact e
theorem q_fa3 : ReR (x.R 28) (fun _ => (D h).fa (ch u 3)) := by have e := row_rc h (hR 28) (Pr.rfa1 hb sb); simp only [pa, pb] at e; exact e
theorem q_fb0 : ReR (x.R 29) (fun _ => (D h).fb (ch u 0) * (D h).ks (ch u 0)) := by have e := row_rc (a := fun h => (D h).fb (2 * a.p.val) * (D h).ks a.ev.val) h (hR 29) (rmul (Pr.rfb0 ha sa) (ha.ks a.ev)); simp only [Pr.ev, pa, pb] at e; exact e
theorem q_fb1 : ReR (x.R 30) (fun _ => (D h).fb (ch u 1) * (D h).ks (ch u 1)) := by have e := row_rc (a := fun h => (D h).fb (2 * a.p.val + 1) * (D h).ks a.od.val) h (hR 30) (rmul (Pr.rfb1 ha sa) (ha.ks a.od)); simp only [Pr.od, pa, pb] at e; exact e
theorem q_fb2 : ReR (x.R 31) (fun _ => (D h).fb (ch u 2) * (D h).ks (ch u 2)) := by have e := row_rc (a := fun h => (D h).fb (2 * b.p.val) * (D h).ks b.ev.val) h (hR 31) (rmul (Pr.rfb0 hb sb) (hb.ks b.ev)); simp only [Pr.ev, pa, pb] at e; exact e
theorem q_fb3 : ReR (x.R 32) (fun _ => (D h).fb (ch u 3) * (D h).ks (ch u 3)) := by have e := row_rc (a := fun h => (D h).fb (2 * b.p.val + 1) * (D h).ks b.od.val) h (hR 32) (rmul (Pr.rfb1 hb sb) (hb.ks b.od)); simp only [Pr.od, pa, pb] at e; exact e

/-- What a quad reads is its part of the head, of the rows of its two pairs. -/
theorem qre (hq : ∀ i, Re3 (x.Q i) ((D h).q (ch u i))) (hk : ∀ i, Re3 (x.K i) ((D h).k (ch u i))) (hv : ∀ i, Re3 (x.V i) ((D h).v (ch u i))) : QRe x (D h) u :=
  ⟨hq, hk, hv, q_wz ha hb u pa pb sa sb x h hR, q_wy ha hb u pa pb sa sb x h hR, q_wyn ha hb u pa pb sa sb x h hR, q_mu ha hb u pa pb sa sb x h hR, q_yz ha hb u pa pb sa sb x h hR, q_yy ha hb u pa pb sa sb x h hR, q_cz ha hb u pa pb sa sb x h hR, q_cy ha hb u pa pb sa sb x h hR, q_ma ha hb u pa pb sa sb x h hR, q_mb ha hb u pa pb sa sb x h hR, q_igz ha hb u pa pb sa sb x h hR, q_igy ha hb u pa pb sa sb x h hR, q_bt0 ha hb u pa pb sa sb x h hR, q_bt1 ha hb u pa pb sa sb x h hR, q_en0 ha hb u pa pb sa sb x h hR, q_en1 ha hb u pa pb sa sb x h hR, q_s1 ha hb u pa pb sa sb x h hR, q_s3 ha hb u pa pb sa sb x h hR, q_phi0 ha hb u pa pb sa sb x h hR, q_phi1 ha hb u pa pb sa sb x h hR, q_ga0 ha hb u pa pb sa sb x h hR, q_ga1 ha hb u pa pb sa sb x h hR, q_ga2 ha hb u pa pb sa sb x h hR, q_ga3 ha hb u pa pb sa sb x h hR, q_pm ha hb u pa pb sa sb x h hR, q_fa0 ha hb u pa pb sa sb x h hR, q_fa1 ha hb u pa pb sa sb x h hR, q_fa2 ha hb u pa pb sa sb x h hR, q_fa3 ha hb u pa pb sa sb x h hR, q_fb0 ha hb u pa pb sa sb x h hR, q_fb1 ha hb u pa pb sa sb x h hR, q_fb2 ha hb u pa pb sa sb x h hR, q_fb3 ha hb u pa pb sa sb x h hR⟩
end

/-- The four quads of a head. -/
theorem qre_all {c : Com} {D : Fin 16 → Hd} (hc : ComRe c D) (h : Fin 16) (q k : Fin 16 → Vec Ideal S1x64x256 .fp8e4m3) (v : Fin 16 → Vec Ideal S1x64x512 .fp8e4m3)
    (R : Fin 132 → Vec Ideal S1x1x128 .f32) (hR : ∀ u r l, R (rr u r) (ix3 0 0 l) = quadRows c u r (ix3 0 h l))
    (hq : ∀ j : Fin 16, Re3 (q j) ((D h).q j.val)) (hk : ∀ j : Fin 16, Re3 (k j) ((D h).k j.val)) (hv : ∀ j : Fin 16, Re3 (v j) ((D h).v j.val)) (u : Fin 4) :
    QRe (qin q k v R u) (D h) u.val := by
  have hch : ∀ (u i : Fin 4), ch u.val i = (jj u i).val := by decide
  have key : ∀ (a b : Pr), a.c = c → b.c = c → a.p.val = 2 * u.val → b.p.val = 2 * u.val + 1 → StRe a.s D a.p.val → StRe b.s D b.p.val →
      (∀ r l, R (rr u r) (ix3 0 0 l) = rows a b r (ix3 0 h l)) → QRe (qin q k v R u) (D h) u.val := fun a b ea eb pa pb sa sb e =>
    qre (ea ▸ hc) (eb ▸ hc) u.val pa pb sa sb _ h e (fun i => by rw [hch]; exact hq _) (fun i => by rw [hch]; exact hk _) (fun i => by rw [hch]; exact hv _)
  fin_cases u
  · exact key (pr0 c) (pr1 c) rfl rfl rfl rfl (st0_re D) (s1 hc) (hR 0)
  · exact key (pr2 c) (pr3 c) rfl rfl rfl rfl (s2 hc) (s3 hc) (hR 1)
  · exact key (pr4 c) (pr5 c) rfl rfl rfl rfl (s4 hc) (s5 hc) (hR 2)
  · exact key (pr6 c) (pr7 c) rfl rfl rfl rfl (s6 hc) (s7 hc) (hR 3)

end Cert.Val
-- ==== Proof.Val.RowVal.lean ====
/-
  The rows the first grid point prepares, read back for one head: what a quad reads is its part of the head.
-/
module
public import proofs.«01_k».proof.Proof.Val.QuadVal
public import proofs.«01_k».proof.Proof.Val.Bridge
import all proofs.«01_k».proof.Proof.Gen.KernelIdeal.Skeleton
@[expose] public section
set_option maxRecDepth 16384
set_option maxHeartbeats 4000000
noncomputable section
namespace Cert.Val
open Idealize.ShloMosaic Cert.KernelIdeal Cert.KernelIdeal.Gen Cert.Val.Prep
open Idealize.ShloMosaic.TcCoe

/-- The table the rows' stores leave. -/
def rowTab (c : Com) (y : S132x16x128.Idx) : Elt Ideal .f32 :=
  quadRows c ⟨(y 0).val / 33, by have : (y 0).val < 132 := (y 0).isLt; omega⟩ ⟨(y 0).val % 33, Nat.mod_lt _ (by omega)⟩ (ix3 0 (y 1) (y 2))

theorem order_all (r : Fin 33) : r ∈ order := by revert r; decide

theorem rowPieces_mem {c : Com} {pc : View.Piece (Elt Ideal) S132x16x128 .f32} : pc ∈ rowPieces c ↔ ∃ u r, pc = rowPiece c u r := by
  unfold rowPieces
  simp only [List.mem_append, List.mem_map]
  constructor
  · rintro (((⟨r, -, rfl⟩ | ⟨r, -, rfl⟩) | ⟨r, -, rfl⟩) | ⟨r, -, rfl⟩)
    exacts [⟨3, r, rfl⟩, ⟨2, r, rfl⟩, ⟨1, r, rfl⟩, ⟨0, r, rfl⟩]
  · rintro ⟨u, r, rfl⟩
    fin_cases u
    · exact Or.inr ⟨r, order_all r, rfl⟩
    · exact Or.inl (Or.inr ⟨r, order_all r, rfl⟩)
    · exact Or.inl (Or.inl (Or.inr ⟨r, order_all r, rfl⟩))
    · exact Or.inl (Or.inl (Or.inl ⟨r, order_all r, rfl⟩))

theorem row_cover (c : Com) (u : Fin 4) (r : Fin 33) (h : Fin 16) (l : Fin 128) : (ix3 (rr u r) h l : S132x16x128.Idx) ∈ (rowPiece c u r).1.set := by
  refine (Rect.mem_set_unit (s := S132x16x128) (inb := inbRows (rr u r))).2 ?_
  intro a
  fin_cases a
  · exact ⟨le_refl _, Nat.lt_succ_self _⟩
  · exact ⟨Nat.zero_le _, by show h.val < 0 + 16; omega⟩
  · exact ⟨Nat.zero_le _, by show l.val < 0 + 128; omega⟩

theorem rowTab_of {c : Com} {y : S132x16x128.Idx} {u : Fin 4} {r : Fin 33} {h : Fin 16} {l : Fin 128} (e0 : (y 0).val = 33 * u.val + r.val) (e1 : y 1 = h) (e2 : y 2 = l) :
    rowTab c y = quadRows c u r (ix3 0 h l) := by
  subst e1 e2
  unfold rowTab
  have d : (⟨(y 0).val / 33, by have : (y 0).val < 132 := (y 0).isLt; omega⟩ : Fin 4) = u := Fin.ext (by show (y 0).val / 33 = _; omega)
  have m : (⟨(y 0).val % 33, Nat.mod_lt _ (by omega)⟩ : Fin 33) = r := Fin.ext (by show (y 0).val % 33 = _; omega)
  exact congrFun (congrArg₂ (quadRows c) d m) _
theorem canon_rows (c : Com) (u : Fin 4) (r : Fin 33) (h : Fin 16) (l : Fin 128) :
    View.canon (rowPieces c) (ix3 (rr u r) h l) = quadRows c u r (ix3 0 h l) := by
  refine (View.canon_apply_of_pieces (rowTab c) (rowPieces c) ?_ _ ⟨_, rowPieces_mem.2 ⟨u, r, rfl⟩, row_cover c u r h l⟩).trans ?_
  · intro pc hpc x
    obtain ⟨u, r, rfl⟩ := rowPieces_mem.1 hpc
    have h0 : (x 0).val = 0 := by have : (x 0).val < 1 := (x 0).isLt; omega
    have idx : ∀ a : Fin 3, ((rowPiece c u r).1.idx x a).val = (![(rr u r).val, 0, 0] : Fin 3 → ℕ) a + (x a).val := Rect.idx_unit_val (s := S132x16x128) ![(rr u r).val, 0, 0] S1x16x128.size (inbRows _) x
    have e0 : ((rowPiece c u r).1.idx x 0).val = 33 * u.val + r.val := by
      refine (idx 0).trans ?_
      show 33 * u.val + r.val + (x 0).val = _
      omega
    have e1 : ((rowPiece c u r).1.idx x 1) = x 1 := Fin.ext ((idx 1).trans (Nat.zero_add _))
    have e2 : ((rowPiece c u r).1.idx x 2) = x 2 := Fin.ext ((idx 2).trans (Nat.zero_add _))
    refine Eq.trans ?_ (rowTab_of (y := (rowPiece c u r).1.idx x) e0 e1 e2).symm
    show quadRows c u r x = quadRows c u r _
    congr 1
    funext a
    fin_cases a
    · exact Fin.ext h0
    · rfl
    · rfl
  · exact rowTab_of rfl rfl rfl

theorem idx_nat (i : grid0.Coords) : (Scalar.indexCast (BitVec.ofNat 32 (i 0).val)).toNat = (i 0).val := by
  have : (i 0).val < 16 := (i 0).isLt
  generalize (i 0).val = z at this
  interval_cases z <;> rfl

/-- A row of the table, read for a head. -/
theorem rdR_at (arg : Memref sig .tc .vmem S132x16x128 .f32) (f : arg.view.ty.Contents (Elt Ideal)) (c : Com) (hf : arg.view.read (Elt Ideal) f = View.canon (rowPieces c))
    (i : grid0.Coords) (h : Fin 16) (hi : (i 0).val = h.val) (u : Fin 4) (r : Fin 33) (l : Fin 128) : rdR arg f i (rr u r) (ix3 0 0 l) = quadRows c u r (ix3 0 h l) := by
  unfold rdR
  rw [View.readAt_eq_ld, hf, ← canon_rows]
  refine View.ld_unit_apply_of _ _ _ _ _ _ ?_
  intro a
  fin_cases a
  · rfl
  · show h.val = (Scalar.indexCast (BitVec.ofNat 32 (i 0).val)).toNat + 0
    rw [idx_nat, hi, Nat.add_zero]
  · exact (Nat.zero_add _).symm
theorem rdSig_at (arg : Memref sig .tc .vmem S16x128 .f32) (f : arg.view.ty.Contents (Elt Ideal)) (X : Vec Ideal S16x128 .f32) (hf : arg.view.read (Elt Ideal) f = X)
    (i : grid0.Coords) (h : Fin 16) (hi : (i 0).val = h.val) (l : Fin 128) : rdSig arg f i (ix2 0 l) = X (ix2 h l) := by
  unfold rdSig
  rw [View.readAt_eq_ld, hf]
  refine View.ld_unit_apply_of _ _ _ _ _ _ ?_
  intro a
  fin_cases a
  · show h.val = (Scalar.indexCast (BitVec.ofNat 32 (i 0).val)).toNat + 0
    rw [idx_nat, hi, Nat.add_zero]
  · exact (Nat.zero_add _).symm

/-- The last state of a head. -/
theorem cFin_at {x : Fin 4 → QIn} {D : Hd} (h : ∀ u : Fin 4, QRe (x u) D u.val) {S : Vec Ideal S1x128 .f32} (hS : ∀ l, S (ix2 0 l) = ((D.sg Lg 8 : ℝ) : EReal))
    (d : Fin 256) (e : Fin 512) : cFin x S (C7 x) (ix3 0 d e) = ((D.S 16 d e : ℝ) : EReal) := by
  unfold cFin
  pointwise [k0_pay786]
  have hp : ∀ l, (x 3).R 19 (ix3 0 0 l) = ((D.phi Lg (2 * 3 + 1) : ℝ) : EReal) := (h 3).phi1
  rw [(h 3).upd1 d e, x7 h d e]
  simp only [hp, hS, dite_eq_ite, ite_self]
  rw [← EReal.coe_mul, ← EReal.coe_add, ← EReal.coe_mul, EReal.coe_eq_coe_iff]
  exact D.X_sg Lg 8 d e

/-- The outputs of a head, pair by pair. -/
theorem hAll_at {x : Fin 4 → QIn} {D : Hd} (h : ∀ u : Fin 4, QRe (x u) D u.val) (p : Fin 8) (s : Fin 64) (e : Fin 512) :
    hAll x p (ix3 0 (lo s) e) = ((D.out (2 * p.val) s e : ℝ) : EReal) ∧ hAll x p (ix3 0 (hi s) e) = ((D.out (2 * p.val + 1) s e : ℝ) : EReal) := by
  fin_cases p
  · exact (h 0).hfirst n0 s e
  · exact (h 0).h1 n0 (x1 h) s e
  · exact (h 1).h0 (n1 h) (x2 h) s e
  · exact (h 1).h1 (n1 h) (x3 h) s e
  · exact (h 2).h0 (n2 h) (x4 h) s e
  · exact (h 2).h1 (n2 h) (x5 h) s e
  · exact (h 3).h0 (n3 h) (x6 h) s e
  · exact (h 3).h1 (n3 h) (x7 h) s e

/-- The table of outputs the stores leave. -/
def hTab (f : Fin 8 → Vec Ideal S1x128x512 .bf16) (y : S1x1024x512.Idx) : Elt Ideal .bf16 :=
  f ⟨(y 1).val / 128, by have : (y 1).val < 1024 := (y 1).isLt; omega⟩ (ix3 0 ⟨(y 1).val % 128, Nat.mod_lt _ (by omega)⟩ (y 2))
theorem hPieces_mem {f : Fin 8 → Vec Ideal S1x128x512 .bf16} {pc : View.Piece (Elt Ideal) S1x1024x512 .bf16} : pc ∈ hPieces f ↔ ∃ p, pc = hPiece f p := by
  have all : ∀ p : Fin 8, p ∈ ([7, 6, 5, 4, 3, 2, 1, 0] : List (Fin 8)) := by decide
  unfold hPieces
  simp only [List.mem_map]
  exact ⟨fun ⟨p, _, e⟩ => ⟨p, e.symm⟩, fun ⟨p, e⟩ => ⟨p, all p, e.symm⟩⟩
theorem hTab_of {f : Fin 8 → Vec Ideal S1x128x512 .bf16} {y : S1x1024x512.Idx} {p : Fin 8} {j : Fin 128} {e : Fin 512} (e1 : (y 1).val = 128 * p.val + j.val) (e2 : y 2 = e) :
    hTab f y = f p (ix3 0 j e) := by
  subst e2
  unfold hTab
  have d : (⟨(y 1).val / 128, by have : (y 1).val < 1024 := (y 1).isLt; omega⟩ : Fin 8) = p := Fin.ext (by show (y 1).val / 128 = _; omega)
  have m : (⟨(y 1).val % 128, Nat.mod_lt _ (by omega)⟩ : Fin 128) = j := Fin.ext (by show (y 1).val % 128 = _; omega)
  exact congr (congrArg f d) (congrArg (fun j => ix3 0 j (y 2)) m)
theorem canon_h (f : Fin 8 → Vec Ideal S1x128x512 .bf16) (p : Fin 8) (j : Fin 128) (t : Fin 1024) (ht : t.val = 128 * p.val + j.val) (e : Fin 512) :
    View.canon (hPieces f) (ix3 0 t e) = f p (ix3 0 j e) := by
  refine (View.canon_apply_of_pieces (hTab f) (hPieces f) ?_ _ ⟨_, hPieces_mem.2 ⟨p, rfl⟩, ?_⟩).trans ?_
  · intro pc hpc x
    obtain ⟨p, rfl⟩ := hPieces_mem.1 hpc
    have h0 : (x 0).val = 0 := by have : (x 0).val < 1 := (x 0).isLt; omega
    have hx : (x 1).val < 128 := (x 1).isLt
    have idx : ∀ a : Fin 3, ((hPiece f p).1.idx x a).val = (![0, 128 * p.val, 0] : Fin 3 → ℕ) a + (x a).val := Rect.idx_unit_val (s := S1x1024x512) ![0, 128 * p.val, 0] S1x128x512.size (inbH p) x
    have e1 : ((hPiece f p).1.idx x 1).val = 128 * p.val + (x 1).val := idx 1
    have e2 : ((hPiece f p).1.idx x 2) = x 2 := Fin.ext ((idx 2).trans (Nat.zero_add _))
    refine Eq.trans ?_ (hTab_of (y := (hPiece f p).1.idx x) e1 e2).symm
    show f p x = f p _
    congr 1
    funext a
    fin_cases a
    · exact Fin.ext h0
    · rfl
    · rfl
  · refine (Rect.mem_set_unit (s := S1x1024x512) (inb := inbH p)).2 ?_
    intro a
    fin_cases a
    · exact ⟨le_refl _, Nat.lt_succ_self _⟩
    · exact ⟨by show 128 * p.val ≤ t.val; omega, by show t.val < 128 * p.val + 128; omega⟩
    · exact ⟨Nat.zero_le _, by show e.val < 0 + 512; omega⟩
  · exact hTab_of ht rfl

end Cert.Val
-- ==== Proof.Val.ComVal.lean ====
/-
  What the preparation computes for all pairs at once, in real numbers.
-/
module
public import proofs.«01_k».proof.Proof.Val.PrepVal
public import proofs.«01_k».proof.Proof.Val.Bridge
import all proofs.«01_k».proof.Proof.Gen.KernelIdeal.Skeleton
@[expose] public section
set_option maxRecDepth 16384
set_option maxHeartbeats 4000000
noncomputable section
namespace Cert.Val.Prep
open Idealize.ShloMosaic Cert.KernelIdeal Cert.KernelIdeal.Gen

/-- The row of head `h` in pair `p`'s part of what is stacked. -/
def rw16 (p : Fin 8) (h : Fin 16) : Fin 128 := ⟨16 * p.val + h.val, by omega⟩

theorem tile_at (x : FVec Ideal S128x128 .f32) (p : Fin 8) (h : Fin 16) (l : Fin 128) : tile x p (ix2 h l) = x (ix2 (rw16 p h) l) := by
  pointwise [tile]
  rfl
theorem col_at (x : FVec Ideal S128x1 .f32) (p : Fin 8) (h : Fin 16) (l : Fin 128) : col x p (ix2 h l) = x (ix2 (rw16 p h) 0) := by
  pointwise [col]
  rfl
theorem full_at (x : Vec Ideal S16x1 .f32) (h : Fin 16) (l : Fin 128) : full x (ix2 h l) = x (ix2 h 0) := by
  pointwise [full]

theorem ig_at (I : Fin 8 → Vec Ideal S16x128 .f32) (p : Fin 8) (h : Fin 16) (l : Fin 128) :
    k0_pay5 (I 0) (I 1) (I 2) (I 3) (I 4) (I 5) (I 6) (I 7) (ix2 (rw16 p h) l) = I p (ix2 h l) := by
  rcases p with ⟨p, hp⟩
  interval_cases p
  all_goals
    pointwise [k0_pay5, rw16]
    try simp (disch := omega) only [dif_pos, dif_neg, Nat.add_sub_cancel, Fin.eta]
    all_goals first
      | rfl
      | (refine congrArg (fun j : Fin 16 => I _ (ix2 j l)) (Fin.ext ?_); show _ - _ = h.val; omega)

/-- The kernel's way to the logarithm of the logistic function. -/
theorem ls_at (x : ℝ) : (0 : EReal) - Scalar.select (Ideal.cmp .one ((0 : EReal) - x - 0) ((0 : EReal) - x - 0)) ((0 : EReal) - x + 0)
    (max ((0 : EReal) - x) 0 + Ideal.log1p (Ideal.exp (0 - max ((0 : EReal) - x - 0) (-((0 : EReal) - x - 0))))) = ((lsR x : ℝ) : EReal) := by
  show _ - Scalar.select (BitVec.ofBool (decide _)) _ _ = _
  rw [sel_bool, if_neg (by simp)]
  rw [← EReal.coe_zero, ← EReal.coe_sub, ← EReal.coe_sub, abs_coe, ← EReal.coe_sub, max_coe, Ideal.exp_coe]
  have hp : 0 < Real.exp (0 - |0 - x - 0|) := Real.exp_pos _
  show _ - (_ + Ideal.log (1 + _)) = _
  rw [← EReal.coe_one, ← EReal.coe_add, Ideal.log_coe, if_neg (by linarith), ← EReal.coe_add, ← EReal.coe_sub]
  unfold lsR
  simp

theorem lf_at (I : Fin 8 → Vec Ideal S16x128 .f32) (p : Fin 8) (h : Fin 16) (l : Fin 128) {x : ℝ} (hx : I p (ix2 h l) = (x : EReal)) :
    k0_pay4 (k0_pay3 (I 0) (I 1) (I 2) (I 3) (I 4) (I 5) (I 6) (I 7)) (FloatOps.ofBits .f32 0#32) (ix2 (rw16 p h) l) = ((lsR x : ℝ) : EReal) := by
  have e := ls_at x
  rw [← hx, ← ig_at I p h l, ← EReal.coe_zero, ← b0] at e
  exact e

variable {SP IG : FVec Ideal S128x128 .f32} {zz : Ideal .f32} {r : Fin 128} {lf0 lf1 ig0 ig1 : Fin 64 → ℝ}

theorem upper_eq : ∀ s t : Fin 128, IntOp.andi (IntOp.cmpi CmpIPredicate.sle (BitVec.ofNat 32 s.val) (BitVec.ofNat 32 t.val))
    (IntOp.xori (IntOp.xori (IntOp.cmpi CmpIPredicate.slt (BitVec.ofNat 32 s.val) 64#32) (IntOp.cmpi CmpIPredicate.slt (BitVec.ofNat 32 t.val) 64#32)) 1#1)
      = if s.val ≤ t.val ∧ (s.val < 64 ↔ t.val < 64) then 1#1 else 0#1 := by
  decide +kernel
theorem up_at (s t : Fin 128) : k0_pay6 (F := Ideal) (ix2 s t) = if s.val ≤ t.val ∧ (s.val < 64 ↔ t.val < 64) then ((1 : ℝ) : EReal) else ((0 : ℝ) : EReal) := by
  have e : k0_pay6 (F := Ideal) (ix2 s t) = Scalar.select (IntOp.andi (IntOp.cmpi CmpIPredicate.sle (BitVec.ofNat 32 s.val) (BitVec.ofNat 32 t.val))
    (IntOp.xori (IntOp.xori (IntOp.cmpi CmpIPredicate.slt (BitVec.ofNat 32 s.val) 64#32) (IntOp.cmpi CmpIPredicate.slt (BitVec.ofNat 32 t.val) 64#32)) 1#1))
      (Ideal.ofBits .f32 0x3F800000#32) (Ideal.ofBits .f32 0#32) := by
    pointwise [k0_pay6]
  rw [e, upper_eq, select_ite, b0, b1]

section
variable (hl : ∀ t, k0_pay4 SP zz (ix2 r (lo t)) = ((lf0 t : ℝ) : EReal)) (hr : ∀ t, k0_pay4 SP zz (ix2 r (hi t)) = ((lf1 t : ℝ) : EReal))
include hl hr
theorem bl_at :
    k0_pay12 k0_pay1 (k0_pay4 SP zz) (ix2 r 0) = ((∑ t, lf0 t : ℝ) : EReal) ∧ k0_pay13 k0_pay1 (k0_pay4 SP zz) (ix2 r 0) = ((∑ t, lf1 t : ℝ) : EReal) := by
  generalize k0_pay4 SP zz = LF at hl hr
  constructor
  all_goals
    pointwise [k0_pay12, k0_pay13, k0_pay1]
    rw [sum128]
    simp (disch := omega) only [sel_slt, if_pos, if_neg]
    simp only [hl, hr, sum_coe]
    simp

theorem b_at (t : Fin 64) :
    k0_pay11 k0_pay6 (k0_pay7 SP zz) (k0_pay9 SP zz) (k0_pay10 SP zz) (ix2 r (lo t)) = ((∑ s, if s.val ≤ t.val then lf0 s else 0 : ℝ) : EReal)
    ∧ k0_pay11 k0_pay6 (k0_pay7 SP zz) (k0_pay9 SP zz) (k0_pay10 SP zz) (ix2 r (hi t)) = ((∑ s, if s.val ≤ t.val then lf1 s else 0 : ℝ) : EReal) := by
  have h7 : k0_pay7 SP zz = k0_pay4 SP zz := rfl
  have h9 : k0_pay9 SP zz = subf (k0_pay4 SP zz) (k0_pay4 SP zz) := rfl
  have h10 : k0_pay10 SP zz = subf (subf (k0_pay4 SP zz) (k0_pay4 SP zz)) (subf (k0_pay4 SP zz) (k0_pay4 SP zz)) := rfl
  rw [h7, h9, h10]
  generalize k0_pay4 SP zz = LF at hl hr
  constructor
  all_goals
    pointwise [k0_pay11]
    simp only [sum128, up_at]
    simp only [hl, hr, ← EReal.coe_sub, sub_self, EReal.coe_zero, zero_mul, Finset.sum_const_zero, add_zero]
    have h0 : ∀ s : Fin 64, s.val < 64 := fun s => s.isLt
    have h1 : ∀ s : Fin 64, ¬ s.val + 64 < 64 := fun s => by omega
    have h2 : ∀ s : Fin 64, ¬ s.val + 64 ≤ t.val := fun s => by omega
    simp only [h0, h1, h2, iff_true, iff_false, not_true, not_false_iff, and_true, and_false, false_and, if_false, mul_ite, ite_mul, mul_one, mul_zero, EReal.coe_one,
      Finset.sum_const_zero, add_zero, zero_add, Nat.add_le_add_iff_right, sub_zero, ite_self]
    rw [← sum_coe]
    refine Finset.sum_congr rfl fun s _ => ?_
    split_ifs <;> rfl

variable (gl : ∀ t, IG (ix2 r (lo t)) = ((ig0 t : ℝ) : EReal)) (gr : ∀ t, IG (ix2 r (hi t)) = ((ig1 t : ℝ) : EReal))
include gl gr
theorem y_at (t : Fin 64) :
    k0_pay18 IG k0_pay6 (k0_pay7 SP zz) (k0_pay9 SP zz) (k0_pay10 SP zz) (ix2 r (lo t)) = ((ig0 t - ∑ s, if s.val ≤ t.val then lf0 s else 0 : ℝ) : EReal)
    ∧ k0_pay18 IG k0_pay6 (k0_pay7 SP zz) (k0_pay9 SP zz) (k0_pay10 SP zz) (ix2 r (hi t)) = ((ig1 t - ∑ s, if s.val ≤ t.val then lf1 s else 0 : ℝ) : EReal) := by
  have h := b_at hl hr t
  constructor
  · pointwise [k0_pay18]; rw [h.1, gl, ← EReal.coe_sub]
  · pointwise [k0_pay18]; rw [h.2, gr, ← EReal.coe_sub]

/-- The logarithm of a weight. -/
def lwR (lf ig : Fin 64 → ℝ) (t : Fin 64) : ℝ := (∑ s, lf s) - (∑ s, if s.val ≤ t.val then lf s else 0) + ig t
theorem lw_at (t : Fin 64) :
    k0_pay14 k0_pay1 (k0_pay4 SP zz) IG k0_pay6 (k0_pay7 SP zz) (k0_pay9 SP zz) (k0_pay10 SP zz) (ix2 r (lo t)) = ((lwR lf0 ig0 t : ℝ) : EReal)
    ∧ k0_pay14 k0_pay1 (k0_pay4 SP zz) IG k0_pay6 (k0_pay7 SP zz) (k0_pay9 SP zz) (k0_pay10 SP zz) (ix2 r (hi t)) = ((lwR lf1 ig1 t : ℝ) : EReal) := by
  have h := b_at hl hr t
  have hb := bl_at hl hr
  constructor
  · pointwise [k0_pay14, k0_pay1]
    simp (disch := omega) only [sel_slt, if_pos, if_neg]
    unfold k0_pay1 at hb
    rw [h.1, gl, hb.1, ← EReal.coe_sub, ← EReal.coe_add]; rfl
  · pointwise [k0_pay14, k0_pay1]
    simp (disch := omega) only [sel_slt, if_pos, if_neg]
    unfold k0_pay1 at hb
    rw [h.2, gr, hb.2, ← EReal.coe_sub, ← EReal.coe_add]; rfl
end

theorem mx_coe_le {f : Fin 64 → ℝ} {a : EReal} : ((mx f : ℝ) : EReal) ≤ a ↔ ∀ t, (f t : EReal) ≤ a := by
  constructor
  · exact fun h t => le_trans (EReal.coe_le_coe_iff.mpr (mx_le.mp le_rfl t)) h
  · intro h
    obtain ⟨t, _, ht⟩ := Finset.exists_mem_eq_sup' (Finset.univ_nonempty (α := Fin 64)) f
    unfold mx
    rw [ht]
    exact h t
theorem fold_max {n : ℕ} (g : Fin n → EReal) (x : EReal) (hx : ∀ a, x ≤ a ↔ ∀ i, g i ≤ a) : Finset.univ.fold max ⊥ g = x := by
  refine eq_of_forall_ge_iff fun a => ?_
  rw [hx, Finset.fold_max_le]
  simp

theorem ak_at {LW : FVec Ideal S128x128 .f32} {lw0 lw1 : Fin 64 → ℝ} (hl : ∀ t, LW (ix2 r (lo t)) = ((lw0 t : ℝ) : EReal)) (hr : ∀ t, LW (ix2 r (hi t)) = ((lw1 t : ℝ) : EReal)) :
    Finset.univ.fold max ⊥ (fun l : Fin 128 => if l.val < 64 then LW (ix2 r l) else ⊥) = ((mx lw0 : ℝ) : EReal)
    ∧ Finset.univ.fold max ⊥ (fun l : Fin 128 => if l.val < 64 then ⊥ else LW (ix2 r l)) = ((mx lw1 : ℝ) : EReal) := by
  constructor
  · refine fold_max _ _ fun a => ?_
    rw [mx_coe_le]
    constructor
    · intro h l
      split_ifs with hh
      · exact (hl ⟨l.val, hh⟩).trans_le (h ⟨l.val, hh⟩)
      · exact bot_le
    · intro h t
      have := h (lo t)
      rw [if_pos (by exact t.isLt), hl] at this
      exact this
  · refine fold_max _ _ fun a => ?_
    rw [mx_coe_le]
    constructor
    · intro h l
      split_ifs with hh
      · exact bot_le
      · have e : l = hi ⟨l.val - 64, by omega⟩ := Fin.ext (by show l.val = l.val - 64 + 64; omega)
        rw [e, hr]
        exact h _
    · intro h t
      have := h (hi t)
      rw [if_neg (by show ¬ t.val + 64 < 64; omega), hr] at this
      exact this

section
variable (hl : ∀ t, k0_pay4 SP zz (ix2 r (lo t)) = ((lf0 t : ℝ) : EReal)) (hr : ∀ t, k0_pay4 SP zz (ix2 r (hi t)) = ((lf1 t : ℝ) : EReal))
variable (gl : ∀ t, IG (ix2 r (lo t)) = ((ig0 t : ℝ) : EReal)) (gr : ∀ t, IG (ix2 r (hi t)) = ((ig1 t : ℝ) : EReal))
include hl hr gl gr
theorem a_at :
    k0_pay15 k0_pay1 (k0_pay4 SP zz) IG k0_pay6 (k0_pay7 SP zz) (k0_pay9 SP zz) (k0_pay10 SP zz) (ix2 r 0) = ((mx (lwR lf0 ig0) : ℝ) : EReal)
    ∧ k0_pay16 k0_pay1 (k0_pay4 SP zz) IG k0_pay6 (k0_pay7 SP zz) (k0_pay9 SP zz) (k0_pay10 SP zz) (ix2 r 0) = ((mx (lwR lf1 ig1) : ℝ) : EReal) := by
  have h := ak_at (fun t => (lw_at hl hr gl gr t).1) (fun t => (lw_at hl hr gl gr t).2)
  rw [← h.1, ← h.2]
  generalize hk : k0_pay14 k0_pay1 (k0_pay4 SP zz) IG k0_pay6 (k0_pay7 SP zz) (k0_pay9 SP zz) (k0_pay10 SP zz) = LW
  constructor
  · unfold k0_pay15
    rw [hk]
    pointwise [k0_pay1]
    simp only [ninf]
    refine congrArg (fun g => Finset.univ.fold max ⊥ g) (funext fun l => ?_)
    exact sel_slt _ (by omega) _ _
  · unfold k0_pay16
    rw [hk]
    pointwise [k0_pay1]
    simp only [ninf]
    refine congrArg (fun g => Finset.univ.fold max ⊥ g) (funext fun l => ?_)
    exact sel_slt _ (by omega) _ _

theorem w_at (t : Fin 64) :
    k0_pay17 k0_pay1 (k0_pay4 SP zz) IG k0_pay6 (k0_pay7 SP zz) (k0_pay9 SP zz) (k0_pay10 SP zz) (ix2 r (lo t)) = ((Real.exp (lwR lf0 ig0 t - mx (lwR lf0 ig0)) : ℝ) : EReal)
    ∧ k0_pay17 k0_pay1 (k0_pay4 SP zz) IG k0_pay6 (k0_pay7 SP zz) (k0_pay9 SP zz) (k0_pay10 SP zz) (ix2 r (hi t)) = ((Real.exp (lwR lf1 ig1 t - mx (lwR lf1 ig1)) : ℝ) : EReal) := by
  have h := lw_at hl hr gl gr t
  have ha := a_at hl hr gl gr
  constructor
  · pointwise [k0_pay17]
    rw [h.1, ha.1, ha.2]
    unfold k0_pay1
    pointwise
    simp (disch := omega) only [sel_slt, if_pos, if_neg]
    rw [← EReal.coe_sub]; rfl
  · pointwise [k0_pay17]
    rw [h.2, ha.1, ha.2]
    unfold k0_pay1
    pointwise
    simp (disch := omega) only [sel_slt, if_pos, if_neg]
    rw [← EReal.coe_sub]; rfl
end

/-- One step of the running maximum over the positions of a chunk. -/
def cmStep (n : BitVec 32) (X : FVec Ideal S128x128 .f32) : FVec Ideal S128x128 .f32 :=
  maximumf X (select (cmpi .sge k0_pay2 (broadcast S128x128 n)) (dynamicRotate 1 n none X rotates_S128x128_d1) (broadcast S128x128 (Scalar.ofBits .f32 0xFF800000#32)))

/-- The maximum over the last `n` positions of the same chunk. -/
def Win (n : ℕ) (X Y : FVec Ideal S128x128 .f32) (r : Fin 128) : Prop :=
  ∀ (l : Fin 128) (a : EReal), X (ix2 r l) ≤ a ↔ ∀ j : Fin 128, j.val ≤ l.val → l.val < j.val + n → j.val / 64 = l.val / 64 → Y (ix2 r j) ≤ a

theorem win_step {n : ℕ} (hn : n < 64) (hm : ∀ l : Fin 128, IntOp.cmpi CmpIPredicate.sge (IntOp.andi (BitVec.ofNat 32 l.val) 63#32) (BitVec.ofNat 32 n) = if n ≤ l.val % 64 then 1#1 else 0#1)
    (hr : ∀ (X : FVec Ideal S128x128 .f32) (r l : Fin 128), dynamicRotate 1 (BitVec.ofNat 32 n) none X rotates_S128x128_d1 (ix2 r l) = X (ix2 r ⟨(l.val + 128 - n) % 128, Nat.mod_lt _ (by decide)⟩))
    {X Y : FVec Ideal S128x128 .f32} {r : Fin 128} (h : Win n X Y r) : Win (2 * n) (cmStep (BitVec.ofNat 32 n) X) Y r := by
  intro l a
  have e : cmStep (BitVec.ofNat 32 n) X (ix2 r l) = max (X (ix2 r l)) (Scalar.select (IntOp.cmpi CmpIPredicate.sge (IntOp.andi (BitVec.ofNat 32 l.val) 63#32) (BitVec.ofNat 32 n))
      (dynamicRotate 1 (BitVec.ofNat 32 n) none X rotates_S128x128_d1 (ix2 r l)) (Ideal.ofBits .f32 0xFF800000#32)) := by
    pointwise [cmStep, k0_pay2]
  rw [e, hm, select_ite, hr, ninf, max_le_iff, h l a]
  by_cases hh : n ≤ l.val % 64
  · rw [if_pos hh, h _ a]
    have hv : (l.val + 128 - n) % 128 = l.val - n := by omega
    simp only [hv]
    constructor
    · rintro ⟨h1, h2⟩ j hj1 hj2 hj3
      by_cases hc : l.val < j.val + n
      · exact h1 j hj1 hc hj3
      · exact h2 j (by omega) (by omega) (by omega)
    · intro h3
      exact ⟨fun j h1 h2 h4 => h3 j h1 (by omega) h4, fun j h1 h2 h4 => h3 j (by omega) (by omega) (by omega)⟩
  · rw [if_neg hh]
    constructor
    · rintro ⟨h1, _⟩ j hj1 hj2 hj3
      exact h1 j hj1 (by omega) hj3
    · intro h3
      exact ⟨fun j h1 h2 h4 => h3 j h1 (by omega) h4, bot_le⟩

theorem win_all (Y : FVec Ideal S128x128 .f32) (r : Fin 128) : Win 64 (cmStep 32#32 (cmStep 16#32 (cmStep 8#32 (cmStep 4#32 (cmStep 2#32 (cmStep 1#32 Y)))))) Y r := by
  have h1 : Win 1 Y Y r := by
    intro l a
    constructor
    · intro h j hj1 hj2 _
      have : j = l := Fin.ext (by omega)
      exact this ▸ h
    · exact fun h => h l le_rfl (by omega) rfl
  have h2 := win_step (n := 1) (by omega) (by decide +kernel) (by intro X r l; pointwise) h1
  have h3 := win_step (n := 2) (by omega) (by decide +kernel) (by intro X r l; pointwise) h2
  have h4 := win_step (n := 4) (by omega) (by decide +kernel) (by intro X r l; pointwise) h3
  have h5 := win_step (n := 8) (by omega) (by decide +kernel) (by intro X r l; pointwise) h4
  have h6 := win_step (n := 16) (by omega) (by decide +kernel) (by intro X r l; pointwise) h5
  exact win_step (n := 32) (by omega) (by decide +kernel) (by intro X r l; pointwise) h6

theorem cm_at {Y : FVec Ideal S128x128 .f32} {r : Fin 128} {y0 y1 : Fin 64 → ℝ} (hl : ∀ t, Y (ix2 r (lo t)) = ((y0 t : ℝ) : EReal)) (hr : ∀ t, Y (ix2 r (hi t)) = ((y1 t : ℝ) : EReal)) (t : Fin 64) :
    cmStep 32#32 (cmStep 16#32 (cmStep 8#32 (cmStep 4#32 (cmStep 2#32 (cmStep 1#32 Y))))) (ix2 r (lo t)) = ((mx (fun s => if s.val ≤ t.val then y0 s else y0 0) : ℝ) : EReal)
    ∧ cmStep 32#32 (cmStep 16#32 (cmStep 8#32 (cmStep 4#32 (cmStep 2#32 (cmStep 1#32 Y))))) (ix2 r (hi t)) = ((mx (fun s => if s.val ≤ t.val then y1 s else y1 0) : ℝ) : EReal) := by
  constructor
  · refine eq_of_forall_ge_iff fun a => ?_
    rw [win_all Y r, mx_coe_le]
    constructor
    · intro h s
      split_ifs with hs
      · rw [← hl]; exact h _ hs (by show t.val < s.val + 64; omega) (by show s.val / 64 = t.val / 64; omega)
      · rw [← hl]; exact h _ (Nat.zero_le _) (by show t.val < 0 + 64; omega) (by show 0 / 64 = t.val / 64; omega)
    · intro h j hj1 hj2 hj3
      have hj1 : j.val ≤ t.val := hj1
      have := h ⟨j.val, by omega⟩
      rw [if_pos hj1, ← hl] at this
      exact this
  · refine eq_of_forall_ge_iff fun a => ?_
    rw [win_all Y r, mx_coe_le]
    constructor
    · intro h s
      split_ifs with hs
      · rw [← hr]; exact h _ (by show s.val + 64 ≤ t.val + 64; omega) (by show t.val + 64 < s.val + 64 + 64; omega) (by show (s.val + 64) / 64 = (t.val + 64) / 64; omega)
      · rw [← hr]; exact h _ (by show 0 + 64 ≤ t.val + 64; omega) (by show t.val + 64 < 0 + 64 + 64; omega) (by show (0 + 64) / 64 = (t.val + 64) / 64; omega)
    · intro h j hj1 hj2 hj3
      have hj1 : j.val ≤ t.val + 64 := hj1
      have hj3 : j.val / 64 = (t.val + 64) / 64 := hj3
      have := h ⟨j.val - 64, by omega⟩
      rw [if_pos (by show j.val - 64 ≤ t.val; omega), ← hr] at this
      have e : hi ⟨j.val - 64, by omega⟩ = j := Fin.ext (by show j.val - 64 + 64 = j.val; omega)
      rw [e] at this
      exact this

end Cert.Val.Prep
-- ==== Proof.Val.ComRe.lean ====
/-
  What the preparation computes for all pairs at once is what a head's real numbers say.
-/
module
public import proofs.«01_k».proof.Proof.Val.ComVal
import all proofs.«01_k».proof.Proof.Gen.KernelIdeal.Skeleton
@[expose] public section
set_option maxRecDepth 16384
set_option maxHeartbeats 4000000
noncomputable section
namespace Cert.Val.Prep
open Idealize.ShloMosaic Cert.KernelIdeal Cert.KernelIdeal.Gen Idealize.ShloMosaic.Tactic

theorem cm_com (I F : Fin 8 → Vec Ideal S16x128 .f32) (qs ks vs : Fin 16 → Vec Ideal S16x1 .f32) :
    (comOf I F qs ks vs).cm = cmStep 32#32 (cmStep 16#32 (cmStep 8#32 (cmStep 4#32 (cmStep 2#32 (cmStep 1#32 (comOf I F qs ks vs).y))))) := by sl_kernel_rfl

theorem cm_re {C Y : FVec Ideal S128x128 .f32} (e : C = cmStep 32#32 (cmStep 16#32 (cmStep 8#32 (cmStep 4#32 (cmStep 2#32 (cmStep 1#32 Y)))))) {p : Fin 8}
    {y0 y1 : Fin 16 → Fin 64 → ℝ} (hl : ∀ h t, Y (ix2 (rw16 p h) (lo t)) = ((y0 h t : ℝ) : EReal)) (hr : ∀ h t, Y (ix2 (rw16 p h) (hi t)) = ((y1 h t : ℝ) : EReal)) :
    RW (tile C p) (fun h t => mx (fun s => if s.val ≤ t.val then y0 h s else y0 h 0)) (fun h t => mx (fun s => if s.val ≤ t.val then y1 h s else y1 h 0)) := by
  subst e
  exact ⟨fun h t => (tile_at _ p h _).trans (cm_at (hl h) (hr h) t).1, fun h t => (tile_at _ p h _).trans (cm_at (hl h) (hr h) t).2⟩

theorem a0_com (I F : Fin 8 → Vec Ideal S16x128 .f32) (qs ks vs : Fin 16 → Vec Ideal S16x1 .f32) :
    (comOf I F qs ks vs).a0 = k0_pay15 k0_pay1 (k0_pay4 (k0_pay3 (F 0) (F 1) (F 2) (F 3) (F 4) (F 5) (F 6) (F 7)) (FloatOps.ofBits .f32 0#32)) (k0_pay5 (I 0) (I 1) (I 2) (I 3) (I 4) (I 5) (I 6) (I 7)) k0_pay6 (k0_pay7 (k0_pay3 (F 0) (F 1) (F 2) (F 3) (F 4) (F 5) (F 6) (F 7)) (FloatOps.ofBits .f32 0#32)) (k0_pay9 (k0_pay3 (F 0) (F 1) (F 2) (F 3) (F 4) (F 5) (F 6) (F 7)) (FloatOps.ofBits .f32 0#32)) (k0_pay10 (k0_pay3 (F 0) (F 1) (F 2) (F 3) (F 4) (F 5) (F 6) (F 7)) (FloatOps.ofBits .f32 0#32)) := by sl_kernel_rfl
theorem a1_com (I F : Fin 8 → Vec Ideal S16x128 .f32) (qs ks vs : Fin 16 → Vec Ideal S16x1 .f32) :
    (comOf I F qs ks vs).a1 = k0_pay16 k0_pay1 (k0_pay4 (k0_pay3 (F 0) (F 1) (F 2) (F 3) (F 4) (F 5) (F 6) (F 7)) (FloatOps.ofBits .f32 0#32)) (k0_pay5 (I 0) (I 1) (I 2) (I 3) (I 4) (I 5) (I 6) (I 7)) k0_pay6 (k0_pay7 (k0_pay3 (F 0) (F 1) (F 2) (F 3) (F 4) (F 5) (F 6) (F 7)) (FloatOps.ofBits .f32 0#32)) (k0_pay9 (k0_pay3 (F 0) (F 1) (F 2) (F 3) (F 4) (F 5) (F 6) (F 7)) (FloatOps.ofBits .f32 0#32)) (k0_pay10 (k0_pay3 (F 0) (F 1) (F 2) (F 3) (F 4) (F 5) (F 6) (F 7)) (FloatOps.ofBits .f32 0#32)) := by sl_kernel_rfl

theorem col_re {C : FVec Ideal S128x1 .f32} {p : Fin 8} {a : Fin 16 → ℝ} (e : ∀ h, C (ix2 (rw16 p h) 0) = ((a h : ℝ) : EReal)) :
    RW (col C p) (fun h _ => a h) (fun h _ => a h) :=
  ⟨fun h t => (col_at _ p h _).trans (e h), fun h t => (col_at _ p h _).trans (e h)⟩

theorem tile_re {C : FVec Ideal S128x128 .f32} {p : Fin 8} {y0 y1 : Fin 16 → Fin 64 → ℝ} (hl : ∀ h t, C (ix2 (rw16 p h) (lo t)) = ((y0 h t : ℝ) : EReal))
    (hr : ∀ h t, C (ix2 (rw16 p h) (hi t)) = ((y1 h t : ℝ) : EReal)) : RW (tile C p) y0 y1 :=
  ⟨fun h t => (tile_at _ p h _).trans (hl h t), fun h t => (tile_at _ p h _).trans (hr h t)⟩

/-- What the preparation computes for all pairs, of gates and scales that are real numbers. -/
theorem com_re (I F : Fin 8 → Vec Ideal S16x128 .f32) (qs ks vs : Fin 16 → Vec Ideal S16x1 .f32) (D : Fin 16 → Hd)
    (hI : ∀ p, RW (I p) (fun h => (D h).ig (2 * p.val)) (fun h => (D h).ig (2 * p.val + 1)))
    (hF : ∀ p, RW (F p) (fun h => (D h).f (2 * p.val)) (fun h => (D h).f (2 * p.val + 1)))
    (hq : ∀ j h, qs j (ix2 h 0) = (((D h).qs j.val : ℝ) : EReal)) (hk : ∀ j h, ks j (ix2 h 0) = (((D h).ks j.val : ℝ) : EReal))
    (hv : ∀ j h, vs j (ix2 h 0) = (((D h).vs j.val : ℝ) : EReal)) : ComRe (comOf I F qs ks vs) D := by
  have fl : ∀ p h t, _ := fun p h t => lf_at F p h (lo t) ((hF p).l h t)
  have fr : ∀ p h t, _ := fun p h t => lf_at F p h (hi t) ((hF p).r h t)
  have gl : ∀ p h t, _ := fun p h t => (ig_at I p h (lo t)).trans ((hI p).l h t)
  have gr : ∀ p h t, _ := fun p h t => (ig_at I p h (hi t)).trans ((hI p).r h t)
  have hb : ∀ p h, _ := fun p h => bl_at (fl p h) (fr p h)
  have ha : ∀ p h, _ := fun p h => a_at (fl p h) (fr p h) (gl p h) (gr p h)
  have hy : ∀ p h t, _ := fun p h t => y_at (fl p h) (fr p h) (gl p h) (gr p h) t
  have e0 : ∀ p h, (comOf I F qs ks vs).a0 (ix2 (rw16 p h) 0) = (((D h).ak (2 * p.val) : ℝ) : EReal) := fun p h => (congrFun (a0_com I F qs ks vs) _).trans (ha p h).1
  have e1 : ∀ p h, (comOf I F qs ks vs).a1 (ix2 (rw16 p h) 0) = (((D h).ak (2 * p.val + 1) : ℝ) : EReal) := fun p h => (congrFun (a1_com I F qs ks vs) _).trans (ha p h).2
  constructor
  · exact fun p => col_re fun h => (hb p h).1
  · exact fun p => col_re fun h => (hb p h).2
  · exact fun p => col_re (e0 p)
  · exact fun p => col_re (e1 p)
  · exact fun p => tile_re (fun h t => (b_at (fl p h) (fr p h) t).1) (fun h t => (b_at (fl p h) (fr p h) t).2)
  · exact fun p => tile_re (fun h t => (hy p h t).1) (fun h t => (hy p h t).2)
  · exact fun p => cm_re (cm_com I F qs ks vs) (fun h t => (hy p h t).1) (fun h t => (hy p h t).2)
  · exact fun p => tile_re (fun h t => (w_at (fl p h) (fr p h) (gl p h) (gr p h) t).1) (fun h t => (w_at (fl p h) (fr p h) (gl p h) (gr p h) t).2)
  · exact fun j => ⟨fun h t => (full_at _ h _).trans (hq j h), fun h t => (full_at _ h _).trans (hq j h)⟩
  · exact fun j => ⟨fun h t => (full_at _ h _).trans (hk j h), fun h t => (full_at _ h _).trans (hk j h)⟩
  · exact fun j => ⟨fun h t => (full_at _ h _).trans (hv j h), fun h t => (full_at _ h _).trans (hv j h)⟩
end Cert.Val.Prep
-- ==== Proof.Val.Heads.lean ====
/-
  A head's real numbers, read off the arrays the kernel and the reference are given.
-/
module
public import proofs.«01_k».proof.Proof.Val.Model
@[expose] public section
noncomputable section
namespace Cert.Val
open Idealize.ShloMosaic

/-- Position `t` of chunk `n`, and the column of chunk `n`. -/
def pos (n : ℕ) (t : Fin 64) : Fin 1024 := ⟨(64 * n + t.val) % 1024, Nat.mod_lt _ (by omega)⟩
def chk (n : ℕ) : Fin 16 := ⟨n % 16, Nat.mod_lt _ (by omega)⟩

theorem pos_val (n : Fin 16) (t : Fin 64) : (pos n.val t).val = 64 * n.val + t.val := Nat.mod_eq_of_lt (by omega)
theorem chk_val (n : Fin 16) : chk n.val = n := Fin.ext (Nat.mod_eq_of_lt n.isLt)

/-- An index of three, and of two, coordinates is made of them. -/
theorem ix3_of {a b c : ℕ} (i : (⟨3, ![a, b, c]⟩ : Shape).Idx) : i = ix3 (i 0) (i 1) (i 2) := by
  funext k; fin_cases k <;> rfl

/-- The eight arrays: queries, keys, values, their scales a chunk, and the two gates before their activations. -/
structure Arrs where
  q : (⟨3, ![16, 1024, 256]⟩ : Shape).Idx → EReal
  k : (⟨3, ![16, 1024, 256]⟩ : Shape).Idx → EReal
  v : (⟨3, ![16, 1024, 512]⟩ : Shape).Idx → EReal
  qs : (⟨2, ![16, 16]⟩ : Shape).Idx → EReal
  ks : (⟨2, ![16, 16]⟩ : Shape).Idx → EReal
  vs : (⟨2, ![16, 16]⟩ : Shape).Idx → EReal
  ig : (⟨2, ![16, 1024]⟩ : Shape).Idx → EReal
  f : (⟨2, ![16, 1024]⟩ : Shape).Idx → EReal

/-- Every element of an array is a real number. -/
def IsR {s : Shape} (X : s.Idx → EReal) : Prop := ∀ i, X i = (((X i).toReal : ℝ) : EReal)

/-- Every element of the eight arrays is a real number. -/
structure Arrs.Real (A : Arrs) : Prop where
  q : IsR A.q
  k : IsR A.k
  v : IsR A.v
  qs : IsR A.qs
  ks : IsR A.ks
  vs : IsR A.vs
  ig : IsR A.ig
  f : IsR A.f

/-- Head `h` of the arrays. -/
def Arrs.hd (A : Arrs) (h : Fin 16) : Hd where
  q n t d := (A.q (ix3 h (pos n t) d)).toReal
  k n t d := (A.k (ix3 h (pos n t) d)).toReal
  v n t d := (A.v (ix3 h (pos n t) d)).toReal
  qs n := (A.qs (ix2 h (chk n))).toReal
  ks n := (A.ks (ix2 h (chk n))).toReal
  vs n := (A.vs (ix2 h (chk n))).toReal
  ig n t := (A.ig (ix2 h (pos n t))).toReal
  f n t := (A.f (ix2 h (pos n t))).toReal

/-- What both programs leave: the outputs of the chunks in sequence order, and the state after the last. -/
def Arrs.h (A : Arrs) : (⟨3, ![16, 1024, 512]⟩ : Shape).Idx → EReal := fun i =>
  (((A.hd (i 0)).out ((i 1).val / 64) ⟨(i 1).val % 64, Nat.mod_lt _ (by omega)⟩ (i 2) : ℝ) : EReal)
def Arrs.C (A : Arrs) : (⟨3, ![16, 256, 512]⟩ : Shape).Idx → EReal := fun i => (((A.hd (i 0)).S 16 (i 1) (i 2) : ℝ) : EReal)

end Cert.Val
-- ==== Proof.Val.HostVal.lean ====
/-
  The arrays the kernel and the reference read: the arguments through the host's casts and reshapes, and finite by the precondition.
-/
module
public import proofs.«01_k».proof.Proof.Val.Heads
public import proofs.«01_k».proof.Proof.KI.Runs
public import proofs.«01_k».proof.Proof.Gen.ReferenceIdeal.Frame
@[expose] public section
set_option maxRecDepth 16384
noncomputable section
namespace Cert.Val
open Idealize.ShloMosaic Idealize.ShloMosaic.TcCoe

/-- The eight arrays of eight arguments: each one's leading two axes as one. -/
def arrs (a0 a1 : (⟨4, ![2, 8, 1024, 256]⟩ : Shape).Idx → EReal) (a2 : (⟨4, ![2, 8, 1024, 512]⟩ : Shape).Idx → EReal)
    (a3 a4 a5 : (⟨3, ![2, 8, 16]⟩ : Shape).Idx → EReal) (a6 a7 : (⟨3, ![2, 8, 1024]⟩ : Shape).Idx → EReal) : Arrs where
  q := shapeCast ⟨3, ![16, 1024, 256]⟩ a0 (by decide)
  k := shapeCast ⟨3, ![16, 1024, 256]⟩ a1 (by decide)
  v := shapeCast ⟨3, ![16, 1024, 512]⟩ a2 (by decide)
  qs := shapeCast ⟨2, ![16, 16]⟩ a3 (by decide)
  ks := shapeCast ⟨2, ![16, 16]⟩ a4 (by decide)
  vs := shapeCast ⟨2, ![16, 16]⟩ a5 (by decide)
  ig := shapeCast ⟨2, ![16, 1024]⟩ a6 (by decide)
  f := shapeCast ⟨2, ![16, 1024]⟩ a7 (by decide)

section
open Cert.KernelIdeal Cert.KernelIdeal.Gen
variable (m : (ℓ : Loc nD τ sig) → Buf (Elt Ideal) ℓ) (c : Dev nD)

def arrsK : Arrs := arrs (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

theorem vK0 : V (F := Ideal) m c main_v3 = (arrsK m c).q := by rfl
theorem vK1 : V (F := Ideal) m c main_v4 = (arrsK m c).k := by rfl
theorem vK2 : V (F := Ideal) m c main_v5 = (arrsK m c).v := by rfl
theorem vK3 : V (F := Ideal) m c main_v6 = (arrsK m c).ig := by rfl
theorem vK4 : V (F := Ideal) m c main_v7 = (arrsK m c).f := by rfl
theorem vK5 : V (F := Ideal) m c main_v8 = (arrsK m c).qs := by rfl
theorem vK6 : V (F := Ideal) m c main_v9 = (arrsK m c).ks := by rfl
theorem vK7 : V (F := Ideal) m c main_v10 = (arrsK m c).vs := by rfl

/-- The head of grid point `t`. -/
def hdOf (t : Fin cfg0.N) : Fin 16 := ⟨t.val, lt_of_lt_of_eq t.isLt N_0⟩

theorem idxK : ∀ t : Fin cfg0.N, (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, _)
theorem idxW : ∀ t : Fin cfg0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0) :=
  (by decide +kernel : ∀ t : Fin grid0.N, _)

theorem blkK0 (t : Fin cfg0.N) (s : Fin 1024) (d : Fin 256) : iblk (F := Ideal) m c 0 t (ix3 0 s d) = (arrsK m c).q (ix3 (hdOf t) s d) := by
  obtain ⟨h0, h1, h2⟩ := (idxK t).1
  rw [← vK0]
  refine congrArg (V (F := Ideal) m c main_v3) (funext fun a => Fin.ext ?_)
  match a with
  | ⟨0, _⟩ => show win0_0.index t 0 * 1 + 1 * 0 = t.val; rw [h0]; omega
  | ⟨1, _⟩ => show win0_0.index t 1 * 1024 + 1 * s.val = s.val; rw [h1]; omega
  | ⟨2, _⟩ => show win0_0.index t 2 * 256 + 1 * d.val = d.val; rw [h2]; omega
theorem blkK1 (t : Fin cfg0.N) (s : Fin 1024) (d : Fin 256) : iblk (F := Ideal) m c 1 t (ix3 0 s d) = (arrsK m c).k (ix3 (hdOf t) s d) := by
  obtain ⟨h0, h1, h2⟩ := (idxK t).2.1
  rw [← vK1]
  refine congrArg (V (F := Ideal) m c main_v4) (funext fun a => Fin.ext ?_)
  match a with
  | ⟨0, _⟩ => show win0_1.index t 0 * 1 + 1 * 0 = t.val; rw [h0]; omega
  | ⟨1, _⟩ => show win0_1.index t 1 * 1024 + 1 * s.val = s.val; rw [h1]; omega
  | ⟨2, _⟩ => show win0_1.index t 2 * 256 + 1 * d.val = d.val; rw [h2]; omega
theorem blkK2 (t : Fin cfg0.N) (s : Fin 1024) (d : Fin 512) : iblk (F := Ideal) m c 2 t (ix3 0 s d) = (arrsK m c).v (ix3 (hdOf t) s d) := by
  obtain ⟨h0, h1, h2⟩ := (idxK t).2.2
  rw [← vK2]
  refine congrArg (V (F := Ideal) m c main_v5) (funext fun a => Fin.ext ?_)
  match a with
  | ⟨0, _⟩ => show win0_2.index t 0 * 1 + 1 * 0 = t.val; rw [h0]; omega
  | ⟨1, _⟩ => show win0_2.index t 1 * 1024 + 1 * s.val = s.val; rw [h1]; omega
  | ⟨2, _⟩ => show win0_2.index t 2 * 512 + 1 * d.val = d.val; rw [h2]; omega
theorem blkK3 (t : Fin cfg0.N) : iblk (F := Ideal) m c 3 t = (arrsK m c).ig := by
  obtain ⟨h0, h1⟩ := (idxW t).1
  rw [← vK3]
  funext y
  refine congrArg (V (F := Ideal) m c main_v6) (funext fun a => Fin.ext ?_)
  match a with
  | ⟨0, _⟩ => show win0_3.index t 0 * 16 + 1 * (y 0).val = (y 0).val; rw [h0]; omega
  | ⟨1, _⟩ => show win0_3.index t 1 * 1024 + 1 * (y 1).val = (y 1).val; rw [h1]; omega
theorem blkK4 (t : Fin cfg0.N) : iblk (F := Ideal) m c 4 t = (arrsK m c).f := by
  obtain ⟨h0, h1⟩ := (idxW t).2.1
  rw [← vK4]
  funext y
  refine congrArg (V (F := Ideal) m c main_v7) (funext fun a => Fin.ext ?_)
  match a with
  | ⟨0, _⟩ => show win0_4.index t 0 * 16 + 1 * (y 0).val = (y 0).val; rw [h0]; omega
  | ⟨1, _⟩ => show win0_4.index t 1 * 1024 + 1 * (y 1).val = (y 1).val; rw [h1]; omega
theorem blkK5 (t : Fin cfg0.N) : iblk (F := Ideal) m c 5 t = (arrsK m c).qs := by
  obtain ⟨h0, h1⟩ := (idxW t).2.2.1
  rw [← vK5]
  funext y
  refine congrArg (V (F := Ideal) m c main_v8) (funext fun a => Fin.ext ?_)
  match a with
  | ⟨0, _⟩ => show win0_5.index t 0 * 16 + 1 * (y 0).val = (y 0).val; rw [h0]; omega
  | ⟨1, _⟩ => show win0_5.index t 1 * 16 + 1 * (y 1).val = (y 1).val; rw [h1]; omega
theorem blkK6 (t : Fin cfg0.N) : iblk (F := Ideal) m c 6 t = (arrsK m c).ks := by
  obtain ⟨h0, h1⟩ := (idxW t).2.2.2.1
  rw [← vK6]
  funext y
  refine congrArg (V (F := Ideal) m c main_v9) (funext fun a => Fin.ext ?_)
  match a with
  | ⟨0, _⟩ => show win0_6.index t 0 * 16 + 1 * (y 0).val = (y 0).val; rw [h0]; omega
  | ⟨1, _⟩ => show win0_6.index t 1 * 16 + 1 * (y 1).val = (y 1).val; rw [h1]; omega
theorem blkK7 (t : Fin cfg0.N) : iblk (F := Ideal) m c 7 t = (arrsK m c).vs := by
  obtain ⟨h0, h1⟩ := (idxW t).2.2.2.2
  rw [← vK7]
  funext y
  refine congrArg (V (F := Ideal) m c main_v10) (funext fun a => Fin.ext ?_)
  match a with
  | ⟨0, _⟩ => show win0_7.index t 0 * 16 + 1 * (y 0).val = (y 0).val; rw [h0]; omega
  | ⟨1, _⟩ => show win0_7.index t 1 * 16 + 1 * (y 1).val = (y 1).val; rw [h1]; omega
end

section
open Cert.ReferenceIdeal Cert.ReferenceIdeal.Gen
variable (m : (ℓ : Loc nD τ sig) → Buf (Elt Ideal) ℓ) (c : Dev nD)

def arrsR : Arrs := arrs (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

theorem vR0 : V (F := Ideal) m c main_v3 = (arrsR m c).q := by rfl
theorem blkR0 (t : Fin cfg0.N) : iblk (F := Ideal) m c 0 t = (arrsR m c).q := by
  rw [← vR0]
  funext y
  refine congrArg (V (F := Ideal) m c main_v3) (funext fun a => Fin.ext ?_)
  match a with
  | ⟨0, _⟩ => show 0 * _ + 1 * (y 0).val = (y 0).val; omega
  | ⟨1, _⟩ => show 0 * _ + 1 * (y 1).val = (y 1).val; omega
  | ⟨2, _⟩ => show 0 * _ + 1 * (y 2).val = (y 2).val; omega
theorem vR1 : V (F := Ideal) m c main_v4 = (arrsR m c).k := by rfl
theorem blkR1 (t : Fin cfg0.N) : iblk (F := Ideal) m c 1 t = (arrsR m c).k := by
  rw [← vR1]
  funext y
  refine congrArg (V (F := Ideal) m c main_v4) (funext fun a => Fin.ext ?_)
  match a with
  | ⟨0, _⟩ => show 0 * _ + 1 * (y 0).val = (y 0).val; omega
  | ⟨1, _⟩ => show 0 * _ + 1 * (y 1).val = (y 1).val; omega
  | ⟨2, _⟩ => show 0 * _ + 1 * (y 2).val = (y 2).val; omega
theorem vR2 : V (F := Ideal) m c main_v5 = (arrsR m c).v := by rfl
theorem blkR2 (t : Fin cfg0.N) : iblk (F := Ideal) m c 2 t = (arrsR m c).v := by
  rw [← vR2]
  funext y
  refine congrArg (V (F := Ideal) m c main_v5) (funext fun a => Fin.ext ?_)
  match a with
  | ⟨0, _⟩ => show 0 * _ + 1 * (y 0).val = (y 0).val; omega
  | ⟨1, _⟩ => show 0 * _ + 1 * (y 1).val = (y 1).val; omega
  | ⟨2, _⟩ => show 0 * _ + 1 * (y 2).val = (y 2).val; omega
theorem vR3 : V (F := Ideal) m c main_v6 = (arrsR m c).qs := by rfl
theorem blkR3 (t : Fin cfg0.N) : iblk (F := Ideal) m c 3 t = (arrsR m c).qs := by
  rw [← vR3]
  funext y
  refine congrArg (V (F := Ideal) m c main_v6) (funext fun a => Fin.ext ?_)
  match a with
  | ⟨0, _⟩ => show 0 * _ + 1 * (y 0).val = (y 0).val; omega
  | ⟨1, _⟩ => show 0 * _ + 1 * (y 1).val = (y 1).val; omega
theorem vR4 : V (F := Ideal) m c main_v7 = (arrsR m c).ks := by rfl
theorem blkR4 (t : Fin cfg0.N) : iblk (F := Ideal) m c 4 t = (arrsR m c).ks := by
  rw [← vR4]
  funext y
  refine congrArg (V (F := Ideal) m c main_v7) (funext fun a => Fin.ext ?_)
  match a with
  | ⟨0, _⟩ => show 0 * _ + 1 * (y 0).val = (y 0).val; omega
  | ⟨1, _⟩ => show 0 * _ + 1 * (y 1).val = (y 1).val; omega
theorem vR5 : V (F := Ideal) m c main_v8 = (arrsR m c).vs := by rfl
theorem blkR5 (t : Fin cfg0.N) : iblk (F := Ideal) m c 5 t = (arrsR m c).vs := by
  rw [← vR5]
  funext y
  refine congrArg (V (F := Ideal) m c main_v8) (funext fun a => Fin.ext ?_)
  match a with
  | ⟨0, _⟩ => show 0 * _ + 1 * (y 0).val = (y 0).val; omega
  | ⟨1, _⟩ => show 0 * _ + 1 * (y 1).val = (y 1).val; omega
theorem vR6 : V (F := Ideal) m c main_v9 = (arrsR m c).ig := by rfl
theorem blkR6 (t : Fin cfg0.N) : iblk (F := Ideal) m c 6 t = (arrsR m c).ig := by
  rw [← vR6]
  funext y
  refine congrArg (V (F := Ideal) m c main_v9) (funext fun a => Fin.ext ?_)
  match a with
  | ⟨0, _⟩ => show 0 * _ + 1 * (y 0).val = (y 0).val; omega
  | ⟨1, _⟩ => show 0 * _ + 1 * (y 1).val = (y 1).val; omega
theorem vR7 : V (F := Ideal) m c main_v10 = (arrsR m c).f := by rfl
theorem blkR7 (t : Fin cfg0.N) : iblk (F := Ideal) m c 7 t = (arrsR m c).f := by
  rw [← vR7]
  funext y
  refine congrArg (V (F := Ideal) m c main_v10) (funext fun a => Fin.ext ?_)
  match a with
  | ⟨0, _⟩ => show 0 * _ + 1 * (y 0).val = (y 0).val; omega
  | ⟨1, _⟩ => show 0 * _ + 1 * (y 1).val = (y 1).val; omega
end
end Cert.Val
-- ==== Proof.Val.KerOut.lean ====
/-
  What the kernel leaves after each grid point: the head's outputs and state, and the prepared rows for the points to come.
-/
module
public import proofs.«01_k».proof.Proof.Val.QreVal
public import proofs.«01_k».proof.Proof.Val.RowVal
public import proofs.«01_k».proof.Proof.Val.ComRe
public import proofs.«01_k».proof.Proof.Val.HostVal
import all proofs.«01_k».proof.Proof.KI.Frame
import all proofs.«01_k».proof.Proof.KI.RunA
import all proofs.«01_k».proof.Proof.KI.RunB
import all proofs.«01_k».proof.Proof.Gen.KernelIdeal.Skeleton
@[expose] public section
set_option maxRecDepth 65536
set_option maxHeartbeats 4000000
noncomputable section
namespace Cert.Val
open Idealize.ShloMosaic Cert.KernelIdeal Cert.KernelIdeal.Gen Cert.Val.Prep
open Idealize.ShloMosaic.TcCoe Idealize.ShloMosaic.Tactic

theorem rc_at {X : W} {a : Fin 16 → ℝ} (hX : RW X (fun h _ => a h) (fun h _ => a h)) (h : Fin 16) (l : Fin 128) : X (ix2 h l) = ((a h : ℝ) : EReal) := by
  have := hf_of (f := fun l => X (ix2 h l)) (hX.l h) (hX.r h) l
  rw [hf_self] at this
  exact this

/-- The blocks of a head's arrays, of the gates and of the scales, as real numbers. -/
theorem rdK_re {X : (⟨3, ![16, 1024, 256]⟩ : Shape).Idx → EReal} (hX : IsR X) {arg : Memref sig .tc .vmem S1x1024x256 .fp8e4m3} (ha : arg.IsWhole) {x : Vec Ideal S1x1024x256 .fp8e4m3}
    {h : Fin 16} (hx : ∀ s d, x (ix3 0 s d) = X (ix3 h s d)) (j : Fin 16) : Re3 (rdK ha x j) (fun t d => (X (ix3 h (pos j.val t) d)).toReal) := by
  intro t d
  unfold rdK
  rw [View.readAt_eq_ld, ha.read_unread]
  refine (View.ld_unit_apply_of (Val := Elt Ideal) (e := .fp8e4m3) x ![0, 64 * j.val, 0] S1x64x256.size (inbK j) (ix3 0 t d) (ix3 0 (pos j.val t) d) ?_).trans ((hx _ _).trans (hX _))
  intro a
  fin_cases a
  · rfl
  · exact pos_val j t
  · exact (Nat.zero_add _).symm
theorem rdV_re {X : (⟨3, ![16, 1024, 512]⟩ : Shape).Idx → EReal} (hX : IsR X) {arg : Memref sig .tc .vmem S1x1024x512 .fp8e4m3} (ha : arg.IsWhole) {x : Vec Ideal S1x1024x512 .fp8e4m3}
    {h : Fin 16} (hx : ∀ s d, x (ix3 0 s d) = X (ix3 h s d)) (j : Fin 16) : Re3 (rdV ha x j) (fun t d => (X (ix3 h (pos j.val t) d)).toReal) := by
  intro t d
  unfold rdV
  rw [View.readAt_eq_ld, ha.read_unread]
  refine (View.ld_unit_apply_of (Val := Elt Ideal) (e := .fp8e4m3) x ![0, 64 * j.val, 0] S1x64x512.size (inbV j) (ix3 0 t d) (ix3 0 (pos j.val t) d) ?_).trans ((hx _ _).trans (hX _))
  intro a
  fin_cases a
  · rfl
  · exact pos_val j t
  · exact (Nat.zero_add _).symm
theorem rdG_at {arg : Memref sig .tc .vmem S16x1024 .f32} (ha : arg.IsWhole) (x : Vec Ideal S16x1024 .f32) (j : Fin 8) (h : Fin 16) (l : Fin 128) (s : Fin 1024) (hs : s.val = 128 * j.val + l.val) :
    rdG ha x j (ix2 h l) = x (ix2 h s) := by
  unfold rdG
  rw [View.readAt_eq_ld, ha.read_unread]
  refine View.ld_unit_apply_of (Val := Elt Ideal) (e := .f32) x ![0, 128 * j.val] S16x128.size (inbG j) (ix2 h l) (ix2 h s) ?_
  intro a
  fin_cases a
  · exact (Nat.zero_add _).symm
  · exact hs
theorem rdG_re {X : Vec Ideal S16x1024 .f32} (hX : IsR X) {arg : Memref sig .tc .vmem S16x1024 .f32} (ha : arg.IsWhole) (p : Fin 8) :
    RW (rdG ha X p) (fun h t => (X (ix2 h (pos (2 * p.val) t))).toReal) (fun h t => (X (ix2 h (pos (2 * p.val + 1) t))).toReal) :=
  ⟨fun h t => (rdG_at ha X p h (lo t) _ (by show (64 * (2 * p.val) + t.val) % 1024 = 128 * p.val + t.val; omega)).trans (hX _),
    fun h t => (rdG_at ha X p h (hi t) _ (by show (64 * (2 * p.val + 1) + t.val) % 1024 = 128 * p.val + (t.val + 64); omega)).trans (hX _)⟩
theorem rdS_re {X : Vec Ideal S16x16 .f32} (hX : IsR X) {arg : Memref sig .tc .vmem S16x16 .f32} (ha : arg.IsWhole) (j h : Fin 16) :
    rdS ha X j (ix2 h 0) = (((X (ix2 h (chk j.val))).toReal : ℝ) : EReal) := by
  rw [chk_val, ← hX]
  unfold rdS
  rw [View.readAt_eq_ld, ha.read_unread]
  refine View.ld_unit_apply_of (Val := Elt Ideal) (e := .f32) X ![0, j.val] S16x1.size (inbS j) (ix2 h 0) (ix2 h j) ?_
  intro a
  fin_cases a
  · exact (Nat.zero_add _).symm
  · rfl

/-- The outputs stored are the head's, in sequence order. -/
theorem h_at {A : Arrs} {h : Fin 16} {x : Fin 4 → QIn} (hx : ∀ u : Fin 4, QRe (x u) (A.hd h) u.val) (s : Fin 1024) (e : Fin 512) :
    View.canon (hPieces (hAll x)) (ix3 0 s e) = A.h (ix3 h s e) := by
  have key : ∀ (n : ℕ) (t : Fin 64), n = s.val / 64 → t.val = s.val % 64 → (((A.hd h).out n t e : ℝ) : EReal) = A.h (ix3 h s e) := by
    rintro n t rfl ht
    have : t = ⟨s.val % 64, Nat.mod_lt _ (by omega)⟩ := Fin.ext ht
    rw [this]
    rfl
  have hs := s.isLt
  rw [canon_h (hAll x) ⟨s.val / 128, by omega⟩ ⟨s.val % 128, by omega⟩ s (by show s.val = 128 * (s.val / 128) + s.val % 128; omega) e]
  by_cases hj : s.val % 128 < 64
  · have el : (⟨s.val % 128, by omega⟩ : Fin 128) = lo ⟨s.val % 128, hj⟩ := Fin.ext rfl
    rw [el, (hAll_at hx _ _ e).1]
    exact key _ _ (by show 2 * (s.val / 128) = _; omega) (by show s.val % 128 = _; omega)
  · have el : (⟨s.val % 128, by omega⟩ : Fin 128) = hi ⟨s.val % 128 - 64, by omega⟩ := Fin.ext (by show s.val % 128 = s.val % 128 - 64 + 64; omega)
    rw [el, (hAll_at hx _ _ e).2]
    exact key _ _ (by show 2 * (s.val / 128) + 1 = _; omega) (by show s.val % 128 - 64 = _; omega)

theorem rows_cover (c : Com) (y : S132x16x128.Idx) : ∃ p ∈ rowPieces c, y ∈ p.1.set := by
  have h0 : (y 0).val < 132 := (y 0).isLt
  refine ⟨_, rowPieces_mem.2 ⟨⟨(y 0).val / 33, by omega⟩, ⟨(y 0).val % 33, by omega⟩, rfl⟩, ?_⟩
  have := row_cover c ⟨(y 0).val / 33, by omega⟩ ⟨(y 0).val % 33, by omega⟩ (y 1) (y 2)
  have e : y = ix3 (rr ⟨(y 0).val / 33, by omega⟩ ⟨(y 0).val % 33, by omega⟩) (y 1) (y 2) := by
    funext a
    fin_cases a
    · exact Fin.ext (by show (y 0).val = 33 * ((y 0).val / 33) + (y 0).val % 33; omega)
    · rfl
    · rfl
  exact Eq.mpr (congrArg (fun z => z ∈ (rowPiece c ⟨(y 0).val / 33, by omega⟩ ⟨(y 0).val % 33, by omega⟩).1.set) e) this

/-- What a grid point leaves. -/
structure Ok (A : Arrs) (h : Fin 16) (o : Vec Ideal S1x1024x512 .bf16 × Vec Ideal S1x256x512 .f32 × Vec Ideal S132x16x128 .f32 × Vec Ideal S16x128 .f32) : Prop where
  out : ∀ s e, o.1 (ix3 0 s e) = A.h (ix3 h s e)
  last : ∀ d e, o.2.1 (ix3 0 d e) = A.C (ix3 h d e)
  rows : ∃ c, ComRe c A.hd ∧ o.2.2.1 = View.canon (rowPieces c)
  sig : ∀ h l, o.2.2.2 (ix2 h l) = (((A.hd h).sg Lg 8 : ℝ) : EReal)

theorem C_at (A : Arrs) (h : Fin 16) (d : Fin 256) (e : Fin 512) : A.C (ix3 h d e) = (((A.hd h).S 16 d e : ℝ) : EReal) := by rfl
theorem ok_of {A : Arrs} {h : Fin 16} (x : Fin 4 → QIn) (S : Vec Ideal S1x128 .f32) (hx : ∀ u : Fin 4, QRe (x u) (A.hd h) u.val) (hS : ∀ l, S (ix2 0 l) = (((A.hd h).sg Lg 8 : ℝ) : EReal))
    {o8 : Vec Ideal S1x1024x512 .bf16} {o9 : Vec Ideal S1x256x512 .f32} {o10 : Vec Ideal S132x16x128 .f32} {o11 : Vec Ideal S16x128 .f32}
    (e8 : o8 = View.canon (hPieces (hAll x))) (e9 : o9 = cFin x S (C7 x)) (hr : ∃ c, ComRe c A.hd ∧ o10 = View.canon (rowPieces c))
    (hs : ∀ h l, o11 (ix2 h l) = (((A.hd h).sg Lg 8 : ℝ) : EReal)) : Ok A h (o8, o9, o10, o11) := by
  refine ⟨fun s e => ?_, fun d e => ?_, hr, hs⟩
  · show o8 _ = _
    rw [e8]
    exact h_at hx s e
  · show o9 _ = _
    rw [e9, C_at]
    exact cFin_at (x := x) (D := A.hd h) (S := S) hx hS d e

section
variable (c : Dev nD) (i : grid0.Coords) (arg1 : Memref sig .tc .vmem S1x1024x256 .fp8e4m3) (harg1 : arg1.IsWhole) (arg2 : Memref sig .tc .vmem S1x1024x256 .fp8e4m3) (harg2 : arg2.IsWhole) (arg3 : Memref sig .tc .vmem S1x1024x512 .fp8e4m3) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S1x1024x512 .bf16) (harg9 : arg9.IsWhole) (arg10 : Memref sig .tc .vmem S1x256x512 .f32) (harg10 : arg10.IsWhole) (arg11 : Memref sig .tc .vmem S16x256 .f32) (harg11 : arg11.IsWhole) (arg12 : Memref sig .tc .vmem S2x8 .f32) (harg12 : arg12.IsWhole) (arg13 : Memref sig .tc .vmem S132x16x128 .f32) (harg13 : arg13.IsWhole) (arg14 : Memref sig .tc .vmem S16x128 .f32) (harg14 : arg14.IsWhole) (arg15 : Memref sig .tc .vmem S256x512 .f32) (harg15 : arg15.IsWhole)
  (x0 x1 : Vec Ideal S1x1024x256 .fp8e4m3) (x2 : Vec Ideal S1x1024x512 .fp8e4m3) (x3 x4 : Vec Ideal S16x1024 .f32) (x5 x6 x7 : Vec Ideal S16x16 .f32) (xs0 : Vec Ideal S132x16x128 .f32) (xs1 : Vec Ideal S16x128 .f32)

theorem hs1 : kernelRun0_A.sl.HS1_1 (F := Ideal) c arg4 harg4 arg5 harg5 arg7 harg7 arg8 harg8 x3 x4 x6 x7 = [⟨Rect.unit (s := S16x128) ![0, 0] S16x128.size inb_S16x128_S16x128_0_0, k0_pay459 (pr7 (comOf (rdG harg4 x3) (rdG harg5 x4) (rdS harg6 x5) (rdS harg7 x6) (rdS harg8 x7))).sig⟩] := by sl_kernel_rfl

variable {A : Arrs} (hA : A.Real) {h : Fin 16} (hi : (i 0).val = h.val) (hq : ∀ s d, x0 (ix3 0 s d) = A.q (ix3 h s d)) (hk : ∀ s d, x1 (ix3 0 s d) = A.k (ix3 h s d)) (hv : ∀ s d, x2 (ix3 0 s d) = A.v (ix3 h s d))
include hA hi hq hk hv

/-- The four quads, of rows that were prepared. -/
theorem quads {com : Com} (hc : ComRe com A.hd) (f : arg13.view.ty.Contents (Elt Ideal)) (hf : arg13.view.read (Elt Ideal) f = View.canon (rowPieces com)) (u : Fin 4) :
    QRe (qin (rdK harg1 x0) (rdK harg2 x1) (rdV harg3 x2) (rdR arg13 f i) u) (A.hd h) u.val :=
  qre_all hc h _ _ _ _ (fun u r l => rdR_at arg13 f com hf i h hi u r l) (rdK_re hA.q harg1 hq) (rdK_re hA.k harg2 hk) (rdV_re hA.v harg3 hv) u

theorem okA (hc0 : cond0_0 i) (e3 : x3 = A.ig) (e4 : x4 = A.f) (e5 : x5 = A.qs) (e6 : x6 = A.ks) (e7 : x7 = A.vs) :
    Ok A h (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7, out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7, sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7, sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) := by
  have hc : ComRe (comOf (rdG harg4 x3) (rdG harg5 x4) (rdS harg6 x5) (rdS harg7 x6) (rdS harg8 x7)) A.hd := by
    subst e3 e4 e5 e6 e7
    exact com_re _ _ _ _ _ A.hd (rdG_re hA.ig harg4) (rdG_re hA.f harg5) (rdS_re hA.qs harg6) (rdS_re hA.ks harg7) (rdS_re hA.vs harg8)
  have hf : arg13.view.read (Elt Ideal) (arg13.view.writes (Elt Ideal) arg13.view.junk (kernelRun0_A.sl.HS0_132 (F := Ideal) c arg4 harg4 arg5 harg5 arg6 harg6 arg7 harg7 arg8 harg8 x3 x4 x5 x6 x7)) = View.canon (rowPieces (comOf (rdG harg4 x3) (rdG harg5 x4) (rdS harg6 x5) (rdS harg7 x6) (rdS harg8 x7))) := by
    rw [hs0]
    exact View.read_writes_eq_canon _ _ _ (rows_cover _)
  have hg : arg14.view.read (Elt Ideal) (arg14.view.writes (Elt Ideal) arg14.view.junk (kernelRun0_A.sl.HS1_1 (F := Ideal) c arg4 harg4 arg5 harg5 arg7 harg7 arg8 harg8 x3 x4 x6 x7)) = (pr7 (comOf (rdG harg4 x3) (rdG harg5 x4) (rdS harg6 x5) (rdS harg7 x6) (rdS harg8 x7))).sig := by
    rw [hs1 (x5 := x5) (harg6 := harg6)]
    refine (View.read_writes_eq_canon _ _ _ ?_).trans ((View.canon_cons_unit_lit' _ _ _ (by intro a; fin_cases a <;> rfl)).trans ?_)
    · intro y
      refine ⟨_, List.mem_singleton_self _, (Rect.mem_set_unit (s := S16x128) (inb := inb_S16x128_S16x128_0_0)).2 ?_⟩
      intro a
      have h0 : (y 0).val < 16 := (y 0).isLt
      have h1 : (y 1).val < 128 := (y 1).isLt
      fin_cases a
      · exact ⟨Nat.zero_le _, by show (y 0).val < 0 + 16; omega⟩
      · exact ⟨Nat.zero_le _, by show (y 1).val < 0 + 128; omega⟩
    · unfold k0_pay459
      exact shapeCast_self _ _
  have hsig : ∀ h l, (pr7 (comOf (rdG harg4 x3) (rdG harg5 x4) (rdS harg6 x5) (rdS harg7 x6) (rdS harg8 x7))).sig (ix2 h l) = (((A.hd h).sg Lg 8 : ℝ) : EReal) := rc_at (s8 hc).sig
  have hx := quads i arg1 harg1 arg2 harg2 arg3 harg3 arg13 x0 x1 x2 hA hi hq hk hv hc _ hf
  have e8 := outA8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0
  have e9 := outA9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0
  have e10 := soutA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0
  have e11 := soutA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0
  have hS : ∀ l, (rdSig arg14 (arg14.view.writes (Elt Ideal) arg14.view.junk (kernelRun0_A.sl.HS1_1 (F := Ideal) c arg4 harg4 arg5 harg5 arg7 harg7 arg8 harg8 x3 x4 x6 x7)) i) (ix2 0 l) = (((A.hd h).sg Lg 8 : ℝ) : EReal) := fun l => (rdSig_at arg14 _ _ hg i h hi l).trans (hsig h l)
  exact ok_of (qin (rdK harg1 x0) (rdK harg2 x1) (rdV harg3 x2) (rdR arg13 (arg13.view.writes (Elt Ideal) arg13.view.junk (kernelRun0_A.sl.HS0_132 (F := Ideal) c arg4 harg4 arg5 harg5 arg6 harg6 arg7 harg7 arg8 harg8 x3 x4 x5 x6 x7)) i)) (rdSig arg14 (arg14.view.writes (Elt Ideal) arg14.view.junk (kernelRun0_A.sl.HS1_1 (F := Ideal) c arg4 harg4 arg5 harg5 arg7 harg7 arg8 harg8 x3 x4 x6 x7)) i) hx hS e8 e9 ⟨_, hc, e10⟩ (fun h l => (congrFun e11 _).trans (hsig h l))

theorem okB (hc0 : ¬cond0_0 i) (hr : ∃ c, ComRe c A.hd ∧ xs0 = View.canon (rowPieces c)) (hsig : ∀ h l, xs1 (ix2 h l) = (((A.hd h).sg Lg 8 : ℝ) : EReal)) :
    Ok A h (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1, out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1, sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1, sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1) := by
  obtain ⟨com, hc, hf⟩ := hr
  have hx := quads i arg1 harg1 arg2 harg2 arg3 harg3 arg13 x0 x1 x2 hA hi hq hk hv hc (harg13.unread xs0) ((harg13.read_unread _).trans hf)
  have e8 := outB8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 xs1 hc0
  have e9 := outB9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 xs1 hc0
  have hS : ∀ l, (rdSig arg14 (harg14.unread xs1) i) (ix2 0 l) = (((A.hd h).sg Lg 8 : ℝ) : EReal) := fun l => (rdSig_at arg14 _ _ (harg14.read_unread _) i h hi l).trans (hsig h l)
  exact ok_of (qin (rdK harg1 x0) (rdK harg2 x1) (rdV harg3 x2) (rdR arg13 (harg13.unread xs0) i)) (rdSig arg14 (harg14.unread xs1) i) hx hS e8 e9 ⟨com, hc, hf⟩ hsig
end

/-- Every grid point leaves its head. -/
theorem crd : ∀ t : Fin cfg0.N, (grid0.coords t 0).val = t.val := (by decide +kernel : ∀ t : Fin grid0.N, _)

theorem ok_at (m : (ℓ : Loc nD τ sig) → Buf (Elt Ideal) ℓ) (c : Dev nD) (hA : (arrsK m c).Real) : ∀ (n : ℕ) (hn : n < cfg0.N), Ok (arrsK m c) (hdOf ⟨n, hn⟩) (outsAt0 m c n hn)
  | 0, hn => by
    rw [outsAt0_A m c ⟨0, hn⟩ rfl]
    exact okA (hA := hA) (hi := crd _) (hq := blkK0 m c _) (hk := blkK1 m c _) (hv := blkK2 m c _) (e3 := blkK3 m c _) (e4 := blkK4 m c _) (e5 := blkK5 m c _) (e6 := blkK6 m c _) (e7 := blkK7 m c _) ..
  | n + 1, hn => by
    have ih := ok_at m c hA n (Nat.lt_of_succ_lt hn)
    have hN : n + 1 < 16 := lt_of_lt_of_eq hn N_0
    rw [outsAt0_B m c ⟨n + 1, hn⟩ (by show ¬(n + 1) % 16 = 0; omega)]
    exact okB (hA := hA) (hi := crd _) (hq := blkK0 m c _) (hk := blkK1 m c _) (hv := blkK2 m c _) (hr := ih.rows) (hsig := ih.sig) ..
end Cert.Val
-- ==== Proof.Val.RefStep.lean ====
/-
  The reference's loop: one chunk of all heads, from the state before it and the chunk's blocks.
-/
module
public import proofs.«01_k».proof.Proof.Val.ComVal
public import proofs.«01_k».proof.Proof.Gen.ReferenceIdeal.Value
public import Idealize.ShloMosaic.Lib.Pipeline.ValueKit
import all proofs.«01_k».proof.Proof.Gen.ReferenceIdeal.Skeleton
@[expose] public section
set_option maxRecDepth 65536
set_option maxHeartbeats 8000000
noncomputable section
namespace Cert.Val.Ref
open Idealize.ShloMosaic Cert.ReferenceIdeal Cert.ReferenceIdeal.Gen Idealize.ShloMosaic.Tactic

/-- The running maximum, the state and the normaliser. -/
structure RSt where
  m : FVec Ideal S16x1x1 .f32
  C : FVec Ideal S16x256x512 .f32
  n : FVec Ideal S16x1x256 .f32

/-- A chunk's blocks. -/
structure RIn where
  q : Vec Ideal S16x64x256 .fp8e4m3
  k : Vec Ideal S16x64x256 .fp8e4m3
  v : Vec Ideal S16x64x512 .fp8e4m3
  qs : Vec Ideal S16x1 .f32
  ks : Vec Ideal S16x1 .f32
  vs : Vec Ideal S16x1 .f32
  ig : Vec Ideal S16x64 .f32
  f : Vec Ideal S16x64 .f32

namespace RIn
variable (x : RIn)
def lf := k0_pay21 (k0_pay15 x.f) (k0_pay17 x.f) (k0_pay18 x.f) (k0_pay19 x.f) k0_pay20
def b := k0_pay23 k0_pay2 (k0_pay15 x.f) (k0_pay17 x.f) (k0_pay18 x.f) (k0_pay19 x.f) k0_pay20
def bL := k0_pay29 (k0_pay15 x.f) (k0_pay17 x.f) (k0_pay18 x.f) (k0_pay19 x.f) k0_pay20
def dd := k0_pay25 k0_pay2 (k0_pay15 x.f) (k0_pay17 x.f) (k0_pay18 x.f) (k0_pay19 x.f) k0_pay20 x.ig
def lw := k0_pay26 k0_pay2 (k0_pay15 x.f) (k0_pay17 x.f) (k0_pay18 x.f) (k0_pay19 x.f) k0_pay20 x.ig
def ak := k0_pay30 k0_pay2 (k0_pay15 x.f) (k0_pay17 x.f) (k0_pay18 x.f) (k0_pay19 x.f) k0_pay20 x.ig
def w := k0_pay28 k0_pay2 (k0_pay15 x.f) (k0_pay17 x.f) (k0_pay18 x.f) (k0_pay19 x.f) k0_pay20 x.ig
def mt (m : FVec Ideal S16x1x1 .f32) := k0_pay34 k0_pay2 m (k0_pay15 x.f) (k0_pay17 x.f) (k0_pay18 x.f) (k0_pay19 x.f) k0_pay20 x.ig
def gm (m : FVec Ideal S16x1x1 .f32) := k0_pay35 k0_pay2 m (k0_pay15 x.f) (k0_pay17 x.f) (k0_pay18 x.f) (k0_pay19 x.f) k0_pay20 x.ig
/-- The outputs of the chunk. -/
def out (s : RSt) : FVec Ideal S16x64x512 .bf16 :=
  k0_pay36 (k0_pay6 x.q) (k0_pay7 x.k) (k0_pay8 x.v) (k0_pay9 x.qs) (k0_pay10 x.ks) (k0_pay11 x.vs) x.dd
    (k0_pay31 s.C (k0_pay12 x.q)) (k0_pay32 s.n (k0_pay12 x.q)) (x.mt s.m) (x.gm s.m)
/-- The state after it. -/
def next (s : RSt) : RSt where
  m := k0_pay39 s.m x.bL x.ak
  C := k0_pay42 s.C s.m x.bL x.ak (k0_pay37 (k0_pay8 x.v) (k0_pay10 x.ks) (k0_pay11 x.vs) (k0_pay13 x.k) x.w)
  n := k0_pay43 s.n s.m (k0_pay10 x.ks) x.bL x.ak (k0_pay38 (k0_pay13 x.k) x.w)
end RIn

theorem inQ (n : Fin 16) : ∀ a, ![0, 64 * n.val, 0] a + S16x64x256.size a ≤ S16x1024x256.size a := by decide +revert
theorem inV (n : Fin 16) : ∀ a, ![0, 64 * n.val, 0] a + S16x64x512.size a ≤ S16x1024x512.size a := by decide +revert
theorem inS (n : Fin 16) : ∀ a, ![0, n.val] a + S16x1.size a ≤ S16x16.size a := by decide +revert
theorem inG (n : Fin 16) : ∀ a, ![0, 64 * n.val] a + S16x64.size a ≤ S16x1024.size a := by decide +revert

/-- The blocks of chunk `n`. -/
def blk (x0 x1 : Vec Ideal S16x1024x256 .fp8e4m3) (x2 : Vec Ideal S16x1024x512 .fp8e4m3) (x3 x4 x5 : Vec Ideal S16x16 .f32) (x6 x7 : Vec Ideal S16x1024 .f32) (n : Fin 16) : RIn where
  q := View.ld x0 (Rect.unit (s := S16x1024x256) ![0, 64 * n.val, 0] S16x64x256.size (inQ n))
  k := View.ld x1 (Rect.unit (s := S16x1024x256) ![0, 64 * n.val, 0] S16x64x256.size (inQ n))
  v := View.ld x2 (Rect.unit (s := S16x1024x512) ![0, 64 * n.val, 0] S16x64x512.size (inV n))
  qs := View.ld x3 (Rect.unit (s := S16x16) ![0, n.val] S16x1.size (inS n))
  ks := View.ld x4 (Rect.unit (s := S16x16) ![0, n.val] S16x1.size (inS n))
  vs := View.ld x5 (Rect.unit (s := S16x16) ![0, n.val] S16x1.size (inS n))
  ig := View.ld x6 (Rect.unit (s := S16x1024) ![0, 64 * n.val] S16x64.size (inG n))
  f := View.ld x7 (Rect.unit (s := S16x1024) ![0, 64 * n.val] S16x64.size (inG n))

/-- The state before chunk `n`. -/
def st (b : Fin 16 → RIn) : ℕ → RSt
  | 0 => ⟨k0_pay5, k0_pay3, k0_pay4⟩
  | n + 1 => (b ⟨n % 16, Nat.mod_lt _ (by omega)⟩).next (st b n)

def oPiece (b : Fin 16 → RIn) (n : Fin 16) : View.Piece (Elt Ideal) S16x1024x512 .bf16 :=
  ⟨Rect.unit (s := S16x1024x512) ![0, 64 * n.val, 0] S16x64x512.size (inV n), (b n).out (st b n.val)⟩
def oPieces (b : Fin 16 → RIn) : List (View.Piece (Elt Ideal) S16x1024x512 .bf16) :=
  [15, 14, 13, 12, 11, 10, 9, 8, 7, 6, 5, 4, 3, 2, 1, 0].map (oPiece b)

end Cert.Val.Ref
-- ==== Proof.Val.RefVal.lean ====
/-
  The reference's loop in real numbers.
-/
module
public import proofs.«01_k».proof.Proof.Val.RefStep
import all proofs.«01_k».proof.Proof.Gen.ReferenceIdeal.Skeleton
@[expose] public section
set_option maxRecDepth 16384
set_option maxHeartbeats 4000000
noncomputable section
namespace Cert.Val.Ref
open Idealize.ShloMosaic Cert.ReferenceIdeal Cert.ReferenceIdeal.Gen Idealize.ShloMosaic.Tactic Cert.Val.Prep

/-- A chunk's blocks are chunk `n` of the heads. -/
structure InR (x : RIn) (D : Fin 16 → Hd) (n : ℕ) : Prop where
  q : ∀ h t d, x.q (ix3 h t d) = (((D h).q n t d : ℝ) : EReal)
  k : ∀ h t d, x.k (ix3 h t d) = (((D h).k n t d : ℝ) : EReal)
  v : ∀ h t e, x.v (ix3 h t e) = (((D h).v n t e : ℝ) : EReal)
  qs : ∀ h, x.qs (ix2 h 0) = (((D h).qs n : ℝ) : EReal)
  ks : ∀ h, x.ks (ix2 h 0) = (((D h).ks n : ℝ) : EReal)
  vs : ∀ h, x.vs (ix2 h 0) = (((D h).vs n : ℝ) : EReal)
  ig : ∀ h t, x.ig (ix2 h t) = (((D h).ig n t : ℝ) : EReal)
  f : ∀ h t, x.f (ix2 h t) = (((D h).f n t : ℝ) : EReal)

/-- The state is the heads' state before chunk `n`. -/
structure StR (s : RSt) (D : Fin 16 → Hd) (n : ℕ) : Prop where
  m : ∀ h, s.m (ix3 h 0 0) = (((D h).m n : ℝ) : EReal)
  C : ∀ h d e, s.C (ix3 h d e) = (((D h).S n d e : ℝ) : EReal)
  n : ∀ h d, s.n (ix3 h 0 d) = (((D h).nn n d : ℝ) : EReal)

theorem causal64 : ∀ t s : Fin 64, IntOp.cmpi CmpIPredicate.sle (BitVec.ofNat 32 t.val) (BitVec.ofNat 32 s.val) = if t.val ≤ s.val then 1#1 else 0#1 := by decide +kernel
theorem sel64 {α : Type} (t s : Fin 64) (a b : α) : Scalar.select (IntOp.cmpi CmpIPredicate.sle (BitVec.ofNat 32 t.val) (BitVec.ofNat 32 s.val)) a b = if t.val ≤ s.val then a else b := by
  rw [causal64]
  split_ifs <;> rfl

theorem mx_add (a : ℝ) (f : Fin 64 → ℝ) : mx (fun t => a + f t) = a + mx f := by
  refine eq_of_forall_ge_iff fun c => ?_
  rw [mx_le, ← le_sub_iff_add_le', mx_le]
  exact forall_congr' fun t => le_sub_iff_add_le'.symm

/-- The largest of the entries up to `s`. -/
theorem fold_upto (s : Fin 64) (a : ℝ) (y : Fin 64 → ℝ) :
    Finset.univ.fold max ⊥ (fun t : Fin 64 => if t.val ≤ s.val then ((a + y t : ℝ) : EReal) else ⊥) = ((a + mx (fun t => if t.val ≤ s.val then y t else y 0) : ℝ) : EReal) := by
  refine fold_max _ _ fun c => ?_
  rw [← mx_add, mx_coe_le]
  constructor
  · intro h t
    have := h t
    split_ifs with ht
    · rw [if_pos ht] at this
      exact this
    · exact bot_le
  · intro h t
    split_ifs with ht
    · have := h t
      rw [if_pos ht] at this
      exact this
    · have := h 0
      rw [if_pos (show (0 : Fin 64).val ≤ s.val from Nat.zero_le _)] at this
      exact this

theorem sel_one_self {α : Type} (z : EReal) (a b : α) : Scalar.select (Ideal.cmp .one z z) a b = b := by
  show Scalar.select (BitVec.ofBool (decide _)) _ _ = _
  rw [sel_bool, if_neg (by simp)]
theorem sum_ite0 {n : ℕ} (p : Fin n → Prop) [DecidablePred p] (f : Fin n → ℝ) : (∑ i, if p i then (f i : EReal) else 0) = ((∑ i, if p i then f i else 0 : ℝ) : EReal) :=
  (Finset.sum_congr rfl fun i _ => ite_coe (p i) (f i) 0).trans (sum_coe _)

variable {x : RIn} {D : Fin 16 → Hd} {n : ℕ} (hx : InR x D n)
include hx
theorem lf_at (h : Fin 16) (t : Fin 64) : x.lf (ix2 h t) = (((D h).lf n t : ℝ) : EReal) := by
  have e := ls_at ((D h).f n t)
  rw [← hx.f h t] at e
  simp only [sub_zero, sel_one_self] at e
  unfold RIn.lf
  pointwise [k0_pay21, k0_pay15, k0_pay17, k0_pay18, k0_pay19, k0_pay20, k0_pay16, k0_pay14]
  rw [if_neg (not_not.mpr rfl)]
  exact e
theorem b_at (h : Fin 16) (t : Fin 64) : x.b (ix2 h t) = (((D h).b n t : ℝ) : EReal) := by
  have e := lf_at hx
  unfold RIn.lf at e
  unfold RIn.b
  pointwise [k0_pay23, k0_pay2]
  simp only [sel64, e]
  exact sum_ite0 _ _
theorem bl_at (h : Fin 16) : x.bL (ix3 h 0 0) = (((D h).bL n : ℝ) : EReal) := by
  have e := lf_at hx
  unfold RIn.lf at e
  unfold RIn.bL
  pointwise [k0_pay29, k0_pay24]
  simp only [e, sum_coe]
  rfl
theorem lw_at (h : Fin 16) (t : Fin 64) : x.lw (ix2 h t) = (((D h).lw n t : ℝ) : EReal) := by
  have e := lf_at hx
  have eb := b_at hx
  unfold RIn.lf at e
  unfold RIn.b at eb
  unfold RIn.lw
  pointwise [k0_pay26, k0_pay24, k0_pay22]
  simp only [e, sum_coe, eb, hx.ig, ← EReal.coe_sub, ← EReal.coe_add]
  rfl
theorem ak_at (h : Fin 16) : x.ak (ix3 h 0 0) = (((D h).ak n : ℝ) : EReal) := by
  have e := lw_at hx
  unfold RIn.lw at e
  unfold RIn.ak
  pointwise [k0_pay30, k0_pay27]
  simp only [e, ninf]
  exact fold_max _ _ fun a => mx_coe_le
theorem w_at (h : Fin 16) (t : Fin 64) : x.w (ix2 h t) = (((D h).w n t : ℝ) : EReal) := by
  have e := lw_at hx
  have ea := ak_at hx h
  unfold RIn.lw at e
  unfold RIn.ak at ea
  have ea' : k0_pay27 k0_pay2 (k0_pay15 x.f) (k0_pay17 x.f) (k0_pay18 x.f) (k0_pay19 x.f) k0_pay20 x.ig (ix2 h 0) = (((D h).ak n : ℝ) : EReal) := by
    rw [← ea]
    pointwise [k0_pay30]
  unfold RIn.w
  pointwise [k0_pay28]
  simp only [e, ea', ← EReal.coe_sub]
  rfl
theorem dd_at (h : Fin 16) (s t : Fin 64) : x.dd (ix3 h s t) = if t.val ≤ s.val then (((D h).b n s + (D h).y n t : ℝ) : EReal) else ⊥ := by
  have eb := b_at hx
  unfold RIn.b at eb
  simp only [k0_pay2] at eb
  unfold RIn.dd
  pointwise [k0_pay25, k0_pay22, k0_pay2]
  simp only [sel64, eb, hx.ig, ninf, ← EReal.coe_sub, ← EReal.coe_add]
  refine if_congr Iff.rfl (congrArg _ ?_) rfl
  unfold Hd.y
  ring
variable {m : FVec Ideal S16x1x1 .f32} (hm : ∀ h, m (ix3 h 0 0) = (((D h).m n : ℝ) : EReal))
include hm
theorem mt_at (h : Fin 16) (s : Fin 64) : x.mt m (ix3 h s 0) = (((D h).b n s + (D h).mt n s : ℝ) : EReal) := by
  have eb := b_at hx
  have ed := dd_at hx
  unfold RIn.b at eb
  unfold RIn.dd at ed
  unfold RIn.mt
  pointwise [k0_pay34, k0_pay33]
  simp only [ed, eb, hm, ninf, fold_upto, ← EReal.coe_add, max_coe]
  rw [max_add_add_left]
  rfl
theorem gm_at (h : Fin 16) (s : Fin 64) : x.gm m (ix3 h s 0) = (((D h).m n - (D h).mt n s : ℝ) : EReal) := by
  have eb := b_at hx
  have em := mt_at hx hm
  unfold RIn.b at eb
  unfold RIn.mt at em
  unfold RIn.gm
  pointwise [k0_pay35, k0_pay33]
  simp only [em, eb, hm, ← EReal.coe_add, ← EReal.coe_sub]
  refine congrArg _ ?_
  ring
omit hm
variable {s : RSt} (hs : StR s D n)
include hs

theorem next_at : StR (x.next s) D (n + 1) := by
  have hm1 : ∀ h, (x.next s).m (ix3 h 0 0) = (((D h).m (n + 1) : ℝ) : EReal) := by
    intro h
    unfold RIn.next
    pointwise [k0_pay39]
    simp only [hs.m, bl_at hx, ak_at hx, ← EReal.coe_add, max_coe]
    rfl
  have hm1' : ∀ h, k0_pay39 s.m x.bL x.ak (ix3 h 0 0) = (((D h).m (n + 1) : ℝ) : EReal) := hm1
  have hfa : ∀ h, k0_pay40 s.m x.bL x.ak (ix3 h 0 0) = (((D h).fa n : ℝ) : EReal) := by
    intro h
    pointwise [k0_pay40]
    simp only [hs.m, bl_at hx, hm1', ← EReal.coe_add, ← EReal.coe_sub]
    rfl
  have hfb : ∀ h, k0_pay41 s.m x.bL x.ak (ix3 h 0 0) = (((D h).fb n : ℝ) : EReal) := by
    intro h
    pointwise [k0_pay41]
    simp only [ak_at hx, hm1', ← EReal.coe_sub]
    rfl
  refine ⟨hm1, ?_, ?_⟩
  · intro h d e
    unfold RIn.next
    pointwise [k0_pay42, k0_pay37, k0_pay8, k0_pay10, k0_pay11, k0_pay13, k0_pay7]
    simp only [hfa, hfb, hs.C, hx.k, hx.v, hx.ks, hx.vs, w_at hx, ← EReal.coe_mul, sum_coe, b0, ← EReal.coe_add]
    refine congrArg _ ?_
    show _ = (D h).fa n * (D h).S n d e + (D h).fb n * ((D h).ks n * (D h).vs n) * (D h).U n d e
    unfold Hd.U
    ring
  · intro h d
    unfold RIn.next
    pointwise [k0_pay43, k0_pay38, k0_pay10, k0_pay13, k0_pay7]
    simp only [hfa, hfb, hs.n, hx.k, hx.ks, w_at hx, ← EReal.coe_mul, sum_coe, b0, ← EReal.coe_add]
    refine congrArg _ ?_
    show _ = (D h).fa n * (D h).nn n d + (D h).fb n * (D h).ks n * (D h).Wk n d
    unfold Hd.Wk
    ring

omit hx hs in
/-- A quotient whose divisor is at least a positive number. -/
theorem div_max (a b c : ℝ) : Ideal.div (a : EReal) (max (max (b : EReal) (-(b : EReal))) (Ideal.exp (0 - (c : EReal)))) = ((a * (1 / max |b| (Real.exp (0 - c))) : ℝ) : EReal) := by
  rw [abs_coe, ← EReal.coe_zero, ← EReal.coe_sub, Ideal.exp_coe, max_coe, Ideal.div_coe (lt_of_lt_of_le (Real.exp_pos _) (le_max_right _ _)).ne', ← EReal.coe_mul]
omit hx hs in
theorem exp_sel (p : Prop) [Decidable p] (a b : ℝ) : Ideal.exp ((if p then (a : EReal) else ⊥) - (b : EReal)) = ((if p then Real.exp (a - b) else 0 : ℝ) : EReal) := by
  split_ifs
  · rw [← EReal.coe_sub, Ideal.exp_coe]
  · rw [EReal.bot_sub]
    exact exp_ninf

theorem out_at (h : Fin 16) (t : Fin 64) (e : Fin 512) : x.out s (ix3 h t e) = (((D h).out n t e : ℝ) : EReal) := by
  have em := mt_at hx hs.m
  have eg := gm_at hx hs.m
  unfold RIn.out
  pointwise [k0_pay36, k0_pay31, k0_pay32, k0_pay6, k0_pay7, k0_pay8, k0_pay9, k0_pay10, k0_pay11, k0_pay12]
  simp only [em, eg, dd_at hx, hs.C, hs.n, hx.q, hx.k, hx.v, hx.qs, hx.ks, hx.vs, sixteenth, b0, exp_sel, Ideal.exp_coe, ← EReal.coe_mul, sum_coe, ← EReal.coe_add, ← EReal.coe_sub]
  refine (div_max _ _ _).trans (congrArg _ ?_)
  have eP : ∀ i, ((∑ d, (D h).q n t d * (D h).k n i d) * ((D h).qs n * (D h).ks n * (1 / 16)) * if i.val ≤ t.val then Real.exp ((D h).b n t + (D h).y n i - ((D h).b n t + (D h).mt n t)) else 0)
      = (D h).P n t i := by
    intro i
    unfold Hd.P Hd.cr
    split_ifs
    · rw [add_sub_add_left_eq_sub]
    · rw [mul_zero]
  simp only [eP]
  unfold Hd.out Hd.num Hd.den Hd.en Hd.igt
  rw [Finset.sum_congr rfl fun d _ => mul_comm ((D h).q n t d) ((D h).nn n d)]

omit hx hs in
/-- Before every chunk the state is the heads'. -/
theorem st_at {b : Fin 16 → RIn} {D : Fin 16 → Hd} (hb : ∀ n : Fin 16, InR (b n) D n.val) : ∀ n, n ≤ 16 → StR (st b n) D n
  | 0, _ => ⟨fun _ => b0, fun _ _ _ => b0, fun _ _ => b0⟩
  | n + 1, hn => by
    have e : (⟨n % 16, Nat.mod_lt _ (by omega)⟩ : Fin 16) = ⟨n, by omega⟩ := Fin.ext (Nat.mod_eq_of_lt (by omega))
    have := next_at (n := n) (hb ⟨n, by omega⟩) (st_at hb n (by omega))
    show StR ((b ⟨n % 16, _⟩).next (st b n)) D (n + 1)
    rw [e]
    exact this
end Cert.Val.Ref
-- ==== Proof.Val.RefBridge.lean ====
/-
  What the reference leaves is its loop over the chunks.
-/
module
public import proofs.«01_k».proof.Proof.Val.RefStep
import all proofs.«01_k».proof.Proof.Gen.ReferenceIdeal.Frame
import all proofs.«01_k».proof.Proof.Gen.ReferenceIdeal.Skeleton
@[expose] public section
set_option maxRecDepth 65536
set_option maxHeartbeats 8000000
noncomputable section
namespace Cert.Val.Ref
open Idealize.ShloMosaic Cert.ReferenceIdeal Cert.ReferenceIdeal.Gen Idealize.ShloMosaic.Tactic
variable (x0 x1 : Vec Ideal S16x1024x256 .fp8e4m3) (x2 : Vec Ideal S16x1024x512 .fp8e4m3) (x3 x4 x5 : Vec Ideal S16x16 .f32) (x6 x7 : Vec Ideal S16x1024 .f32)

theorem ref8 : out0_8 (F := Ideal) x0 x1 x2 x3 x4 x5 x6 x7 = View.canon (oPieces (blk x0 x1 x2 x3 x4 x5 x6 x7)) := by sl_kernel_rfl
theorem ref9 : out0_9 (F := Ideal) x0 x1 x2 x3 x4 x5 x6 x7 = (st (blk x0 x1 x2 x3 x4 x5 x6 x7) 16).C := by
  refine (View.canon_cons_unit_lit' _ _ _ (by intro a; fin_cases a <;> rfl)).trans ?_
  sl_kernel_rfl
end Cert.Val.Ref
-- ==== Proof.Val.RefOut.lean ====
/-
  What the reference leaves, in the heads' real numbers.
-/
module
public import proofs.«01_k».proof.Proof.Val.Heads
public import proofs.«01_k».proof.Proof.Val.RefVal
public import proofs.«01_k».proof.Proof.Val.RefBridge
@[expose] public section
set_option maxRecDepth 16384
noncomputable section
namespace Cert.Val.Ref
open Idealize.ShloMosaic Cert.ReferenceIdeal Cert.ReferenceIdeal.Gen

theorem inR (A : Arrs) (hA : A.Real) (n : Fin 16) : InR (blk A.q A.k A.v A.qs A.ks A.vs A.ig A.f n) A.hd n.val := by
  have e3 : ∀ {w : ℕ} (h : Fin 16) (t : Fin 64) (d : Fin w) (a : Fin 3),
      ((ix3 h (pos n.val t) d : (⟨3, ![16, 1024, w]⟩ : Shape).Idx) a : ℕ) = (![0, 64 * n.val, 0] : Fin 3 → ℕ) a + ((ix3 h t d : (⟨3, ![16, 64, w]⟩ : Shape).Idx) a : ℕ) := by
    intro w h t d a
    fin_cases a
    · exact (Nat.zero_add _).symm
    · exact pos_val n t
    · exact (Nat.zero_add _).symm
  have e2 : ∀ (h : Fin 16) (t : Fin 64) (a : Fin 2),
      ((ix2 h (pos n.val t) : (⟨2, ![16, 1024]⟩ : Shape).Idx) a : ℕ) = (![0, 64 * n.val] : Fin 2 → ℕ) a + ((ix2 h t : (⟨2, ![16, 64]⟩ : Shape).Idx) a : ℕ) := by
    intro h t a
    fin_cases a
    · exact (Nat.zero_add _).symm
    · exact pos_val n t
  have e1 : ∀ (h : Fin 16) (a : Fin 2),
      ((ix2 h (chk n.val) : (⟨2, ![16, 16]⟩ : Shape).Idx) a : ℕ) = (![0, n.val] : Fin 2 → ℕ) a + ((ix2 h 0 : (⟨2, ![16, 1]⟩ : Shape).Idx) a : ℕ) := by
    intro h a
    fin_cases a
    · exact (Nat.zero_add _).symm
    · exact congrArg Fin.val (chk_val n)
  constructor
  · exact fun h t d => (View.ld_unit_apply_of (Val := Elt Ideal) (e := .fp8e4m3) A.q ![0, 64 * n.val, 0] S16x64x256.size (inQ n) (ix3 h t d) (ix3 h (pos n.val t) d) (e3 h t d)).trans (hA.q _)
  · exact fun h t d => (View.ld_unit_apply_of (Val := Elt Ideal) (e := .fp8e4m3) A.k ![0, 64 * n.val, 0] S16x64x256.size (inQ n) (ix3 h t d) (ix3 h (pos n.val t) d) (e3 h t d)).trans (hA.k _)
  · exact fun h t d => (View.ld_unit_apply_of (Val := Elt Ideal) (e := .fp8e4m3) A.v ![0, 64 * n.val, 0] S16x64x512.size (inV n) (ix3 h t d) (ix3 h (pos n.val t) d) (e3 h t d)).trans (hA.v _)
  · exact fun h => (View.ld_unit_apply_of (Val := Elt Ideal) (e := .f32) A.qs ![0, n.val] S16x1.size (inS n) (ix2 h 0) (ix2 h (chk n.val)) (e1 h)).trans (hA.qs _)
  · exact fun h => (View.ld_unit_apply_of (Val := Elt Ideal) (e := .f32) A.ks ![0, n.val] S16x1.size (inS n) (ix2 h 0) (ix2 h (chk n.val)) (e1 h)).trans (hA.ks _)
  · exact fun h => (View.ld_unit_apply_of (Val := Elt Ideal) (e := .f32) A.vs ![0, n.val] S16x1.size (inS n) (ix2 h 0) (ix2 h (chk n.val)) (e1 h)).trans (hA.vs _)
  · exact fun h t => (View.ld_unit_apply_of (Val := Elt Ideal) (e := .f32) A.ig ![0, 64 * n.val] S16x64.size (inG n) (ix2 h t) (ix2 h (pos n.val t)) (e2 h t)).trans (hA.ig _)
  · exact fun h t => (View.ld_unit_apply_of (Val := Elt Ideal) (e := .f32) A.f ![0, 64 * n.val] S16x64.size (inG n) (ix2 h t) (ix2 h (pos n.val t)) (e2 h t)).trans (hA.f _)

theorem oPieces_mem {b : Fin 16 → RIn} {pc : View.Piece (Elt Ideal) S16x1024x512 .bf16} : pc ∈ oPieces b ↔ ∃ n, oPiece b n = pc := by
  unfold oPieces
  rw [List.mem_map]
  exact ⟨fun ⟨n, _, e⟩ => ⟨n, e⟩, fun ⟨n, e⟩ => ⟨n, by clear e; revert n; decide, e⟩⟩

theorem refC (A : Arrs) (hA : A.Real) : out0_9 (F := Ideal) A.q A.k A.v A.qs A.ks A.vs A.ig A.f = A.C := by
  rw [ref9]
  funext i
  rw [ix3_of i]
  exact (st_at (inR A hA) 16 (le_refl _)).C _ _ _

theorem refH (A : Arrs) (hA : A.Real) : out0_8 (F := Ideal) A.q A.k A.v A.qs A.ks A.vs A.ig A.f = A.h := by
  rw [ref8]
  funext i
  have hi : (i 1).val < 1024 := (i 1).isLt
  refine View.canon_apply_of_pieces A.h (oPieces _) ?_ i ⟨_, oPieces_mem.2 ⟨⟨(i 1).val / 64, by omega⟩, rfl⟩, ?_⟩
  · intro pc hpc x
    obtain ⟨n, rfl⟩ := oPieces_mem.1 hpc
    have hx : (x 1).val < 64 := (x 1).isLt
    have idx : ∀ a : Fin 3, ((oPiece (blk A.q A.k A.v A.qs A.ks A.vs A.ig A.f) n).1.idx x a).val = (![0, 64 * n.val, 0] : Fin 3 → ℕ) a + (x a).val := Rect.idx_unit_val (s := S16x1024x512) ![0, 64 * n.val, 0] S16x64x512.size (inV n) x
    have f0 : ((oPiece (blk A.q A.k A.v A.qs A.ks A.vs A.ig A.f) n).1.idx x 0).val = 0 + (x 0).val := idx 0
    have e0 : (oPiece (blk A.q A.k A.v A.qs A.ks A.vs A.ig A.f) n).1.idx x 0 = x 0 := Fin.ext (f0.trans (Nat.zero_add _))
    have e1 : ((oPiece (blk A.q A.k A.v A.qs A.ks A.vs A.ig A.f) n).1.idx x 1).val = 64 * n.val + (x 1).val := idx 1
    have f2 : ((oPiece (blk A.q A.k A.v A.qs A.ks A.vs A.ig A.f) n).1.idx x 2).val = 0 + (x 2).val := idx 2
    have e2 : (oPiece (blk A.q A.k A.v A.qs A.ks A.vs A.ig A.f) n).1.idx x 2 = x 2 := Fin.ext (f2.trans (Nat.zero_add _))
    have d : ((oPiece (blk A.q A.k A.v A.qs A.ks A.vs A.ig A.f) n).1.idx x 1).val / 64 = n.val := by rw [e1]; omega
    have m : (⟨((oPiece (blk A.q A.k A.v A.qs A.ks A.vs A.ig A.f) n).1.idx x 1).val % 64, Nat.mod_lt _ (by omega)⟩ : Fin 64) = x 1 := Fin.ext (by show ((oPiece (blk A.q A.k A.v A.qs A.ks A.vs A.ig A.f) n).1.idx x 1).val % 64 = _; rw [e1]; omega)
    show _ = A.h ((oPiece (blk A.q A.k A.v A.qs A.ks A.vs A.ig A.f) n).1.idx x)
    unfold Arrs.h
    rw [d, m, e2, e0]
    refine (congrArg (oPiece (blk A.q A.k A.v A.qs A.ks A.vs A.ig A.f) n).2 (ix3_of x)).trans ?_
    exact out_at (inR A hA n) (st_at (inR A hA) n.val (by omega)) _ _ _
  · refine (Rect.mem_set_unit (inb := inV ⟨(i 1).val / 64, by omega⟩)).2 ?_
    intro a
    fin_cases a
    · exact ⟨Nat.zero_le _, (i 0).isLt.trans_eq (Nat.zero_add 16).symm⟩
    · exact ⟨by show 64 * ((i 1).val / 64) ≤ (i 1).val; omega, by show (i 1).val < 64 * ((i 1).val / 64) + 64; omega⟩
    · exact ⟨Nat.zero_le _, (i 2).isLt.trans_eq (Nat.zero_add 512).symm⟩

end Cert.Val.Ref
-- ==== Proof.Val.PreVal.lean ====
/-
  The precondition: every element of the eight arguments is a real number.
-/
module
public import proofs.«01_k».proof.Proof.Val.HostVal
public import proofs.«01_k».proof.Defs
public import Idealize.ShloMosaic.Lib.ReduceAll
@[expose] public section
set_option maxRecDepth 16384
noncomputable section
namespace Cert.Val
open Idealize.ShloMosaic Idealize.ShloMosaic.TcCoe

theorem sub_self_zero {x : EReal} (h : x - x = 0) : x = ((x.toReal : ℝ) : EReal) := by
  induction x with
  | bot => exact absurd h (by simp)
  | coe r => rfl
  | top => exact absurd h (by simp)

instance : Subsingleton (⟨0, ![]⟩ : Shape).Idx := ⟨fun _ _ => funext fun a => a.elim0⟩

theorem isR_of {s : Shape} {axes : List (Fin s.rank)} (x : FVec Ideal s .f32) (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .oeq (subf x x) (broadcastInDim s ![] hb (constant ⟨0, ![]⟩ .f32 0x00000000#32))) (constantI ⟨0, ![]⟩ 1 1#1) hr hu = fun _ => 1#1) : IsR x := by
  intro i
  have h := Host.reduce_andi_all _ _ hr hu (Shape.Idx.first hu) (congrFun e _) i
  refine sub_self_zero ?_
  have h2 : FloatOps.cmpf (F := Ideal) .oeq (x i - x i) (FloatOps.ofBits .f32 0x00000000#32) = 1#1 := h
  have h3 : Ideal.cmp .oeq (x i - x i) (FloatOps.ofBits (F := Ideal) .f32 0x00000000#32) = 1#1 := h2
  rw [show (FloatOps.ofBits (F := Ideal) .f32 0x00000000#32 : EReal) = ((0 : ℝ) : EReal) from by show Ideal.ofBits .f32 0#32 = _; simp [Ideal.ofBits, Ideal.ieee]] at h3
  by_contra hn
  simp [Ideal.cmp, hn] at h3

instance factsPre : Cert.Pre_finite.Facts where
  bcast_S_S2x8x1024x256 := by decide
  reducesTo_S2x8x1024x256_S_d0_1_2_3 := by decide
  h_S_ := by decide
  bcast_S_S2x8x1024x512 := by decide
  reducesTo_S2x8x1024x512_S_d0_1_2_3 := by decide
  bcast_S_S2x8x16 := by decide
  reducesTo_S2x8x16_S_d0_1_2 := by decide
  bcast_S_S2x8x1024 := by decide
  reducesTo_S2x8x1024_S_d0_1_2 := by decide

open Cert.KernelIdeal in
theorem realK (m : (ℓ : Loc nD τ sig) → Buf (Elt Ideal) ℓ) (hm : Cert.Pre_KernelIdeal_finite m) (c : Dev nD) : (arrsK m c).Real := by
  have h := hm c
  unfold Cert.Pre_finite.fn Cert.Pre_finite.fn_part1 at h
  dsimp only at h
  obtain ⟨h0, h1, h2, h3, h4, h5, h6, h7⟩ := h
  have r0 := isR_of _ _ _ _ h0
  have r1 := isR_of _ _ _ _ h1
  have r2 := isR_of _ _ _ _ h2
  have r3 := isR_of _ _ _ _ h3
  have r4 := isR_of _ _ _ _ h4
  have r5 := isR_of _ _ _ _ h5
  have r6 := isR_of _ _ _ _ h6
  have r7 := isR_of _ _ _ _ h7
  exact ⟨fun i => r0 _, fun i => r1 _, fun i => r2 _, fun i => r3 _, fun i => r4 _, fun i => r5 _, fun i => r6 _, fun i => r7 _⟩
end Cert.Val
-- ==== Proof.Val.Final.lean ====
/-
  Both programs leave the same two results: the head's outputs and the last states, of the arrays they are given.
-/
module
public import proofs.«01_k».proof.Proof.Val.KerOut
public import proofs.«01_k».proof.Proof.Val.RefOut
public import proofs.«01_k».proof.Proof.Val.PreVal
public import proofs.«01_k».proof.Proof.KI.Value
public import proofs.«01_k».proof.Proof.Gen.ReferenceIdeal.Value
@[expose] public section
set_option maxRecDepth 65536
noncomputable section
namespace Cert.Val
open Idealize.ShloMosaic Idealize.ShloMosaic.TcCoe Idealize.SL.Sem

section
open Cert.KernelIdeal Cert.KernelIdeal.Gen Cert.KernelIdeal.Value
variable (m : (ℓ : Loc nD τ sig) → Buf (Elt Ideal) ℓ) (c : Dev nD) (hA : (arrsK m c).Real)
include hA

theorem kerH : G8 (F := Ideal) m c = (arrsK m c).h := by
  refine funext fun (i : S16x1024x512.Idx) => ?_
  have h0 : (i 0).val < 16 := (i 0).isLt
  have h1 : (i 1).val < 1024 := (i 1).isLt
  have h2 : (i 2).val < 512 := (i 2).isLt
  have e : pt8Of i = (i 0).val := by
    show 1 * ((i 0).val / 1 - 0) + 1 * ((i 1).val / 1024 - 0) + 1 * ((i 2).val / 512 - 0) = _
    omega
  have hN : pt8Of i < cfg0.N := by rw [e]; exact lt_of_lt_of_eq h0 N_0.symm
  unfold G8
  rw [dif_pos hN, ← outsAt0_sweep m c (pt8Of i) hN]
  have hl : loc8Of i = ix3 0 (i 1) (i 2) := by
    funext a
    fin_cases a
    · exact Fin.ext (Nat.mod_one _)
    · exact Fin.ext (Nat.mod_eq_of_lt h1)
    · exact Fin.ext (Nat.mod_eq_of_lt h2)
  refine (congrArg (outsAt0 m c (pt8Of i) hN).1 hl).trans (((ok_at m c hA _ hN).out (i 1) (i 2)).trans ?_)
  have hh : hdOf ⟨pt8Of i, hN⟩ = i 0 := Fin.ext e
  rw [hh]
  exact congrArg (arrsK m c).h (ix3_of i).symm

theorem kerC : G9 (F := Ideal) m c = (arrsK m c).C := by
  refine funext fun (i : S16x256x512.Idx) => ?_
  have h0 : (i 0).val < 16 := (i 0).isLt
  have h1 : (i 1).val < 256 := (i 1).isLt
  have h2 : (i 2).val < 512 := (i 2).isLt
  have e : pt9Of i = (i 0).val := by
    show 1 * ((i 0).val / 1 - 0) + 1 * ((i 1).val / 256 - 0) + 1 * ((i 2).val / 512 - 0) = _
    omega
  have hN : pt9Of i < cfg0.N := by rw [e]; exact lt_of_lt_of_eq h0 N_0.symm
  unfold G9
  rw [dif_pos hN, ← outsAt0_sweep m c (pt9Of i) hN]
  have hl : loc9Of i = ix3 0 (i 1) (i 2) := by
    funext a
    fin_cases a
    · exact Fin.ext (Nat.mod_one _)
    · exact Fin.ext (Nat.mod_eq_of_lt h1)
    · exact Fin.ext (Nat.mod_eq_of_lt h2)
  refine (congrArg (outsAt0 m c (pt9Of i) hN).2.1 hl).trans (((ok_at m c hA _ hN).last (i 1) (i 2)).trans ?_)
  have hh : hdOf ⟨pt9Of i, hN⟩ = i 0 := Fin.ext e
  rw [hh]
  exact congrArg (arrsK m c).C (ix3_of i).symm
end

section
open Cert.ReferenceIdeal Cert.ReferenceIdeal.Gen Cert.ReferenceIdeal.Value
variable (m : (ℓ : Loc nD τ sig) → Buf (Elt Ideal) ℓ) (c : Dev nD) (hA : (arrsR m c).Real)

theorem idxR : ∀ t : Fin cfg0.N, (win0_8.index t 0 = 0 ∧ win0_8.index t 1 = 0 ∧ win0_8.index t 2 = 0) ∧ (win0_9.index t 0 = 0 ∧ win0_9.index t 1 = 0 ∧ win0_9.index t 2 = 0) :=
  (by decide +kernel : ∀ t : Fin grid0.N, _)
theorem flR : ∀ t : Fin cfg0.N, (cfg0.win 8).flush t = true ∧ (cfg0.win 9).flush t = true :=
  (by decide +kernel : ∀ t : Fin grid0.N, (cfg0.win 8).flush t = true ∧ (cfg0.win 9).flush t = true)

theorem readR8 (G : S16x1024x512.Idx → EReal) (t : Fin cfg0.N) : ((cfg0.win 8).blk t).view.read (Elt Ideal) (G : Buf (Elt Ideal) ((c : Thread nD τ).loc main_v11_0)) = (cfg0.win 8).cut (grid0.coords t) G := by
  obtain ⟨h0, h1, h2⟩ := (idxR t).1
  funext y
  refine congrArg G (funext fun a => Fin.ext ?_)
  match a with
  | ⟨0, _⟩ => show win0_8.index t 0 * 16 + 1 * (y 0).val = (y 0).val; rw [h0]; omega
  | ⟨1, _⟩ => show win0_8.index t 1 * 1024 + 1 * (y 1).val = (y 1).val; rw [h1]; omega
  | ⟨2, _⟩ => show win0_8.index t 2 * 512 + 1 * (y 2).val = (y 2).val; rw [h2]; omega
theorem readR9 (G : S16x256x512.Idx → EReal) (t : Fin cfg0.N) : ((cfg0.win 9).blk t).view.read (Elt Ideal) (G : Buf (Elt Ideal) ((c : Thread nD τ).loc main_v11_1)) = (cfg0.win 9).cut (grid0.coords t) G := by
  obtain ⟨h0, h1, h2⟩ := (idxR t).2
  funext y
  refine congrArg G (funext fun a => Fin.ext ?_)
  match a with
  | ⟨0, _⟩ => show win0_9.index t 0 * 16 + 1 * (y 0).val = (y 0).val; rw [h0]; omega
  | ⟨1, _⟩ => show win0_9.index t 1 * 256 + 1 * (y 1).val = (y 1).val; rw [h1]; omega
  | ⟨2, _⟩ => show win0_9.index t 2 * 512 + 1 * (y 2).val = (y 2).val; rw [h2]; omega

theorem mem8 (t : Fin cfg0.N) (i : S16x1024x512.Idx) : i ∈ ((cfg0.win 8).blk t).view.set := by
  show i ∈ ((View.whole main_v11_0).slice (win0_8.rect t)).set
  rw [View.set_slice_whole, Rect.mem_set_unit]
  obtain ⟨h0, h1, h2⟩ := (idxR t).1
  have b0 : (i 0).val < 16 := (i 0).isLt
  have b1 : (i 1).val < 1024 := (i 1).isLt
  have b2 : (i 2).val < 512 := (i 2).isLt
  intro a
  match a with
  | ⟨0, _⟩ => show win0_8.index t 0 * 16 ≤ (i 0).val ∧ (i 0).val < win0_8.index t 0 * 16 + 16; omega
  | ⟨1, _⟩ => show win0_8.index t 1 * 1024 ≤ (i 1).val ∧ (i 1).val < win0_8.index t 1 * 1024 + 1024; omega
  | ⟨2, _⟩ => show win0_8.index t 2 * 512 ≤ (i 2).val ∧ (i 2).val < win0_8.index t 2 * 512 + 512; omega
theorem mem9 (t : Fin cfg0.N) (i : S16x256x512.Idx) : i ∈ ((cfg0.win 9).blk t).view.set := by
  show i ∈ ((View.whole main_v11_1).slice (win0_9.rect t)).set
  rw [View.set_slice_whole, Rect.mem_set_unit]
  obtain ⟨h0, h1, h2⟩ := (idxR t).2
  have b0 : (i 0).val < 16 := (i 0).isLt
  have b1 : (i 1).val < 256 := (i 1).isLt
  have b2 : (i 2).val < 512 := (i 2).isLt
  intro a
  match a with
  | ⟨0, _⟩ => show win0_9.index t 0 * 16 ≤ (i 0).val ∧ (i 0).val < win0_9.index t 0 * 16 + 16; omega
  | ⟨1, _⟩ => show win0_9.index t 1 * 256 ≤ (i 1).val ∧ (i 1).val < win0_9.index t 1 * 256 + 256; omega
  | ⟨2, _⟩ => show win0_9.index t 2 * 512 ≤ (i 2).val ∧ (i 2).val < win0_9.index t 2 * 512 + 512; omega

include hA in
theorem outR8 (t : Fin cfg0.N) : (dats (F := Ideal) m 0 c).flushed 8 t = (cfg0.win 8).cut (grid0.coords t) ((arrsR m c).h) := by
  rw [flushed8, blkR0, blkR1, blkR2, blkR3, blkR4, blkR5, blkR6, blkR7, Ref.refH _ hA]
include hA in
theorem outR9 (t : Fin cfg0.N) : (dats (F := Ideal) m 0 c).flushed 9 t = (cfg0.win 9).cut (grid0.coords t) ((arrsR m c).C) := by
  rw [flushed9, blkR0, blkR1, blkR2, blkR3, blkR4, blkR5, blkR6, blkR7, Ref.refC _ hA]

include hA in
theorem refHarr : (dats (F := Ideal) m 0 c).arrAt 8 cfg0.N = (arrsR m c).h :=
  (dats m 0 c).arrAt_eq_of_cover 8 _ (fun t _ => (outR8 m c hA t).trans (readR8 (arrsR m c).h t).symm) (fun i => ⟨⟨0, by decide⟩, (flR _).1, mem8 _ i⟩)
include hA in
theorem refCarr : (dats (F := Ideal) m 0 c).arrAt 9 cfg0.N = (arrsR m c).C :=
  (dats m 0 c).arrAt_eq_of_cover 9 _ (fun t _ => (outR9 m c hA t).trans (readR9 (arrsR m c).C t).symm) (fun i => ⟨⟨0, by decide⟩, (flR _).2, mem9 _ i⟩)
end

/-- The kernel and the reference leave the same outputs and the same last states. -/
theorem algebraic : Cert.algebraic_KernelIdeal_ReferenceIdeal_pre_finite := by
  intro m g m' g' hm he
  have hK : ∀ c, (arrsK m c).Real := realK m hm
  have hE : ∀ c, arrsR m' c = arrsK m c := fun c => by
    obtain ⟨h0, h1, h2, h3, h4, h5, h6, h7⟩ := he c
    unfold arrsR arrsK
    rw [h0, h1, h2, h3, h4, h5, h6, h7]
  have hR : ∀ c, (arrsR m' c).Real := fun c => (hE c).symm ▸ hK c
  refine ⟨fun c => (arrsK m c).h, fun c => (arrsK m c).C, ?_, ?_⟩
  · refine (θ_run Cert.KernelIdeal.defs _ _).mono (fun r h c => ?_) (Cert.KernelIdeal.Value.run (F := Ideal) m g)
    obtain ⟨h8, h9, hs⟩ := h c
    exact ⟨h8.trans (kerH m c (hK c)), h9.trans (kerC m c (hK c)), hs⟩
  · refine (θ_run Cert.ReferenceIdeal.defs _ _).mono (fun r h c => ?_) (Cert.ReferenceIdeal.Value.run_blocks (F := Ideal) m' g')
    obtain ⟨h8, h9, hs⟩ := h c
    exact ⟨h8.trans ((refHarr m' c (hR c)).trans (congrArg Arrs.h (hE c))), h9.trans ((refCarr m' c (hR c)).trans (congrArg Arrs.C (hE c))), hs⟩

end Cert.Val
-- ==== Proof.lean ====
/-
  The proof of the claim: the frames of the kernel at both readings and of the reference, and that the idealized program
  preserves the printed one.
-/
module

public import proofs.«01_k».proof.Defs
public import proofs.«01_k».proof.Proof.Gen.Kernel
public import proofs.«01_k».proof.Proof.Gen.KernelIdeal
public import proofs.«01_k».proof.Proof.KB.Frame
public import proofs.«01_k».proof.Proof.KI.Value
public import proofs.«01_k».proof.Proof.Gen.ReferenceIdeal.Frame
public import proofs.«01_k».proof.Proof.Gen.ReferenceIdeal.Value
public import proofs.«01_k».proof.Proof.Val.Final
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Val.factsPre,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, Cert.Val.algebraic⟩

end Cert.Proof

end
